-- ==== Defs.lean ====
def Pre_Kernel [hPre_dest_in_rows : Cert.Pre_dest_in_rows.Facts] (m : (ℓ : Loc Cert.Kernel.nD Cert.Kernel.τ Cert.Kernel.sig) → Buf (Elt Bits) ℓ) : Prop :=
  ∀ c : Dev Cert.Kernel.nD,
    (Cert.Pre_dest_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_dest_in_rows : Cert.Pre_dest_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_dest_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference (m : (ℓ : Loc Cert.Reference.nD Cert.Reference.τ Cert.Reference.sig) → Buf (Elt Bits) ℓ) : Prop :=
  True

def Pre_Reference_dest_in_rows [hPre_dest_in_rows : Cert.Pre_dest_in_rows.Facts] (m : (ℓ : Loc Cert.Reference.nD Cert.Reference.τ Cert.Reference.sig) → Buf (Elt Bits) ℓ) : Prop :=
  ∀ c : Dev Cert.Reference.nD,
    (Cert.Pre_dest_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dest_in_rows [hPre_dest_in_rows : Cert.Pre_dest_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dest_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_dest_in_rows : Cert.Pre_dest_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_dest_in_rows : Cert.Pre_dest_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_dest_in_rows [hReference : Cert.Reference.Facts] [hPre_dest_in_rows : Cert.Pre_dest_in_rows.Facts] : Prop :=
  ∀ (m : (ℓ : Loc Cert.Reference.nD Cert.Reference.τ Cert.Reference.sig) → Buf (Elt Bits) ℓ) (g : Dev Cert.Reference.nD → PrngReg), Pre_Reference_dest_in_rows m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_dest_in_rows [hReferenceIdeal : Cert.ReferenceIdeal.Facts] [hPre_dest_in_rows : Cert.Pre_dest_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dest_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_dest_in_rows : Cert.Pre_dest_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_dest_in_rows : Cert.Pre_dest_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v11)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v11) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)) (v2 : (c : Dev Cert.Kernel2Ideal.nD) → Buf (Elt Ideal) ((c.tc : Thread Cert.Kernel2Ideal.nD Cert.Kernel2Ideal.τ).loc Cert.Kernel2Ideal.main_v13_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_v13_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_v64) = v1 c
          ∧ r.2.mem ((c.tc : Thread Cert.Reference2Ideal.nD Cert.Reference2Ideal.τ).loc Cert.Reference2Ideal.main_v62) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.bf16_pair.PackStatement Cert.Kernel3Ideal.S1024x256
  ∧ IdealRules.bf16_pair.Statement Cert.Kernel3Ideal.S1x2048x256 Cert.Kernel3Ideal.S1x1024x256

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_v57) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)) (v2 : (c : Dev Cert.Kernel4Ideal.nD) → Buf (Elt Ideal) ((c.tc : Thread Cert.Kernel4Ideal.nD Cert.Kernel4Ideal.τ).loc Cert.Kernel4Ideal.main_v13_2)) (v3 : (c : Dev Cert.Kernel4Ideal.nD) → Buf (Elt Ideal) ((c.tc : Thread Cert.Kernel4Ideal.nD Cert.Kernel4Ideal.τ).loc Cert.Kernel4Ideal.main_v13_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_v13_2) = v2 c
          ∧ r.2.mem ((c.tc : Thread Cert.Kernel4Ideal.nD Cert.Kernel4Ideal.τ).loc Cert.Kernel4Ideal.main_v13_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_v91) = v1 c
          ∧ r.2.mem ((c.tc : Thread Cert.Reference4Ideal.nD Cert.Reference4Ideal.τ).loc Cert.Reference4Ideal.main_v92) = v2 c
          ∧ r.2.mem ((c.tc : Thread Cert.Reference4Ideal.nD Cert.Reference4Ideal.τ).loc Cert.Reference4Ideal.main_v90) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReference : Cert.Reference.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_dest_in_rows : Cert.Pre_dest_in_rows.Facts),
    quiescent_Kernel (hKernel := hKernel) (hPre_dest_in_rows := hPre_dest_in_rows)
    ∧ quiescent_KernelIdeal (hKernelIdeal := hKernelIdeal) (hPre_dest_in_rows := hPre_dest_in_rows)
    ∧ quiescent_Reference (hReference := hReference)
    ∧ quiescent_Reference_pre_dest_in_rows (hReference := hReference) (hPre_dest_in_rows := hPre_dest_in_rows)
    ∧ quiescent_ReferenceIdeal (hReferenceIdeal := hReferenceIdeal)
    ∧ quiescent_ReferenceIdeal_pre_dest_in_rows (hReferenceIdeal := hReferenceIdeal) (hPre_dest_in_rows := hPre_dest_in_rows)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_dest_in_rows := hPre_dest_in_rows)
    ∧ bitexact_Kernel_Reference (hKernel := hKernel) (hReference := hReference) (hPre_dest_in_rows := hPre_dest_in_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_dest_in_rows.lean ====
abbrev S2x98304x256 : Shape := ⟨3, ![2, 98304, 256]⟩
abbrev S65536 : Shape := ⟨1, ![65536]⟩
abbrev S_ : Shape := ⟨0, ![]⟩

class Facts : Prop where
  bcast_S_S65536 : S_.BroadcastsInDim S65536 (![] : Fin 0 → Fin S65536.rank)

variable [Facts]

def fn {F : FTy → Type} [FloatOps F] (main_arg0 : IVec S2x98304x256 32) (main_arg1 : IVec S65536 32) : IVec S65536 1 :=
  let main_c : IVec S_ 32 := constantI S_ 32 0#32
  let main_v0 : IVec S65536 32 := broadcastInDim S65536 ![] bcast_S_S65536 main_c
  let main_v1 : IVec S65536 1 := cmpi .sge main_arg1 main_v0
  let main_c_0 : IVec S_ 32 := constantI S_ 32 98304#32
  let main_v2 : IVec S65536 32 := broadcastInDim S65536 ![] bcast_S_S65536 main_c_0
  let main_v3 : IVec S65536 1 := cmpi .slt main_arg1 main_v2
  let main_v4 : IVec S65536 1 := andi main_v1 main_v3
  main_v4
-- ==== Kernel.lean ====
abbrev S2x98304x256 : Shape := ⟨3, ![2, 98304, 256]⟩
abbrev S65536 : Shape := ⟨1, ![65536]⟩
abbrev S196608x256 : Shape := ⟨2, ![196608, 256]⟩
abbrev S2 : Shape := ⟨1, ![2]⟩
abbrev S2x1 : Shape := ⟨2, ![2, 1]⟩
abbrev S_ : Shape := ⟨0, ![]⟩
abbrev S1x65536 : Shape := ⟨2, ![1, 65536]⟩
abbrev S2x65536 : Shape := ⟨2, ![2, 65536]⟩
abbrev S1x131072 : Shape := ⟨2, ![1, 131072]⟩
abbrev S131072x256 : Shape := ⟨2, ![131072, 256]⟩
abbrev S2x1x128 : Shape := ⟨3, ![2, 1, 128]⟩
abbrev S2x128x256 : Shape := ⟨3, ![2, 128, 256]⟩
abbrev S1x1x128 : Shape := ⟨3, ![1, 1, 128]⟩
abbrev S1x128 : Shape := ⟨2, ![1, 128]⟩
abbrev S1 : Shape := ⟨1, ![1]⟩
abbrev S1x128x256 : Shape := ⟨3, ![1, 128, 256]⟩
abbrev S128x256 : Shape := ⟨2, ![128, 256]⟩
abbrev S128x128 : Shape := ⟨2, ![128, 128]⟩
abbrev S128 : Shape := ⟨1, ![128]⟩
abbrev S196608x128 : Shape := ⟨2, ![196608, 128]⟩
abbrev S2x65536x256 : Shape := ⟨3, ![2, 65536, 256]⟩

abbrev nBuf : Table → Nat
  | .hbm => 15
  | .local .scVector .vmem => 2
  | _ => 0

abbrev bufTy : (tb : Table) → Fin (nBuf tb) → BufTy
  | .hbm, ⟨0, _⟩ => ⟨S2x98304x256, .i32⟩
  | .hbm, ⟨1, _⟩ => ⟨S65536, .i32⟩
  | .hbm, ⟨2, _⟩ => ⟨S196608x256, .i32⟩
  | .hbm, ⟨3, _⟩ => ⟨S2, .i32⟩
  | .hbm, ⟨4, _⟩ => ⟨S2x1, .i32⟩
  | .hbm, ⟨5, _⟩ => ⟨S_, .i32⟩
  | .hbm, ⟨6, _⟩ => ⟨S2x1, .i32⟩
  | .hbm, ⟨7, _⟩ => ⟨S2x1, .i32⟩
  | .hbm, ⟨8, _⟩ => ⟨S1x65536, .i32⟩
  | .hbm, ⟨9, _⟩ => ⟨S2x65536, .i32⟩
  | .hbm, ⟨10, _⟩ => ⟨S2x65536, .i32⟩
  | .hbm, ⟨11, _⟩ => ⟨S2x65536, .i32⟩
  | .hbm, ⟨12, _⟩ => ⟨S1x131072, .i32⟩
  | .hbm, ⟨13, _⟩ => ⟨S131072x256, .i32⟩
  | .hbm, ⟨14, _⟩ => ⟨S2x65536x256, .i32⟩
  | .local .scVector .vmem, ⟨0, _⟩ => ⟨S2x1x128, .i32⟩
  | .local .scVector .vmem, ⟨1, _⟩ => ⟨S2x128x256, .i32⟩
  | _, _ => ⟨S2x98304x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v0_scv : Ref sig .scVector := ⟨.hbm, 2, rfl⟩
abbrev main_v9_scv : Ref sig .scVector := ⟨.hbm, 12, rfl⟩
abbrev main_v10_scv : Ref sig .scVector := ⟨.hbm, 13, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c32_i32_27_r0 : BitVec 32 := 32#32
  let v32_r0 : BitVec 32 := Scalar.addi c0_i32_26_r0 c32_i32_27_r0
  let c1_i32_28_r0 : BitVec 32 := 1#32
  ⟨c0_i32_26_r0, v32_r0, c1_i32_28_r0⟩
def k0_off4 (arg6_r0 : BitVec 32) : Fin 3 → Nat :=
  let c2_i32_100_r0 : BitVec 32 := 2#32
  let v144_r0 : BitVec 32 := Scalar.remui arg6_r0 c2_i32_100_r0
  let c0_i32_102_r0 : BitVec 32 := 0#32
  let c0_i32_103_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_68_r0 : BitVec 32 := 31#32
  let v83_r0 : BitVec 1 := Scalar.cmpi .sge arg5_r0 c31_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_104_r0 : BitVec 32 := 0#32
  let c128_i32_101_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v76_r0 : BitVec 32 := Scalar.addi v75_r0 v4
  let v145_r0 : BitVec 32 := Scalar.muli c128_i32_101_r0 v76_r0
  ![0, v145_r0.toNat]
def k0_off6 (arg6_r0 : BitVec 32) : Fin 1 → Nat :=
  let c2_i32_100_r0 : BitVec 32 := 2#32
  let v144_r0 : BitVec 32 := Scalar.remui arg6_r0 c2_i32_100_r0
  ![v144_r0.toNat]
def k0_off7 (arg7_r0 : BitVec 32) : Fin 3 → Nat :=
  let c2_i32_101_r0 : BitVec 32 := 2#32
  let v145_r0 : BitVec 32 := Scalar.remui arg7_r0 c2_i32_101_r0
  let c0_i32_102_r0 : BitVec 32 := 0#32
  let c0_i32_103_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_104_r0 : BitVec 32 := 0#32
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v144_r0 : BitVec 32 := Scalar.muli c128_i32_100_r0 v66_r0
  ![0, v144_r0.toNat]
def k0_off9 (arg7_r0 : BitVec 32) : Fin 1 → Nat :=
  let c2_i32_101_r0 : BitVec 32 := 2#32
  let v145_r0 : BitVec 32 := Scalar.remui arg7_r0 c2_i32_101_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_100_r1 : BitVec 32 := 0#32
  let c0_i32_101_r1 : BitVec 32 := 0#32
  ![v109_r0.toNat, 0, 0]

def k0_chk2 (arg8_r0 : BitVec 32) : Prop :=
  (∀ a, (k0_off10 arg8_r0) a + S1x128x256.size a ≤ S2x128x256.size a)
theorem k0_off10_inb : ∀ (arg8_r0 : BitVec 32) (k0_hw2 : k0_chk2 arg8_r0), ∀ a, (k0_off10 arg8_r0) a + S1x128x256.size a ≤ S2x128x256.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_104_r1 : BitVec 32 := 0#32
  let c0_i32_105_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_100_r0 : BitVec 32 := 2#32
  let v144_r0 : BitVec 32 := Scalar.remui arg8_r0 c2_i32_100_r0
  let c0_i32_102_r0 : BitVec 32 := 0#32
  let c0_i32_103_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_55_r0 : BitVec 32 := 31#32
  let v65_r0 : BitVec 1 := Scalar.cmpi .eq arg5_r0 c31_i32_55_r0
  let v116_r0 : BitVec 1 := Scalar.ori v115_r0 v65_r0
  let v117_r0 : BitVec 32 := Scalar.extui v116_r0
  let c0_i32_85_r0 : BitVec 32 := 0#32
  let v118_r0 : BitVec 1 := Scalar.cmpi .ne v117_r0 c0_i32_85_r0
  v118_r0

def k0_off13 (i : grid0.Coords) (arg10_r0 : BitVec 32) : Fin 2 → Nat :=
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v145_r0 : BitVec 32 := Scalar.muli c128_i32_101_r0 v66_r0
  let c0_i32_104_r0 : BitVec 32 := 0#32
  ![v145_r0.toNat, 0]
def k0_off14 (arg8_r0 : BitVec 32) : Fin 1 → Nat :=
  let c2_i32_100_r0 : BitVec 32 := 2#32
  let v144_r0 : BitVec 32 := Scalar.remui arg8_r0 c2_i32_100_r0
  ![v144_r0.toNat]
def k0_off15 (arg9_r0 : BitVec 32) : Fin 3 → Nat :=
  let c2_i32_100_r0 : BitVec 32 := 2#32
  let v144_r0 : BitVec 32 := Scalar.remui arg9_r0 c2_i32_100_r0
  let c0_i32_102_r0 : BitVec 32 := 0#32
  let c0_i32_103_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_91_r0 : BitVec 1 := 1#1
  let v129_r0 : BitVec 1 := Scalar.xori v64_r0 true_91_r0
  let v130_r0 : BitVec 1 := Scalar.andi v128_r0 v129_r0
  let v131_r0 : BitVec 32 := Scalar.extui v130_r0
  let c0_i32_92_r0 : BitVec 32 := 0#32
  let v132_r0 : BitVec 1 := Scalar.cmpi .ne v131_r0 c0_i32_92_r0
  v132_r0

def k0_off16 (i : grid0.Coords) (arg10_r0 : BitVec 32) : Fin 2 → Nat :=
  let c128_i32_101_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v71_r0 : BitVec 32 := Scalar.addi v70_r0 v4
  let v145_r0 : BitVec 32 := Scalar.muli c128_i32_101_r0 v71_r0
  let c0_i32_104_r0 : BitVec 32 := 0#32
  ![v145_r0.toNat, 0]
def k0_off17 (arg9_r0 : BitVec 32) : Fin 1 → Nat :=
  let c2_i32_100_r0 : BitVec 32 := 2#32
  let v144_r0 : BitVec 32 := Scalar.remui arg9_r0 c2_i32_100_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x131072.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x131072.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x256.size a ≤ S2x128x256.size a) ∧
  (∀ (k0_h5 : k0_cond5 i k0_t1 arg10_r0 = 1#1), ∀ a, (k0_off13 i arg10_r0) a + S128x256.size a ≤ S131072x256.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x256.size a ≤ S2x128x256.size a) ∧
  (∀ (k0_h7 : k0_cond7 i k0_t1 arg10_r0 = 1#1), ∀ a, (k0_off16 i arg10_r0) a + S128x256.size a ≤ S131072x256.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x131072.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x131072.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x256.size a ≤ S2x128x256.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x256.size a ≤ S131072x256.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x256.size a ≤ S2x128x256.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x256.size a ≤ S131072x256.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c31_i32_33_r0 : BitVec 32 := 31#32
  let v37_r0 : BitVec 32 := Scalar.select v36_r0 c31_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x256.size a ≤ S131072x256.size a)
theorem k0_off19_inb : ∀ (i : grid0.Coords) (v33_4_r0 : BitVec 32) (k0_hw5 : k0_chk5 i v33_4_r0), ∀ a, (k0_off19 i v33_4_r0) a + S128x256.size a ≤ S131072x256.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x256.size a ≤ S2x128x256.size a) ∧
  (∀ a, (k0_off20 v33_3_r0) a + S1.size a ≤ S2.size a) ∧
  (∀ a, (k0_off21 v33_3_r0) a + S1x128x256.size a ≤ S2x128x256.size a)
theorem k0_off18_inb : ∀ (v33_3_r0 : BitVec 32) (k0_hw4 : k0_chk4 v33_3_r0), ∀ a, (k0_off18 v33_3_r0) a + S1x128x256.size a ≤ S2x128x256.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x256.size a ≤ S2x128x256.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S2x98304x256 : Shape := ⟨3, ![2, 98304, 256]⟩
abbrev S65536 : Shape := ⟨1, ![65536]⟩
abbrev S_ : Shape := ⟨0, ![]⟩
abbrev S65536x1 : Shape := ⟨2, ![65536, 1]⟩
abbrev S2x65536x256 : Shape := ⟨3, ![2, 65536, 256]⟩

abbrev nBuf : Space → Nat
  | .hbm => 11
  | .vmem => 0
  | .smem => 0
  | _ => 0

abbrev bufTy : (tb : Table) → Fin (tcTables nBuf tb) → BufTy
  | .hbm, ⟨0, _⟩ => ⟨S2x98304x256, .i32⟩
  | .hbm, ⟨1, _⟩ => ⟨S65536, .i32⟩
  | .hbm, ⟨2, _⟩ => ⟨S_, .i32⟩
  | .hbm, ⟨3, _⟩ => ⟨S65536, .i32⟩
  | .hbm, ⟨4, _⟩ => ⟨S65536, .i1⟩
  | .hbm, ⟨5, _⟩ => ⟨S_, .i32⟩
  | .hbm, ⟨6, _⟩ => ⟨S65536, .i32⟩
  | .hbm, ⟨7, _⟩ => ⟨S65536, .i32⟩
  | .hbm, ⟨8, _⟩ => ⟨S65536, .i32⟩
  | .hbm, ⟨9, _⟩ => ⟨S65536x1, .i32⟩
  | .hbm, ⟨10, _⟩ => ⟨S2x65536x256, .i32⟩
  | _, _ => ⟨S2x98304x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x6144 : Shape := ⟨2, ![8, 6144]⟩
abbrev S1024 : Shape := ⟨1, ![1024]⟩
abbrev S1024x8208 : Shape := ⟨2, ![1024, 8208]⟩
abbrev S3x1024 : Shape := ⟨2, ![3, 1024]⟩
abbrev S1024x2048 : Shape := ⟨2, ![1024, 2048]⟩
abbrev S1024x1024 : Shape := ⟨2, ![1024, 1024]⟩
abbrev S1024x3072 : Shape := ⟨2, ![1024, 3072]⟩
abbrev S1024x5120 : Shape := ⟨2, ![1024, 5120]⟩
abbrev S1024x16 : Shape := ⟨2, ![1024, 16]⟩
abbrev S1024x48 : Shape := ⟨2, ![1024, 48]⟩
abbrev S_ : Shape := ⟨0, ![]⟩
abbrev S1024x128 : Shape := ⟨2, ![1024, 128]⟩
abbrev S32768x1024 : Shape := ⟨2, ![32768, 1024]⟩
abbrev S8x6x1024 : Shape := ⟨3, ![8, 6, 1024]⟩
abbrev S1x1024 : Shape := ⟨2, ![1, 1024]⟩
abbrev S32768x3072 : Shape := ⟨2, ![32768, 3072]⟩
abbrev S32768x128 : Shape := ⟨2, ![32768, 128]⟩
abbrev S1x6x1024 : Shape := ⟨3, ![1, 6, 1024]⟩
abbrev S8x1024 : Shape := ⟨2, ![8, 1024]⟩
abbrev S1024x1 : Shape := ⟨2, ![1024, 1]⟩
abbrev S6x1024 : Shape := ⟨2, ![6, 1024]⟩
abbrev S1024x256 : Shape := ⟨2, ![1024, 256]⟩
abbrev S8x256 : Shape := ⟨2, ![8, 256]⟩
abbrev S1x256 : Shape := ⟨2, ![1, 256]⟩

abbrev nBuf : Space → Nat
  | .hbm => 23
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024x8208, .f32⟩
  | .hbm, ⟨4, _⟩ => ⟨S3x1024, .f32⟩
  | .hbm, ⟨5, _⟩ => ⟨S1024x2048, .f32⟩
  | .hbm, ⟨6, _⟩ => ⟨S1024x1024, .f32⟩
  | .hbm, ⟨7, _⟩ => ⟨S1024x3072, .f32⟩
  | .hbm, ⟨8, _⟩ => ⟨S1024x3072, .bf16⟩
  | .hbm, ⟨9, _⟩ => ⟨S1024x5120, .f32⟩
  | .hbm, ⟨10, _⟩ => ⟨S1024x5120, .bf16⟩
  | .hbm, ⟨11, _⟩ => ⟨S1024x16, .f32⟩
  | .hbm, ⟨12, _⟩ => ⟨S1024x48, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S32768x1024, .f32⟩
  | .hbm, ⟨18, _⟩ => ⟨S8x6x1024, .f32⟩
  | .hbm, ⟨19, _⟩ => ⟨S1x1024, .f32⟩
  | .hbm, ⟨20, _⟩ => ⟨S32768x3072, .bf16⟩
  | .hbm, ⟨21, _⟩ => ⟨S32768x3072, .bf16⟩
  | .hbm, ⟨22, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S3x1024, .f32⟩
  | .local _ .vmem, ⟨6, _⟩ => ⟨S1024x3072, .bf16⟩
  | .local _ .vmem, ⟨7, _⟩ => ⟨S1024x5120, .bf16⟩
  | .local _ .vmem, ⟨8, _⟩ => ⟨S1024x128, .bf16⟩
  | .local _ .vmem, ⟨9, _⟩ => ⟨S1024x3072, .bf16⟩
  | .local _ .vmem, ⟨10, _⟩ => ⟨S1024x3072, .bf16⟩
  | .local _ .vmem, ⟨11, _⟩ => ⟨S1024x3072, .bf16⟩
  | .local _ .vmem, ⟨12, _⟩ => ⟨S1024x3072, .bf16⟩
  | .local _ .vmem, ⟨13, _⟩ => ⟨S1024x128, .f32⟩
  | .local _ .vmem, ⟨14, _⟩ => ⟨S1024x128, .f32⟩
  | .local _ .vmem, ⟨15, _⟩ => ⟨S8x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S8x4096x1024 : Shape := ⟨3, ![8, 4096, 1024]⟩
abbrev S8x6144 : Shape := ⟨2, ![8, 6144]⟩
abbrev S1024 : Shape := ⟨1, ![1024]⟩
abbrev S1024x8208 : Shape := ⟨2, ![1024, 8208]⟩
abbrev S3x1024 : Shape := ⟨2, ![3, 1024]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x8208 : Shape := ⟨3, ![8, 4096, 8208]⟩
abbrev S32768x8208 : Shape := ⟨2, ![32768, 8208]⟩
abbrev S32768x2048 : Shape := ⟨2, ![32768, 2048]⟩
abbrev S32768x16 : Shape := ⟨2, ![32768, 16]⟩
abbrev S32768x1024 : Shape := ⟨2, ![32768, 1024]⟩
abbrev S8x4098x1024 : Shape := ⟨3, ![8, 4098, 1024]⟩
abbrev S1x1024 : Shape := ⟨2, ![1, 1024]⟩
abbrev S32768x3072 : Shape := ⟨2, ![32768, 3072]⟩
abbrev S32768x48 : Shape := ⟨2, ![32768, 48]⟩
abbrev S32768x128 : Shape := ⟨2, ![32768, 128]⟩

abbrev nBuf : Space → Nat
  | .hbm => 79
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024x8208, .f32⟩
  | .hbm, ⟨4, _⟩ => ⟨S3x1024, .f32⟩
  | .hbm, ⟨5, _⟩ => ⟨S8x1024, .f32⟩
  | .hbm, ⟨6, _⟩ => ⟨S8x1x1024, .f32⟩
  | .hbm, ⟨7, _⟩ => ⟨S8x1024, .f32⟩
  | .hbm, ⟨8, _⟩ => ⟨S8x1x1024, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x8208, .f32⟩
  | .hbm, ⟨33, _⟩ => ⟨S32768x8208, .f32⟩
  | .hbm, ⟨34, _⟩ => ⟨S32768x2048, .f32⟩
  | .hbm, ⟨35, _⟩ => ⟨S32768x16, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x2048, .f32⟩
  | .hbm, ⟨41, _⟩ => ⟨S32768x1024, .f32⟩
  | .hbm, ⟨42, _⟩ => ⟨S8x4096x1024, .f32⟩
  | .hbm, ⟨43, _⟩ => ⟨S_, .i32⟩
  | .hbm, ⟨44, _⟩ => ⟨S_, .f32⟩
  | .hbm, ⟨45, _⟩ => ⟨S8x4098x1024, .f32⟩
  | .hbm, ⟨46, _⟩ => ⟨S1x1024, .f32⟩
  | .hbm, ⟨47, _⟩ => ⟨S1024, .f32⟩
  | .hbm, ⟨48, _⟩ => ⟨S8x4096x1024, .f32⟩
  | .hbm, ⟨49, _⟩ => ⟨S1x1x1024, .f32⟩
  | .hbm, ⟨50, _⟩ => ⟨S8x4096x1024, .f32⟩
  | .hbm, ⟨51, _⟩ => ⟨S8x4096x1024, .f32⟩
  | .hbm, ⟨52, _⟩ => ⟨S_, .f32⟩
  | .hbm, ⟨53, _⟩ => ⟨S8x4096x1024, .f32⟩
  | .hbm, ⟨54, _⟩ => ⟨S8x4096x1024, .f32⟩
  | .hbm, ⟨55, _⟩ => ⟨S1x1024, .f32⟩
  | .hbm, ⟨56, _⟩ => ⟨S1024, .f32⟩
  | .hbm, ⟨57, _⟩ => ⟨S8x4096x1024, .f32⟩
  | .hbm, ⟨58, _⟩ => ⟨S1x1x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S1x1024, .f32⟩
  | .hbm, ⟨63, _⟩ => ⟨S1024, .f32⟩
  | .hbm, ⟨64, _⟩ => ⟨S8x4096x1024, .f32⟩
  | .hbm, ⟨65, _⟩ => ⟨S1x1x1024, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S32768x1024, .f32⟩
  | .hbm, ⟨70, _⟩ => ⟨S32768x3072, .f32⟩
  | .hbm, ⟨71, _⟩ => ⟨S32768x1024, .f32⟩
  | .hbm, ⟨72, _⟩ => ⟨S32768x3072, .f32⟩
  | .hbm, ⟨73, _⟩ => ⟨S32768x48, .f32⟩
  | .hbm, ⟨74, _⟩ => ⟨S_, .i32⟩
  | .hbm, ⟨75, _⟩ => ⟨S_, .f32⟩
  | .hbm, ⟨76, _⟩ => ⟨S32768x128, .f32⟩
  | .hbm, ⟨77, _⟩ => ⟨S32768x3072, .bf16⟩
  | .hbm, ⟨78, _⟩ => ⟨S32768x3072, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c : Ref sig .tc := ⟨.hbm, 43, rfl⟩
abbrev main_call0_v0 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_c_4 : Ref sig .tc := ⟨.hbm, 74, rfl⟩
abbrev main_call1_v0 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩

abbrev nD : Nat := 1
abbrev τ : Topo := Topo.v7x

variable {F : FTy → Type} [FloatOps F]
-- ==== Kernel3.lean ====
abbrev S32768x1024 : Shape := ⟨2, ![32768, 1024]⟩
abbrev S32768x3072 : Shape := ⟨2, ![32768, 3072]⟩
abbrev S8x4096x1024 : Shape := ⟨3, ![8, 4096, 1024]⟩
abbrev S8x6144 : Shape := ⟨2, ![8, 6144]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S1024x64 : Shape := ⟨2, ![1024, 64]⟩
abbrev S64 : Shape := ⟨1, ![64]⟩
abbrev S1024x72 : Shape := ⟨2, ![1024, 72]⟩
abbrev S_ : Shape := ⟨0, ![]⟩
abbrev S1024x128 : Shape := ⟨2, ![1024, 128]⟩
abbrev S1024x256 : Shape := ⟨2, ![1024, 256]⟩
abbrev S72 : Shape := ⟨1, ![72]⟩
abbrev S128 : Shape := ⟨1, ![128]⟩
abbrev S1x128 : Shape := ⟨2, ![1, 128]⟩
abbrev S8x6x1024 : Shape := ⟨3, ![8, 6, 1024]⟩
abbrev S1x1024 : Shape := ⟨2, ![1, 1024]⟩
abbrev S2x65536x256 : Shape := ⟨3, ![2, 65536, 256]⟩
abbrev S32768x128 : Shape := ⟨2, ![32768, 128]⟩
abbrev S1024x3072 : Shape := ⟨2, ![1024, 3072]⟩
abbrev S1x6x1024 : Shape := ⟨3, ![1, 6, 1024]⟩
abbrev S2x2048x256 : Shape := ⟨3, ![2, 2048, 256]⟩
abbrev S6x1024 : Shape := ⟨2, ![6, 1024]⟩
abbrev S1024x1 : Shape := ⟨2, ![1024, 1]⟩
abbrev S2x1024x256 : Shape := ⟨3, ![2, 1024, 256]⟩
abbrev S1x1024x256 : Shape := ⟨3, ![1, 1024, 256]⟩
abbrev S1x2048x256 : Shape := ⟨3, ![1, 2048, 256]⟩

abbrev nBuf : Space → Nat
  | .hbm => 35
  | .vmem => 20
  | .smem => 0
  | _ => 0

abbrev bufTy : (tb : Table) → Fin (tcTables nBuf tb) → BufTy
  | .hbm, ⟨0, _⟩ => ⟨S32768x1024, .bf16⟩
  | .hbm, ⟨1, _⟩ => ⟨S32768x3072, .bf16⟩
  | .hbm, ⟨2, _⟩ => ⟨S8x4096x1024, .f32⟩
  | .hbm, ⟨3, _⟩ => ⟨S8x6144, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x8, .f32⟩
  | .hbm, ⟨9, _⟩ => ⟨S8, .f32⟩
  | .hbm, ⟨10, _⟩ => ⟨S1024x64, .f32⟩
  | .hbm, ⟨11, _⟩ => ⟨S64, .f32⟩
  | .hbm, ⟨12, _⟩ => ⟨S1024x72, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S1024x128, .f32⟩
  | .hbm, ⟨18, _⟩ => ⟨S1024x128, .f32⟩
  | .hbm, ⟨19, _⟩ => ⟨S1024x128, .bf16⟩
  | .hbm, ⟨20, _⟩ => ⟨S1024x256, .bf16⟩
  | .hbm, ⟨21, _⟩ => ⟨S72, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S32768x1024, .f32⟩
  | .hbm, ⟨27, _⟩ => ⟨S8x6x1024, .f32⟩
  | .hbm, ⟨28, _⟩ => ⟨S1024x1024, .bf16⟩
  | .hbm, ⟨29, _⟩ => ⟨S1024x1024, .bf16⟩
  | .hbm, ⟨30, _⟩ => ⟨S1024x1024, .bf16⟩
  | .hbm, ⟨31, _⟩ => ⟨S1x1024, .f32⟩
  | .hbm, ⟨32, _⟩ => ⟨S32768x1024, .f32⟩
  | .hbm, ⟨33, _⟩ => ⟨S2x65536x256, .bf16⟩
  | .hbm, ⟨34, _⟩ => ⟨S32768x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .f32⟩
  | .local _ .vmem, ⟨5, _⟩ => ⟨S1024x1024, .f32⟩
  | .local _ .vmem, ⟨6, _⟩ => ⟨S1x6x1024, .f32⟩
  | .local _ .vmem, ⟨7, _⟩ => ⟨S1x6x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x256, .bf16⟩
  | .local _ .vmem, ⟨13, _⟩ => ⟨S1x128, .f32⟩
  | .local _ .vmem, ⟨14, _⟩ => ⟨S1024x1024, .f32⟩
  | .local _ .vmem, ⟨15, _⟩ => ⟨S1024x1024, .f32⟩
  | .local _ .vmem, ⟨16, _⟩ => ⟨S2x2048x256, .bf16⟩
  | .local _ .vmem, ⟨17, _⟩ => ⟨S2x2048x256, .bf16⟩
  | .local _ .vmem, ⟨18, _⟩ => ⟨S1024x128, .f32⟩
  | .local _ .vmem, ⟨19, _⟩ => ⟨S1024x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_call1_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_v16_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [BitOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel3Ideal.lean ====
variable {F : FTy → Type} [FloatOps F]
-- ==== Reference3Ideal.lean ====
abbrev S32768x1024 : Shape := ⟨2, ![32768, 1024]⟩
abbrev S32768x3072 : Shape := ⟨2, ![32768, 3072]⟩
abbrev S8x4096x1024 : Shape := ⟨3, ![8, 4096, 1024]⟩
abbrev S8x6144 : Shape := ⟨2, ![8, 6144]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S1024x64 : Shape := ⟨2, ![1024, 64]⟩
abbrev S64 : Shape := ⟨1, ![64]⟩
abbrev S_ : Shape := ⟨0, ![]⟩
abbrev S8x1x6144 : Shape := ⟨3, ![8, 1, 6144]⟩
abbrev S8x1x1024 : Shape := ⟨3, ![8, 1, 1024]⟩
abbrev S8x4096 : Shape := ⟨2, ![8, 4096]⟩
abbrev S8x4096x1 : Shape := ⟨3, ![8, 4096, 1]⟩
abbrev S1x1x1024 : Shape := ⟨3, ![1, 1, 1024]⟩
abbrev S32768x2x2x256 : Shape := ⟨4, ![32768, 2, 2, 256]⟩
abbrev S2x32768x2x256 : Shape := ⟨4, ![2, 32768, 2, 256]⟩
abbrev S2x65536x256 : Shape := ⟨3, ![2, 65536, 256]⟩

abbrev nBuf : Space → Nat
  | .hbm => 78
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x3072, .bf16⟩
  | .hbm, ⟨2, _⟩ => ⟨S8x4096x1024, .f32⟩
  | .hbm, ⟨3, _⟩ => ⟨S8x6144, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x8, .f32⟩
  | .hbm, ⟨9, _⟩ => ⟨S8, .f32⟩
  | .hbm, ⟨10, _⟩ => ⟨S1024x64, .f32⟩
  | .hbm, ⟨11, _⟩ => ⟨S64, .f32⟩
  | .hbm, ⟨12, _⟩ => ⟨S32768x1024, .f32⟩
  | .hbm, ⟨13, _⟩ => ⟨S32768x3072, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S8x1x6144, .f32⟩
  | .hbm, ⟨39, _⟩ => ⟨S8x1x1024, .f32⟩
  | .hbm, ⟨40, _⟩ => ⟨S8x1x1024, .f32⟩
  | .hbm, ⟨41, _⟩ => ⟨S8x1x1024, .f32⟩
  | .hbm, ⟨42, _⟩ => ⟨S8x1x1024, .f32⟩
  | .hbm, ⟨43, _⟩ => ⟨S8x1x1024, .f32⟩
  | .hbm, ⟨44, _⟩ => ⟨S8x1x1024, .f32⟩
  | .hbm, ⟨45, _⟩ => ⟨S32768x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S_, .f32⟩
  | .hbm, ⟨55, _⟩ => ⟨S8x4096x1, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x4096x1, .f32⟩
  | .hbm, ⟨61, _⟩ => ⟨S8x4096x1024, .f32⟩
  | .hbm, ⟨62, _⟩ => ⟨S8x4096x1024, .f32⟩
  | .hbm, ⟨63, _⟩ => ⟨S1x1x1024, .f32⟩
  | .hbm, ⟨64, _⟩ => ⟨S8x4096x1024, .f32⟩
  | .hbm, ⟨65, _⟩ => ⟨S8x4096x1024, .f32⟩
  | .hbm, ⟨66, _⟩ => ⟨S_, .f32⟩
  | .hbm, ⟨67, _⟩ => ⟨S8x1x1024, .f32⟩
  | .hbm, ⟨68, _⟩ => ⟨S8x1x1024, .f32⟩
  | .hbm, ⟨69, _⟩ => ⟨S8x4096x1024, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | .hbm, ⟨73, _⟩ => ⟨S8x4096x1024, .bf16⟩
  | .hbm, ⟨74, _⟩ => ⟨S32768x1024, .f32⟩
  | .hbm, ⟨75, _⟩ => ⟨S32768x2x2x256, .bf16⟩
  | .hbm, ⟨76, _⟩ => ⟨S2x32768x2x256, .bf16⟩
  | .hbm, ⟨77, _⟩ => ⟨S2x65536x256, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Kernel4.lean ====
abbrev S32768x1024 : Shape := ⟨2, ![32768, 1024]⟩
abbrev S32768x128 : Shape := ⟨2, ![32768, 128]⟩
abbrev S2x65536x256 : Shape := ⟨3, ![2, 65536, 256]⟩
abbrev S8x6144 : Shape := ⟨2, ![8, 6144]⟩
abbrev S1024 : Shape := ⟨1, ![1024]⟩
abbrev S1024x8208 : Shape := ⟨2, ![1024, 8208]⟩
abbrev S3x1024 : Shape := ⟨2, ![3, 1024]⟩
abbrev S1024x2048 : Shape := ⟨2, ![1024, 2048]⟩
abbrev S1024x1024 : Shape := ⟨2, ![1024, 1024]⟩
abbrev S1024x3072 : Shape := ⟨2, ![1024, 3072]⟩
abbrev S1024x5120 : Shape := ⟨2, ![1024, 5120]⟩
abbrev S1024x16 : Shape := ⟨2, ![1024, 16]⟩
abbrev S1024x48 : Shape := ⟨2, ![1024, 48]⟩
abbrev S_ : Shape := ⟨0, ![]⟩
abbrev S1024x128 : Shape := ⟨2, ![1024, 128]⟩
abbrev S8x6x1024 : Shape := ⟨3, ![8, 6, 1024]⟩
abbrev S1x1024 : Shape := ⟨2, ![1, 1024]⟩
abbrev S32768x3072 : Shape := ⟨2, ![32768, 3072]⟩
abbrev S512x1024 : Shape := ⟨2, ![512, 1024]⟩
abbrev S512x128 : Shape := ⟨2, ![512, 128]⟩
abbrev S2x512x256 : Shape := ⟨3, ![2, 512, 256]⟩
abbrev S1x6x1024 : Shape := ⟨3, ![1, 6, 1024]⟩
abbrev S512x3072 : Shape := ⟨2, ![512, 3072]⟩
abbrev S8x1024 : Shape := ⟨2, ![8, 1024]⟩
abbrev S6x1024 : Shape := ⟨2, ![6, 1024]⟩
abbrev S512x1 : Shape := ⟨2, ![512, 1]⟩
abbrev S1x512x256 : Shape := ⟨3, ![1, 512, 256]⟩
abbrev S512x256 : Shape := ⟨2, ![512, 256]⟩
abbrev S512 : Shape := ⟨1, ![512]⟩
abbrev S1024x256 : Shape := ⟨2, ![1024, 256]⟩
abbrev S8x256 : Shape := ⟨2, ![8, 256]⟩
abbrev S1x256 : Shape := ⟨2, ![1, 256]⟩

abbrev nBuf : Space → Nat
  | .hbm => 27
  | .vmem => 26
  | .smem => 0
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S2x65536x256, .i32⟩
  | .hbm, ⟨3, _⟩ => ⟨S8x6144, .f32⟩
  | .hbm, ⟨4, _⟩ => ⟨S8x6144, .f32⟩
  | .hbm, ⟨5, _⟩ => ⟨S1024, .f32⟩
  | .hbm, ⟨6, _⟩ => ⟨S1024x8208, .f32⟩
  | .hbm, ⟨7, _⟩ => ⟨S3x1024, .f32⟩
  | .hbm, ⟨8, _⟩ => ⟨S1024x2048, .f32⟩
  | .hbm, ⟨9, _⟩ => ⟨S1024x1024, .f32⟩
  | .hbm, ⟨10, _⟩ => ⟨S1024x3072, .f32⟩
  | .hbm, ⟨11, _⟩ => ⟨S1024x3072, .bf16⟩
  | .hbm, ⟨12, _⟩ => ⟨S1024x5120, .f32⟩
  | .hbm, ⟨13, _⟩ => ⟨S1024x5120, .bf16⟩
  | .hbm, ⟨14, _⟩ => ⟨S1024x16, .f32⟩
  | .hbm, ⟨15, _⟩ => ⟨S1024x48, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x128, .bf16⟩
  | .hbm, ⟨20, _⟩ => ⟨S8x6x1024, .f32⟩
  | .hbm, ⟨21, _⟩ => ⟨S1x1024, .f32⟩
  | .hbm, ⟨22, _⟩ => ⟨S8x6x1024, .f32⟩
  | .hbm, ⟨23, _⟩ => ⟨S32768x1024, .f32⟩
  | .hbm, ⟨24, _⟩ => ⟨S32768x3072, .bf16⟩
  | .hbm, ⟨25, _⟩ => ⟨S32768x3072, .bf16⟩
  | .hbm, ⟨26, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S2x512x256, .i32⟩
  | .local _ .vmem, ⟨5, _⟩ => ⟨S2x512x256, .i32⟩
  | .local _ .vmem, ⟨6, _⟩ => ⟨S2x512x256, .i32⟩
  | .local _ .vmem, ⟨7, _⟩ => ⟨S2x512x256, .i32⟩
  | .local _ .vmem, ⟨8, _⟩ => ⟨S1x6x1024, .f32⟩
  | .local _ .vmem, ⟨9, _⟩ => ⟨S1x6x1024, .f32⟩
  | .local _ .vmem, ⟨10, _⟩ => ⟨S1x6x1024, .f32⟩
  | .local _ .vmem, ⟨11, _⟩ => ⟨S1x6x1024, .f32⟩
  | .local _ .vmem, ⟨12, _⟩ => ⟨S1x1024, .f32⟩
  | .local _ .vmem, ⟨13, _⟩ => ⟨S3x1024, .f32⟩
  | .local _ .vmem, ⟨14, _⟩ => ⟨S1024x3072, .bf16⟩
  | .local _ .vmem, ⟨15, _⟩ => ⟨S1024x5120, .bf16⟩
  | .local _ .vmem, ⟨16, _⟩ => ⟨S1024x128, .bf16⟩
  | .local _ .vmem, ⟨17, _⟩ => ⟨S512x1024, .f32⟩
  | .local _ .vmem, ⟨18, _⟩ => ⟨S512x1024, .f32⟩
  | .local _ .vmem, ⟨19, _⟩ => ⟨S512x3072, .bf16⟩
  | .local _ .vmem, ⟨20, _⟩ => ⟨S512x3072, .bf16⟩
  | .local _ .vmem, ⟨21, _⟩ => ⟨S512x3072, .bf16⟩
  | .local _ .vmem, ⟨22, _⟩ => ⟨S512x3072, .bf16⟩
  | .local _ .vmem, ⟨23, _⟩ => ⟨S512x128, .f32⟩
  | .local _ .vmem, ⟨24, _⟩ => ⟨S512x128, .f32⟩
  | .local _ .vmem, ⟨25, _⟩ => ⟨S8x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5120 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S32768x1024 : Shape := ⟨2, ![32768, 1024]⟩
abbrev S32768x128 : Shape := ⟨2, ![32768, 128]⟩
abbrev S2x65536x256 : Shape := ⟨3, ![2, 65536, 256]⟩
abbrev S8x6144 : Shape := ⟨2, ![8, 6144]⟩
abbrev S1024 : Shape := ⟨1, ![1024]⟩
abbrev S1024x8208 : Shape := ⟨2, ![1024, 8208]⟩
abbrev S3x1024 : Shape := ⟨2, ![3, 1024]⟩
abbrev S_ : Shape := ⟨0, ![]⟩
abbrev S4x65536x256 : Shape := ⟨3, ![4, 65536, 256]⟩
abbrev S65536x4x256 : Shape := ⟨3, ![65536, 4, 256]⟩
abbrev S2x32768x1024 : Shape := ⟨3, ![2, 32768, 1024]⟩
abbrev S32768x1 : Shape := ⟨2, ![32768, 1]⟩
abbrev S1x32768x1024 : Shape := ⟨3, ![1, 32768, 1024]⟩
abbrev S8x4096x1024 : Shape := ⟨3, ![8, 4096, 1024]⟩
abbrev S8x1024 : Shape := ⟨2, ![8, 1024]⟩
abbrev S8x1x1024 : Shape := ⟨3, ![8, 1, 1024]⟩
abbrev S8x4096 : Shape := ⟨2, ![8, 4096]⟩
abbrev S8x4096x1 : Shape := ⟨3, ![8, 4096, 1]⟩
abbrev S1x1x1024 : Shape := ⟨3, ![1, 1, 1024]⟩
abbrev S8x4096x8208 : Shape := ⟨3, ![8, 4096, 8208]⟩
abbrev S32768x8208 : Shape := ⟨2, ![32768, 8208]⟩
abbrev S32768x2048 : Shape := ⟨2, ![32768, 2048]⟩
abbrev S32768x16 : Shape := ⟨2, ![32768, 16]⟩
abbrev S8x4098x1024 : Shape := ⟨3, ![8, 4098, 1024]⟩
abbrev S1x1024 : Shape := ⟨2, ![1, 1024]⟩
abbrev S32768x3072 : Shape := ⟨2, ![32768, 3072]⟩
abbrev S32768x48 : Shape := ⟨2, ![32768, 48]⟩

abbrev nBuf : Space → Nat
  | .hbm => 112
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S2x65536x256, .i32⟩
  | .hbm, ⟨3, _⟩ => ⟨S8x6144, .f32⟩
  | .hbm, ⟨4, _⟩ => ⟨S8x6144, .f32⟩
  | .hbm, ⟨5, _⟩ => ⟨S1024, .f32⟩
  | .hbm, ⟨6, _⟩ => ⟨S1024x8208, .f32⟩
  | .hbm, ⟨7, _⟩ => ⟨S3x1024, .f32⟩
  | .hbm, ⟨8, _⟩ => ⟨S_, .i32⟩
  | .hbm, ⟨9, _⟩ => ⟨S2x65536x256, .i32⟩
  | .hbm, ⟨10, _⟩ => ⟨S2x65536x256, .i32⟩
  | .hbm, ⟨11, _⟩ => ⟨S_, .i32⟩
  | .hbm, ⟨12, _⟩ => ⟨S2x65536x256, .i32⟩
  | .hbm, ⟨13, _⟩ => ⟨S2x65536x256, .i32⟩
  | .hbm, ⟨14, _⟩ => ⟨S2x65536x256, .f32⟩
  | .hbm, ⟨15, _⟩ => ⟨S2x65536x256, .f32⟩
  | .hbm, ⟨16, _⟩ => ⟨S4x65536x256, .f32⟩
  | .hbm, ⟨17, _⟩ => ⟨S65536x4x256, .f32⟩
  | .hbm, ⟨18, _⟩ => ⟨S2x32768x1024, .f32⟩
  | .hbm, ⟨19, _⟩ => ⟨S32768x1, .f32⟩
  | .hbm, ⟨20, _⟩ => ⟨S1x32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1, .f32⟩
  | .hbm, ⟨25, _⟩ => ⟨S1x32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S8x4096x1024, .f32⟩
  | .hbm, ⟨31, _⟩ => ⟨S8x1024, .f32⟩
  | .hbm, ⟨32, _⟩ => ⟨S8x1x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S32768x1024, .f32⟩
  | .hbm, ⟨38, _⟩ => ⟨S8x1024, .f32⟩
  | .hbm, ⟨39, _⟩ => ⟨S8x1x1024, .f32⟩
  | .hbm, ⟨40, _⟩ => ⟨S8x1024, .f32⟩
  | .hbm, ⟨41, _⟩ => ⟨S8x1x1024, .f32⟩
  | .hbm, ⟨42, _⟩ => ⟨S8x4096x1024, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S8x4096x1, .f32⟩
  | .hbm, ⟨53, _⟩ => ⟨S8x4096x1024, .f32⟩
  | .hbm, ⟨54, _⟩ => ⟨S8x4096x1024, .f32⟩
  | .hbm, ⟨55, _⟩ => ⟨S1x1x1024, .f32⟩
  | .hbm, ⟨56, _⟩ => ⟨S8x4096x1024, .f32⟩
  | .hbm, ⟨57, _⟩ => ⟨S8x4096x1024, .f32⟩
  | .hbm, ⟨58, _⟩ => ⟨S_, .f32⟩
  | .hbm, ⟨59, _⟩ => ⟨S8x1x1024, .f32⟩
  | .hbm, ⟨60, _⟩ => ⟨S8x1x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S8x4096x8208, .f32⟩
  | .hbm, ⟨66, _⟩ => ⟨S32768x8208, .f32⟩
  | .hbm, ⟨67, _⟩ => ⟨S32768x2048, .f32⟩
  | .hbm, ⟨68, _⟩ => ⟨S32768x16, .f32⟩
  | .hbm, ⟨69, _⟩ => ⟨S32768x1024, .f32⟩
  | .hbm, ⟨70, _⟩ => ⟨S32768x1024, .f32⟩
  | .hbm, ⟨71, _⟩ => ⟨S32768x1024, .f32⟩
  | .hbm, ⟨72, _⟩ => ⟨S32768x1024, .f32⟩
  | .hbm, ⟨73, _⟩ => ⟨S32768x2048, .f32⟩
  | .hbm, ⟨74, _⟩ => ⟨S32768x1024, .f32⟩
  | .hbm, ⟨75, _⟩ => ⟨S8x4096x1024, .f32⟩
  | .hbm, ⟨76, _⟩ => ⟨S_, .i32⟩
  | .hbm, ⟨77, _⟩ => ⟨S_, .f32⟩
  | .hbm, ⟨78, _⟩ => ⟨S8x4098x1024, .f32⟩
  | .hbm, ⟨79, _⟩ => ⟨S1x1024, .f32⟩
  | .hbm, ⟨80, _⟩ => ⟨S1024, .f32⟩
  | .hbm, ⟨81, _⟩ => ⟨S8x4096x1024, .f32⟩
  | .hbm, ⟨82, _⟩ => ⟨S1x1x1024, .f32⟩
  | .hbm, ⟨83, _⟩ => ⟨S8x4096x1024, .f32⟩
  | .hbm, ⟨84, _⟩ => ⟨S8x4096x1024, .f32⟩
  | .hbm, ⟨85, _⟩ => ⟨S_, .f32⟩
  | .hbm, ⟨86, _⟩ => ⟨S8x4096x1024, .f32⟩
  | .hbm, ⟨87, _⟩ => ⟨S8x4096x1024, .f32⟩
  | .hbm, ⟨88, _⟩ => ⟨S1x1024, .f32⟩
  | .hbm, ⟨89, _⟩ => ⟨S1024, .f32⟩
  | .hbm, ⟨90, _⟩ => ⟨S8x4096x1024, .f32⟩
  | .hbm, ⟨91, _⟩ => ⟨S1x1x1024, .f32⟩
  | .hbm, ⟨92, _⟩ => ⟨S8x4096x1024, .f32⟩
  | .hbm, ⟨93, _⟩ => ⟨S8x4096x1024, .f32⟩
  | .hbm, ⟨94, _⟩ => ⟨S8x4096x1024, .f32⟩
  | .hbm, ⟨95, _⟩ => ⟨S1x1024, .f32⟩
  | .hbm, ⟨96, _⟩ => ⟨S1024, .f32⟩
  | .hbm, ⟨97, _⟩ => ⟨S8x4096x1024, .f32⟩
  | .hbm, ⟨98, _⟩ => ⟨S1x1x1024, .f32⟩
  | .hbm, ⟨99, _⟩ => ⟨S8x4096x1024, .f32⟩
  | .hbm, ⟨100, _⟩ => ⟨S8x4096x1024, .f32⟩
  | .hbm, ⟨101, _⟩ => ⟨S8x4096x1024, .f32⟩
  | .hbm, ⟨102, _⟩ => ⟨S32768x1024, .f32⟩
  | .hbm, ⟨103, _⟩ => ⟨S32768x3072, .f32⟩
  | .hbm, ⟨104, _⟩ => ⟨S32768x1024, .f32⟩
  | .hbm, ⟨105, _⟩ => ⟨S32768x3072, .f32⟩
  | .hbm, ⟨106, _⟩ => ⟨S32768x48, .f32⟩
  | .hbm, ⟨107, _⟩ => ⟨S_, .i32⟩
  | .hbm, ⟨108, _⟩ => ⟨S_, .f32⟩
  | .hbm, ⟨109, _⟩ => ⟨S32768x128, .f32⟩
  | .hbm, ⟨110, _⟩ => ⟨S32768x3072, .bf16⟩
  | .hbm, ⟨111, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_c_4 : Ref sig .tc := ⟨.hbm, 76, rfl⟩
abbrev main_call0_v0 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_5 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_c_6 : Ref sig .tc := ⟨.hbm, 107, rfl⟩
abbrev main_call1_v0 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩

abbrev nD : Nat := 1
abbrev τ : Topo := Topo.v7x

variable {F : FTy → Type} [FloatOps F]
-- ==== Proof.Slots.lean ====
/-
  The trip of the row-gathering loop in closed form: which slot, which block and which cell each of its transfers
  names, as functions of the trip number, and the loop's region as those transfers in order.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Rows

open Cert.KernelIdeal Cert.KernelIdeal.Gen

open Idealize.ShloMosaic
open Idealize.SL Idealize.SL.Sem

variable {F : FTy → Type}

/-! ## Slots, blocks and cells -/

abbrev yM : Memref sig .scVector .hbm S196608x256 .i32 := Memref.whole main_v0_scv
abbrev nM : Memref sig .scVector .hbm S1x131072 .i32 := Memref.whole main_v9_scv
abbrev oM : Memref sig .scVector .hbm S131072x256 .i32 := Memref.whole main_v10_scv
abbrev iM : Memref sig .scVector .vmem S2x1x128 .i32 := Memref.whole cc0_scoped0
abbrev rM : Memref sig .scVector .vmem S2x128x256 .i32 := Memref.whole cc0_scoped2

theorem inbI : ∀ (p : Fin 2) a, (![p.val, 0, 0] : Fin 3 → Nat) a + S1x1x128.size a ≤ S2x1x128.size a := by decide
theorem inbR : ∀ (p : Fin 2) a, (![p.val, 0, 0] : Fin 3 → Nat) a + S1x128x256.size a ≤ S2x128x256.size a := by decide
theorem inbC : ∀ (p : Fin 2) a, (![p.val] : Fin 1 → Nat) a + S1.size a ≤ S2.size a := by decide
theorem inbN : ∀ (b : Fin 1024) a, (![0, 128 * b.val] : Fin 2 → Nat) a + S1x128.size a ≤ S1x131072.size a := by
  intro b a; match a with
  | 0 => exact Nat.le_refl 1
  | 1 => show 128 * b.val + 128 ≤ 131072; omega
theorem inbO : ∀ (b : Fin 1024) a, (![128 * b.val, 0] : Fin 2 → Nat) a + S128x256.size a ≤ S131072x256.size a := by
  intro b a; match a with
  | 0 => show 128 * b.val + 128 ≤ 131072; omega
  | 1 => exact Nat.le_refl 256
theorem inbH : ∀ (h : Fin 2) a, (![0, 128 * h.val] : Fin 2 → Nat) a + S128x128.size a ≤ S128x256.size a := by decide
theorem inbY : ∀ (h : Fin 2) a, (![0, 128 * h.val] : Fin 2 → Nat) a + S196608x128.size a ≤ S196608x256.size a := by decide

/-- Index slot `p`, row slot `p`. -/
abbrev iSl (p : Fin 2) : Memref sig .scVector .vmem S1x128 .i32 :=
  ((iM).slice (Rect.unit (s := S2x1x128) ![p.val, 0, 0] S1x1x128.size (inbI p)) (fun _ => rfl)).squeeze S1x128 squeezes_S1x1x128_S1x128
abbrev rSl (p : Fin 2) : Memref sig .scVector .vmem S128x256 .i32 :=
  ((rM).slice (Rect.unit (s := S2x128x256) ![p.val, 0, 0] S1x128x256.size (inbR p)) (fun _ => rfl)).squeeze S128x256 squeezes_S1x128x256_S128x256
/-- Index slot `p` as the list of 128 row numbers a gather reads. -/
abbrev iLs (p : Fin 2) : Memref sig .scVector .vmem S128 .i32 :=
  ((iSl p).slice (Rect.unit (s := S1x128) ![0, 0] S1x128.size inb_S1x128_S1x128_0_0) (fun _ => rfl)).squeeze S128 squeezes_S1x128_S128
/-- Column half `h` of row slot `p`, and of the rows gathered from. -/
abbrev rHf (p h : Fin 2) : Memref sig .scVector .vmem S128x128 .i32 :=
  (rSl p).slice (Rect.unit (s := S128x256) ![0, 128 * h.val] S128x128.size (inbH h)) (fun _ => rfl)
abbrev yHf (h : Fin 2) : Memref sig .scVector .hbm S196608x128 .i32 :=
  (yM).slice (Rect.unit (s := S196608x256) ![0, 128 * h.val] S196608x128.size (inbY h)) (fun _ => rfl)
/-- Block `b` of the index row and of the result. -/
abbrev nBk (b : Fin 1024) : Memref sig .scVector .hbm S1x128 .i32 :=
  (nM).slice (Rect.unit (s := S1x131072) ![0, 128 * b.val] S1x128.size (inbN b)) (fun _ => rfl)
abbrev oBk (b : Fin 1024) : Memref sig .scVector .hbm S128x256 .i32 :=
  (oM).slice (Rect.unit (s := S131072x256) ![128 * b.val, 0] S128x256.size (inbO b)) (fun _ => rfl)
/-- The index copies' cells, the write-outs' cells, the gathers' cells. -/
abbrev cI (p : Fin 2) : DmaSem sig := ((cc0_scoped1.slice (Rect.unit (s := S2) ![p.val] S1.size (inbC p))).squeeze S_ squeezes_S1_S_).sem
abbrev cO (p : Fin 2) : DmaSem sig := ((cc0_scoped3.slice (Rect.unit (s := S2) ![p.val] S1.size (inbC p))).squeeze S_ squeezes_S1_S_).sem
abbrev cG : Fin 2 → DmaSem sig := fun | 0 => cc0_scoped4.sem | 1 => cc0_scoped5.sem

/-- Block `k` of the task at `L`, of the 1024; the slot it uses. -/
def bk (L : grid0.Coords) (k : ℕ) : Fin 1024 := ⟨(32 * ((L 1).val + 16 * (L 0).val) + k) % 1024, Nat.mod_lt _ (by decide)⟩
def pr (k : ℕ) : Fin 2 := ⟨k % 2, Nat.mod_lt _ (by decide)⟩

/-- The loop's carried values entering trip `k`. -/
abbrev args (k : ℕ) : BitVec 32 × BitVec 32 × BitVec 32 × BitVec 32 × BitVec 32 :=
  (BitVec.ofNat 32 (min (k + 1) 32), BitVec.ofNat 32 k, BitVec.ofNat 32 k, BitVec.ofNat 32 (k - 1), BitVec.ofNat 32 (k % 32))

abbrev Pg (F : FTy → Type) (L : grid0.Coords) (α : Type) : Type 1 :=
  Prog (TpuEff nD τ sig (Elt F) Λ₀ (.scVector ((L 0).castLE hcore0) ((L 1).castLE hsub0))) α

variable (L : grid0.Coords)

def enqI (p : Fin 2) (b : Fin 1024) : Pg F L PUnit :=
  Prog.lift (.enqueueDma (nBk b) (.here (iSl p)) (.dma (cI p)) (View.wordExact_bits rfl) ((View.wordExact_bits rfl).reshape _ _) ⟨Or.inl rfl, trivial⟩)
def waitI (p : Fin 2) (b : Fin 1024) : Pg F L PUnit :=
  Prog.lift (.waitDma2 (cI p) (nBk b) (iSl p) (View.wordExact_bits rfl) ((View.wordExact_bits rfl).reshape _ _))
def enqG (p h : Fin 2) : Pg F L PUnit :=
  SparseCore.enqueueIndirectGather rfl (yHf h) (rHf p h) gathers_S196608x128_S128x128 (iLs p) rfl (cG h) (View.wordExact_bits rfl) rfl (Or.inl rfl)
def waitG (p h : Fin 2) : Pg F L PUnit :=
  SparseCore.waitIndirectGather (cG h) (yHf h) (rHf p h) (View.wordExact_bits rfl) (View.wordExact_bits rfl)
def enqO (p : Fin 2) (b : Fin 1024) : Pg F L PUnit :=
  Prog.lift (.enqueueDma (rSl p) (.here (oBk b)) (.dma (cO p)) ((View.wordExact_bits rfl).reshape _ _) (View.wordExact_bits rfl) ⟨Or.inl rfl, trivial⟩)
def waitO (p : Fin 2) (b : Fin 1024) : Pg F L PUnit :=
  Prog.lift (.waitDma2 (cO p) (rSl p) (oBk b) ((View.wordExact_bits rfl).reshape _ _) (View.wordExact_bits rfl))

/-! ## The printed offsets, conditions and checks -/

theorem trips_eq : k0_t1_loop.trips = 32 := by decide

set_option maxRecDepth 100000
theorem off4_eq : ∀ k : Fin 31, k0_off4 (args k).1 = ![(k.val + 1) % 2, 0, 0] := by decide +kernel
theorem off6_eq : ∀ k : Fin 31, k0_off6 (args k).1 = ![(k.val + 1) % 2] := by decide +kernel
theorem off7_eq : ∀ k : Fin 32, k0_off7 (args k).2.1 = ![k.val % 2, 0, 0] := by decide +kernel
theorem off9_eq : ∀ k : Fin 32, k0_off9 (args k).2.1 = ![k.val % 2] := by decide +kernel
theorem off10_eq : ∀ k : Fin 32, k0_off10 (args k).2.2.1 = ![k.val % 2, 0, 0] := by decide +kernel
theorem off11_eq : ∀ k : Fin 32, k0_off11 (args k).2.1 = ![k.val % 2, 0, 0] := by decide +kernel
theorem off12_eq : ∀ k : Fin 32, k0_off12 (args k).2.2.1 = ![k.val % 2, 0, 0] := by decide +kernel
theorem off14_eq : ∀ k : Fin 32, k0_off14 (args k).2.2.1 = ![k.val % 2] := by decide +kernel
theorem off15_eq : ∀ k : Fin 32, k0_off15 (args k).2.2.2.1 = ![(k.val - 1) % 2, 0, 0] := by decide +kernel
theorem off17_eq : ∀ k : Fin 32, k0_off17 (args k).2.2.2.1 = ![(k.val - 1) % 2] := by decide +kernel
theorem off5_eq : ∀ (L : grid0.Coords) (k : Fin 31), k0_off5 L (args k).2.2.2.2 = ![0, 128 * (bk L (k.val + 1)).val] := by decide +kernel
theorem off8_eq : ∀ (L : grid0.Coords) (k : Fin 32), k0_off8 L (args k).2.2.2.2 = ![0, 128 * (bk L k.val).val] := by decide +kernel
theorem off13_eq : ∀ (L : grid0.Coords) (k : Fin 32), k0_off13 L (args k).2.2.2.2 = ![128 * (bk L k.val).val, 0] := by decide +kernel
theorem off16_eq : ∀ (L : grid0.Coords) (k : Fin 32), 0 < k.val → k0_off16 L (args k).2.2.2.2 = ![128 * (bk L (k.val - 1)).val, 0] := by decide +kernel
theorem off2_eq : ∀ (L : grid0.Coords), k0_off2 L = ![0, 128 * (bk L 0).val] := by decide +kernel
theorem cond1_eq : ∀ (L : grid0.Coords) (k : Fin k0_t1_loop.trips), k0_cond1 L k (args k).2.2.2.2 = if k.val < 31 then 1#1 else 0#1 := by decide +kernel
theorem cond2_eq : ∀ (L : grid0.Coords) (k : Fin k0_t1_loop.trips), k0_cond2 L k (args k).2.2.2.2 = 1#1 := by decide +kernel
theorem cond5_eq : ∀ (L : grid0.Coords) (k : Fin k0_t1_loop.trips), k0_cond5 L k (args k).2.2.2.2 = 1#1 := by decide +kernel
theorem cond7_eq : ∀ (L : grid0.Coords) (k : Fin k0_t1_loop.trips), k0_cond7 L k (args k).2.2.2.2 = if 0 < k.val then 1#1 else 0#1 := by decide +kernel
theorem chk3_ok : ∀ k : Fin 32, k0_chk3 (args k).2.1 := by decide +kernel
theorem chk2_ok : ∀ k : Fin 32, k0_chk2 (args k).2.2.1 := by decide +kernel
theorem chk1_ok : ∀ (L : grid0.Coords) (k : Fin k0_t1_loop.trips), k0_chk1 L k (args k).1 (args k).2.1 (args k).2.2.1 (args k).2.2.2.1 (args k).2.2.2.2 := by decide +kernel
theorem chk4_ok : k0_chk4 (args 32).2.2.2.1 := by decide +kernel
theorem chk5_ok : ∀ (L : grid0.Coords), k0_chk5 L (args 32).2.2.2.2 := by decide +kernel
theorem off18_eq : k0_off18 (args 32).2.2.2.1 = ![1, 0, 0] := by decide +kernel
theorem off20_eq : k0_off20 (args 32).2.2.2.1 = ![1] := by decide +kernel
theorem off21_eq : k0_off21 (args 32).2.2.2.1 = ![1, 0, 0] := by decide +kernel
theorem off19_eq : ∀ (L : grid0.Coords), k0_off19 L (args 32).2.2.2.2 = ![128 * (bk L 31).val, 0] := by decide +kernel

end Cert.Proof.Rows
-- ==== Proof.Trip.lean ====
/-
  The loop's region and the kernel's body as the transfers of `Slots`, in order.
-/
module

public import proofs.«01_k».proof.Proof.Slots

@[expose] public section

noncomputable section

namespace Cert.Proof.Rows

open Cert.KernelIdeal Cert.KernelIdeal.Gen

open Idealize.ShloMosaic
open Idealize.SL Idealize.SL.Sem

variable {F : FTy → Type} (L : grid0.Coords)

/-- Trip `k`'s transfers. -/
def tripC (k : ℕ) : Pg F L (BitVec 32 × BitVec 32 × BitVec 32 × BitVec 32 × BitVec 32) :=
  (if k < 31 then enqI L (pr (k + 1)) (bk L (k + 1)) else pure ⟨⟩) >>= fun _ =>
  waitI L (pr k) (bk L k) >>= fun _ =>
  enqG L (pr k) 0 >>= fun _ => waitG L (pr k) 0 >>= fun _ =>
  enqG L (pr k) 1 >>= fun _ => waitG L (pr k) 1 >>= fun _ =>
  enqO L (pr k) (bk L k) >>= fun _ =>
  (if 0 < k then waitO L (pr (k - 1)) (bk L (k - 1)) else pure ⟨⟩) >>= fun _ =>
  pure (args (k + 1))

/-! ## A printed transfer is the one of `Slots` at equal offsets -/

theorem enqI_of {o o1 o2} (h h1 h2 q q1 w w1 t) (p : Fin 2) (b : Fin 1024) (e : o = ![p.val, 0, 0]) (e1 : o1 = ![0, 128 * b.val]) (e2 : o2 = ![p.val]) :
    (Prog.lift (.enqueueDma ((nM).slice (Rect.unit (s := S1x131072) o1 S1x128.size h1) q1)
        (.here (((iM).slice (Rect.unit (s := S2x1x128) o S1x1x128.size h) q).squeeze S1x128 squeezes_S1x1x128_S1x128))
        (.dma ((cc0_scoped1.slice (Rect.unit (s := S2) o2 S1.size h2)).squeeze S_ squeezes_S1_S_).sem) w w1 t) : Pg F L PUnit) = enqI L p b := by
  subst e e1 e2; rfl
theorem waitI_of {o o1 o2} (h h1 h2 q q1 w w1) (p : Fin 2) (b : Fin 1024) (e : o = ![p.val, 0, 0]) (e1 : o1 = ![0, 128 * b.val]) (e2 : o2 = ![p.val]) :
    (Prog.lift (.waitDma2 ((cc0_scoped1.slice (Rect.unit (s := S2) o2 S1.size h2)).squeeze S_ squeezes_S1_S_).sem
        ((nM).slice (Rect.unit (s := S1x131072) o1 S1x128.size h1) q1)
        (((iM).slice (Rect.unit (s := S2x1x128) o S1x1x128.size h) q).squeeze S1x128 squeezes_S1x1x128_S1x128) w w1) : Pg F L PUnit) = waitI L p b := by
  subst e e1 e2; rfl
theorem enqO_of {o o1 o2} (h h1 h2 q q1 w w1 t) (p : Fin 2) (b : Fin 1024) (e : o = ![p.val, 0, 0]) (e1 : o1 = ![128 * b.val, 0]) (e2 : o2 = ![p.val]) :
    (Prog.lift (.enqueueDma (((rM).slice (Rect.unit (s := S2x128x256) o S1x128x256.size h) q).squeeze S128x256 squeezes_S1x128x256_S128x256)
        (.here ((oM).slice (Rect.unit (s := S131072x256) o1 S128x256.size h1) q1))
        (.dma ((cc0_scoped3.slice (Rect.unit (s := S2) o2 S1.size h2)).squeeze S_ squeezes_S1_S_).sem) w w1 t) : Pg F L PUnit) = enqO L p b := by
  subst e e1 e2; rfl
theorem waitO_of {o o1 o2} (h h1 h2 q q1 w w1) (p : Fin 2) (b : Fin 1024) (e : o = ![p.val, 0, 0]) (e1 : o1 = ![128 * b.val, 0]) (e2 : o2 = ![p.val]) :
    (Prog.lift (.waitDma2 ((cc0_scoped3.slice (Rect.unit (s := S2) o2 S1.size h2)).squeeze S_ squeezes_S1_S_).sem
        (((rM).slice (Rect.unit (s := S2x128x256) o S1x128x256.size h) q).squeeze S128x256 squeezes_S1x128x256_S128x256)
        ((oM).slice (Rect.unit (s := S131072x256) o1 S128x256.size h1) q1) w w1) : Pg F L PUnit) = waitO L p b := by
  subst e e1 e2; rfl
abbrev rHfO (o : Fin 3 → ℕ) (h : ∀ a, o a + S1x128x256.size a ≤ S2x128x256.size a) (s : Fin 2) : Memref sig .scVector .vmem S128x128 .i32 :=
  (((rM).slice (Rect.unit (s := S2x128x256) o S1x128x256.size h) (fun _ => rfl)).squeeze S128x256 squeezes_S1x128x256_S128x256).slice
    (Rect.unit (s := S128x256) ![0, 128 * s.val] S128x128.size (inbH s)) (fun _ => rfl)
abbrev iLsO (o : Fin 3 → ℕ) (h : ∀ a, o a + S1x1x128.size a ≤ S2x1x128.size a) : Memref sig .scVector .vmem S128 .i32 :=
  ((((iM).slice (Rect.unit (s := S2x1x128) o S1x1x128.size h) (fun _ => rfl)).squeeze S1x128 squeezes_S1x1x128_S1x128).slice
    (Rect.unit (s := S1x128) ![0, 0] S1x128.size inb_S1x128_S1x128_0_0) (fun _ => rfl)).squeeze S128 squeezes_S1x128_S128
theorem enqG_of {o o1} (h h1) (p : Fin 2) (s : Fin 2) (e : o = ![p.val, 0, 0]) (e1 : o1 = ![p.val, 0, 0]) :
    (SparseCore.enqueueIndirectGather rfl (yHf s) (rHfO o h s) gathers_S196608x128_S128x128 (iLsO o1 h1) rfl (cG s)
      (View.wordExact_bits rfl) rfl (Or.inl rfl) : Pg F L PUnit) = enqG L p s := by
  subst e e1; rfl
theorem waitG_of {o} (h) (p : Fin 2) (s : Fin 2) (e : o = ![p.val, 0, 0]) :
    (SparseCore.waitIndirectGather (cG s) (yHf s) (rHfO o h s) (View.wordExact_bits rfl) (View.wordExact_bits rfl) : Pg F L PUnit) = waitG L p s := by
  subst e; rfl

/-- The task's first block. -/
def v4L : BitVec 32 :=
  Scalar.muli (Scalar.addi (Scalar.addi 0#32 (Scalar.muli (BitVec.ofNat 32 (L 1).val) 1#32)) (Scalar.muli (BitVec.ofNat 32 (L 0).val) 16#32)) 32#32

set_option maxRecDepth 100000 in
/-- The carried values trip `k` leaves are trip `k + 1`'s. -/
theorem ret_eq : ∀ (L : grid0.Coords) (k : Fin k0_t1_loop.trips),
    (let a := BitVec.ofNat 32 (k.val % 32)
     let i := Scf.iv 0#32 1#32 k
     let nx := Scalar.select 1#1 (Scalar.addi a 1#32) a
     let nw := Scalar.select (Scalar.cmpi .eq nx 32#32) 0#32 nx
     let pv := Scalar.select 1#1 (Scalar.subi a 1#32) a
     let pw := Scalar.select (Scalar.cmpi .eq pv 4294967295#32) 31#32 pv
     let ne := Scalar.cmpi .ne (Scalar.addi a (v4L L)) (Scalar.addi nw (v4L L))
     let np := Scalar.cmpi .ne (Scalar.addi a (v4L L)) (Scalar.addi pw (v4L L))
     let l := Scalar.cmpi .eq i 31#32
     let n := BitVec.ofNat 32 k.val
     let m := BitVec.ofNat 32 (min (k.val + 1) 32)
     let o := BitVec.ofNat 32 (k.val - 1)
     (Scalar.select (Scalar.andi (Scalar.andi ne (Scalar.xori (Scalar.cmpi .sge i 31#32) 1#1)) 1#1) (Scalar.addi m 1#32) m,
      Scalar.select (Scalar.ori ne l) (Scalar.addi n 1#32) n,
      Scalar.select (Scalar.andi (Scalar.ori ne l) 1#1) (Scalar.addi n 1#32) n,
      Scalar.select (Scalar.andi (Scalar.andi np (Scalar.xori (Scalar.cmpi .eq i 0#32) 1#1)) 1#1) (Scalar.addi o 1#32) o,
      nw)) = args (k.val + 1) := by decide +kernel

variable [FloatOps F]

abbrev tripP (v4 : BitVec 32) (k : Fin k0_t1_loop.trips) (a : BitVec 32 × BitVec 32 × BitVec 32 × BitVec 32 × BitVec 32) :
    Pg F L (BitVec 32 × BitVec 32 × BitVec 32 × BitVec 32 × BitVec 32) :=
  k0_t1_body (F := F) L yM (Memref.isWhole_whole _) nM (Memref.isWhole_whole _) oM (Memref.isWhole_whole _) iM (Memref.isWhole_whole _)
    cc0_scoped1 rM (Memref.isWhole_whole _) cc0_scoped3 cc0_scoped4 cc0_scoped5 v4 k a

set_option maxHeartbeats 4000000 in
set_option maxRecDepth 65536 in
/-- Trip `k`'s region: its three checks, then its transfers. -/
theorem trip_eq (k : Fin k0_t1_loop.trips) :
    tripP (F := F) L (v4L L) k (args k.val)
      = (Prog.lift (TpuEff.assume (k0_chk3 (args k.val).2.1) (k0_chk3.dec _)) >>= fun _ =>
          Prog.lift (TpuEff.assume (k0_chk2 (args k.val).2.2.1) (k0_chk2.dec _)) >>= fun _ =>
          Prog.lift (TpuEff.assume (k0_chk1 L k (args k.val).1 (args k.val).2.1 (args k.val).2.2.1 (args k.val).2.2.2.1 (args k.val).2.2.2.2)
            (k0_chk1.dec _ _ _ _ _ _ _)) >>= fun _ => tripC L k.val) := by
  have hk : k.val < 32 := lt_of_lt_of_eq k.isLt trips_eq
  have c1 : k0_cond1 L k (BitVec.ofNat 32 (k.val % 32)) = if k.val < 31 then 1#1 else 0#1 := cond1_eq L k
  have c2 : k0_cond2 L k (BitVec.ofNat 32 (k.val % 32)) = 1#1 := cond2_eq L k
  have c5 : k0_cond5 L k (BitVec.ofNat 32 (k.val % 32)) = 1#1 := cond5_eq L k
  have c7 : k0_cond7 L k (BitVec.ofNat 32 (k.val % 32)) = if 0 < k.val then 1#1 else 0#1 := cond7_eq L k
  have e7 : k0_off7 (BitVec.ofNat 32 k.val) = ![(pr k.val).val, 0, 0] := off7_eq ⟨k.val, hk⟩
  have e9 : k0_off9 (BitVec.ofNat 32 k.val) = ![(pr k.val).val] := off9_eq ⟨k.val, hk⟩
  have e10 : k0_off10 (BitVec.ofNat 32 k.val) = ![(pr k.val).val, 0, 0] := off10_eq ⟨k.val, hk⟩
  have e11 : k0_off11 (BitVec.ofNat 32 k.val) = ![(pr k.val).val, 0, 0] := off11_eq ⟨k.val, hk⟩
  have e12 : k0_off12 (BitVec.ofNat 32 k.val) = ![(pr k.val).val, 0, 0] := off12_eq ⟨k.val, hk⟩
  have e14 : k0_off14 (BitVec.ofNat 32 k.val) = ![(pr k.val).val] := off14_eq ⟨k.val, hk⟩
  have e8 : k0_off8 L (BitVec.ofNat 32 (k.val % 32)) = ![0, 128 * (bk L k.val).val] := off8_eq L ⟨k.val, hk⟩
  have e13 : k0_off13 L (BitVec.ofNat 32 (k.val % 32)) = ![128 * (bk L k.val).val, 0] := off13_eq L ⟨k.val, hk⟩
  have e15 : k0_off15 (BitVec.ofNat 32 (k.val - 1)) = ![(pr (k.val - 1)).val, 0, 0] := off15_eq ⟨k.val, hk⟩
  have e17 : k0_off17 (BitVec.ofNat 32 (k.val - 1)) = ![(pr (k.val - 1)).val] := off17_eq ⟨k.val, hk⟩
  unfold tripP k0_t1_body
  simp only [k0_part1_eq_skeleton, k0_part2_eq_skeleton, k0_part3_eq_skeleton, k0_part1_skel, k0_part2_skel, k0_part3_skel,
    bind_assoc, pure_bind, ite_self]
  refine congrArg _ (funext fun h3 => congrArg _ (funext fun h2 => congrArg _ (funext fun h1 => ?_)))
  have hI := fun h h1 h2 q q1 w w1 => waitI_of (F := F) L h h1 h2 q q1 w w1 (pr k.val) (bk L k.val) e7 e8 e9
  have hO := fun h h1 h2 q q1 w w1 t => enqO_of (F := F) L h h1 h2 q q1 w w1 t (pr k.val) (bk L k.val) e12 e13 e14
  have bnd : ∀ {α β : Type} {x y : Pg F L α} {f g : α → Pg F L β}, x = y → (∀ a, f a = g a) → (x >>= f) = (y >>= g) :=
    fun hx hf => by rw [hx, funext hf]
  rcases Nat.lt_or_ge k.val 31 with h31 | h31
  · have c1' : k0_cond1 L k (BitVec.ofNat 32 (k.val % 32)) = 1#1 := by rw [c1, if_pos h31]
    have e4 : k0_off4 (BitVec.ofNat 32 (min (k.val + 1) 32)) = ![(pr (k.val + 1)).val, 0, 0] := off4_eq ⟨k.val, h31⟩
    have e6 : k0_off6 (BitVec.ofNat 32 (min (k.val + 1) 32)) = ![(pr (k.val + 1)).val] := off6_eq ⟨k.val, h31⟩
    have e5 : k0_off5 L (BitVec.ofNat 32 (k.val % 32)) = ![0, 128 * (bk L (k.val + 1)).val] := off5_eq L ⟨k.val, h31⟩
    rcases Nat.eq_zero_or_pos k.val with h0 | h0
    · have c7' : ¬ k0_cond7 L k (BitVec.ofNat 32 (k.val % 32)) = 1#1 := by rw [c7, if_neg (by omega)]; decide
      simp only [tripC, if_pos h31, dif_pos c1', dif_pos c2, dif_pos c5, if_neg (Nat.not_lt.2 (Nat.le_of_eq h0)), dif_neg c7', bind_assoc, pure_bind]
      refine bnd (enqI_of L _ _ _ _ _ _ _ _ _ _ e4 e5 e6) fun _ => bnd (hI _ _ _ _ _ _ _) fun _ =>
        bnd (enqG_of L _ _ _ 0 e10 e11) fun _ => bnd (waitG_of L _ _ 0 e10) fun _ =>
        bnd (enqG_of L _ _ _ 1 e10 e11) fun _ => bnd (waitG_of L _ _ 1 e10) fun _ =>
        bnd (hO _ _ _ _ _ _ _ _) fun _ => congrArg _ ?_
      clear * -
      revert L k; exact ret_eq
    · have c7' : k0_cond7 L k (BitVec.ofNat 32 (k.val % 32)) = 1#1 := by rw [c7, if_pos h0]
      have e16 : k0_off16 L (BitVec.ofNat 32 (k.val % 32)) = ![128 * (bk L (k.val - 1)).val, 0] := off16_eq L ⟨k.val, hk⟩ h0
      simp only [tripC, if_pos h31, dif_pos c1', dif_pos c2, dif_pos c5, if_pos h0, dif_pos c7', bind_assoc, pure_bind]
      refine bnd (enqI_of L _ _ _ _ _ _ _ _ _ _ e4 e5 e6) fun _ => bnd (hI _ _ _ _ _ _ _) fun _ =>
        bnd (enqG_of L _ _ _ 0 e10 e11) fun _ => bnd (waitG_of L _ _ 0 e10) fun _ =>
        bnd (enqG_of L _ _ _ 1 e10 e11) fun _ => bnd (waitG_of L _ _ 1 e10) fun _ =>
        bnd (hO _ _ _ _ _ _ _ _) fun _ => bnd (waitO_of L _ _ _ _ _ _ _ _ _ e15 e16 e17) fun _ => congrArg _ ?_
      clear * -
      revert L k; exact ret_eq
  · have c1' : ¬ k0_cond1 L k (BitVec.ofNat 32 (k.val % 32)) = 1#1 := by rw [c1, if_neg (by omega)]; decide
    have h0 : 0 < k.val := by omega
    have c7' : k0_cond7 L k (BitVec.ofNat 32 (k.val % 32)) = 1#1 := by rw [c7, if_pos h0]
    have e16 : k0_off16 L (BitVec.ofNat 32 (k.val % 32)) = ![128 * (bk L (k.val - 1)).val, 0] := off16_eq L ⟨k.val, hk⟩ h0
    simp only [tripC, if_neg (Nat.not_lt.2 h31), dif_neg c1', dif_pos c2, dif_pos c5, if_pos h0, dif_pos c7', bind_assoc, pure_bind]
    refine bnd (hI _ _ _ _ _ _ _) fun _ =>
      bnd (enqG_of L _ _ _ 0 e10 e11) fun _ => bnd (waitG_of L _ _ 0 e10) fun _ =>
      bnd (enqG_of L _ _ _ 1 e10 e11) fun _ => bnd (waitG_of L _ _ 1 e10) fun _ =>
      bnd (hO _ _ _ _ _ _ _ _) fun _ => bnd (waitO_of L _ _ _ _ _ _ _ _ _ e15 e16 e17) fun _ => congrArg _ ?_
    clear * -
    revert L k; exact ret_eq

/-- After the loop: the checks of the last block's place, then the last write-out's wait. -/
def tailP (a : BitVec 32 × BitVec 32 × BitVec 32 × BitVec 32 × BitVec 32) : Pg F L PUnit :=
  Prog.lift (TpuEff.assume (k0_chk5 L a.2.2.2.2) (k0_chk5.dec L a.2.2.2.2)) >>= fun h5 =>
  Prog.lift (TpuEff.assume (k0_chk4 a.2.2.2.1) (k0_chk4.dec a.2.2.2.1)) >>= fun h4 =>
  Prog.lift (.waitDma2 ((cc0_scoped3.slice (Rect.unit (s := S2) (k0_off20 a.2.2.2.1) S1.size (k0_off20_inb _ h4.down))).squeeze S_ squeezes_S1_S_).sem
        (((rM).slice (Rect.unit (s := S2x128x256) (k0_off21 a.2.2.2.1) S1x128x256.size (k0_off21_inb _ h4.down)) (fun _ => rfl)).squeeze S128x256 squeezes_S1x128x256_S128x256)
        ((oM).slice (Rect.unit (s := S131072x256) (k0_off19 L a.2.2.2.2) S128x256.size (k0_off19_inb _ _ h5.down)) (fun _ => rfl))
        ((View.wordExact_bits rfl).reshape _ _) (View.wordExact_bits rfl)) >>= fun _ => pure ⟨⟩

omit [FloatOps F] in
theorem tail_eq : tailP (F := F) L (args 32)
    = (Prog.lift (TpuEff.assume (k0_chk5 L (args 32).2.2.2.2) (k0_chk5.dec L (args 32).2.2.2.2)) >>= fun _ =>
        Prog.lift (TpuEff.assume (k0_chk4 (args 32).2.2.2.1) (k0_chk4.dec (args 32).2.2.2.1)) >>= fun _ =>
        waitO L 1 (bk L 31) >>= fun _ => pure ⟨⟩) := by
  unfold tailP
  exact congrArg _ (funext fun h5 => congrArg _ (funext fun h4 => congrArg (· >>= _)
    (waitO_of (F := F) L (k0_off21_inb _ h4.down) (k0_off19_inb _ _ h5.down) (k0_off20_inb _ h4.down) (fun _ => rfl) (fun _ => rfl)
      ((View.wordExact_bits rfl).reshape _ _) (View.wordExact_bits rfl) 1 (bk L 31) off21_eq (off19_eq L) off20_eq)))

set_option maxHeartbeats 4000000 in
set_option maxRecDepth 65536 in
/-- The kernel's body on a tile: the first index copy, the loop, the last wait. -/
theorem body_eq :
    cc0_moe_return_sc (F := F) L yM (Memref.isWhole_whole _) nM (Memref.isWhole_whole _) oM (Memref.isWhole_whole _) iM (Memref.isWhole_whole _)
        cc0_scoped1 rM (Memref.isWhole_whole _) cc0_scoped3 cc0_scoped4 cc0_scoped5
      = (enqI L 0 (bk L 0) >>= fun _ => Scf.Loop.for k0_t1_loop k0_t1_ok (args 0) (tripP (F := F) L (v4L L)) >>= fun a => tailP L a) := by
  simp only [cc0_moe_return_sc_eq_skeleton, cc0_moe_return_sc_skel, k0_part4_eq_skeleton, k0_part5_eq_skeleton, k0_part4_skel, k0_part5_skel,
    bind_assoc, pure_bind]
  have bnd : ∀ {α β : Type} {x y : Pg F L α} {f g : α → Pg F L β}, x = y → (∀ a, f a = g a) → (x >>= f) = (y >>= g) :=
    fun hx hf => by rw [hx, funext hf]
  refine bnd (enqI_of L _ _ _ _ _ _ _ _ 0 _ k0_off1_eq (off2_eq L) k0_off3_eq) fun _ => ?_
  exact bnd rfl fun a => rfl

end Cert.Proof.Rows
-- ==== Proof.Ring.lean ====
/-
  The slots' and blocks' elements, and what the transfers put there: index slot, row slot and result block as functions
  of the rows gathered from and of the row numbers.
-/
module

public import proofs.«01_k».proof.Proof.Trip
public import Idealize.ShloMosaic.Lib.ValueLayout

@[expose] public section

noncomputable section

namespace Cert.Proof.Rows

open Cert.KernelIdeal Cert.KernelIdeal.Gen

open Idealize.ShloMosaic Idealize.ShloMosaic.ValueIdx
open Idealize.SL Idealize.SL.Sem

variable {F : FTy → Type}

/-! ## Contents -/

/-- Entry `t` of block `b`. -/
def bix (b : Fin 1024) (t : Fin 128) : Fin 131072 := ⟨128 * b.val + t.val, by omega⟩
/-- Column `t` of half `h`. -/
def hix (h : Fin 2) (t : Fin 128) : Fin 256 := ⟨128 * h.val + t.val, by omega⟩

section Contents
variable (fY : S196608x256.Idx → Elt F .i32) (fI : S1x131072.Idx → Elt F .i32) (hI : ∀ j, (fI j : BitVec 32).toNat < 196608)

/-- The row number at place `n`. -/
def rowNo (n : Fin 131072) : Fin 196608 := ⟨(fI (ix2 (n0 := 1) (n1 := 131072) 0 n) : BitVec 32).toNat, hI _⟩
/-- The result: row `n` is the row numbered at place `n`. -/
def G : S131072x256.Idx → Elt F .i32 := fun i => fY (ix2 (n0 := 196608) (n1 := 256) (rowNo fI hI (i 0)) (i 1))
/-- An index slot holding block `b`'s row numbers; a row slot holding block `b`'s rows. -/
def iC (b : Fin 1024) : S2x1x128.Idx → Elt F .i32 := fun i => fI (ix2 (n0 := 1) (n1 := 131072) 0 (bix b (i 2)))
def rC (b : Fin 1024) : S2x128x256.Idx → Elt F .i32 := fun i => G fY fI hI (ix2 (n0 := 131072) (n1 := 256) (bix b (i 1)) (i 2))
end Contents

/-! ## Where the views' indices lie -/

theorem nBk_emb (b : Fin 1024) (x : S1x128.Idx) : ((nBk b).view.emb x : S1x131072.Idx) = ix2 (n0 := 1) (n1 := 131072) (x 0) (bix b (x 1)) := by
  funext a; match a with
  | 0 => exact Fin.ext (show 0 + 1 * (x 0).val = (x 0).val by omega)
  | 1 => exact Fin.ext (show 128 * b.val + 1 * (x 1).val = 128 * b.val + (x 1).val by omega)
theorem oBk_emb (b : Fin 1024) (x : S128x256.Idx) : ((oBk b).view.emb x : S131072x256.Idx) = ix2 (n0 := 131072) (n1 := 256) (bix b (x 0)) (x 1) := by
  funext a; match a with
  | 0 => exact Fin.ext (show 128 * b.val + 1 * (x 0).val = 128 * b.val + (x 0).val by omega)
  | 1 => exact Fin.ext (show 0 + 1 * (x 1).val = (x 1).val by omega)
theorem yHf_emb (h : Fin 2) (x : S196608x128.Idx) : ((yHf h).view.emb x : S196608x256.Idx) = ix2 (n0 := 196608) (n1 := 256) (x 0) (hix h (x 1)) := by
  funext a; match a with
  | 0 => exact Fin.ext (show 0 + 1 * (x 0).val = (x 0).val by omega)
  | 1 => exact Fin.ext (show 128 * h.val + 1 * (x 1).val = 128 * h.val + (x 1).val by omega)

theorem iSq (x : S1x128.Idx) : Shape.reshapeEquiv squeezes_S1x1x128_S1x128.numel_eq x = (ix3 (n0 := 1) (n1 := 1) (n2 := 128) 0 (x 0) (x 1) : S1x1x128.Idx) :=
  Shape.reshapeEquiv_eq_of_rowMajor _ (by
    rw [Shape.rowMajor_val_three, Shape.rowMajor_val_two]; show ((0 * 1 + (x 0).val) * 128 + (x 1).val) = (x 0).val * 128 + (x 1).val; omega)
theorem rSq (x : S128x256.Idx) : Shape.reshapeEquiv squeezes_S1x128x256_S128x256.numel_eq x = (ix3 (n0 := 1) (n1 := 128) (n2 := 256) 0 (x 0) (x 1) : S1x128x256.Idx) :=
  Shape.reshapeEquiv_eq_of_rowMajor _ (by
    rw [Shape.rowMajor_val_three, Shape.rowMajor_val_two]; show ((0 * 128 + (x 0).val) * 256 + (x 1).val) = (x 0).val * 256 + (x 1).val; omega)
theorem lSq (x : S128.Idx) : Shape.reshapeEquiv squeezes_S1x128_S128.numel_eq x = (ix2 (n0 := 1) (n1 := 128) 0 (x 0) : S1x128.Idx) :=
  Shape.reshapeEquiv_eq_of_rowMajor _ (by
    rw [Shape.rowMajor_val_two, Shape.rowMajor_val_one]; show 0 * 128 + (x 0).val = (x 0).val; omega)

theorem iSl_emb (p : Fin 2) (x : S1x128.Idx) : ((iSl p).view.emb x : S2x1x128.Idx) = ix3 (n0 := 2) (n1 := 1) (n2 := 128) p (x 0) (x 1) := by
  show (Rect.unit (s := S2x1x128) ![p.val, 0, 0] S1x1x128.size (inbI p)).emb (Shape.reshapeEquiv squeezes_S1x1x128_S1x128.numel_eq x) = _
  rw [iSq]
  funext a; match a with
  | 0 => exact Fin.ext (show p.val + 1 * 0 = p.val by omega)
  | 1 => exact Fin.ext (show 0 + 1 * (x 0).val = (x 0).val by omega)
  | 2 => exact Fin.ext (show 0 + 1 * (x 1).val = (x 1).val by omega)
theorem rSl_emb (p : Fin 2) (x : S128x256.Idx) : ((rSl p).view.emb x : S2x128x256.Idx) = ix3 (n0 := 2) (n1 := 128) (n2 := 256) p (x 0) (x 1) := by
  show (Rect.unit (s := S2x128x256) ![p.val, 0, 0] S1x128x256.size (inbR p)).emb (Shape.reshapeEquiv squeezes_S1x128x256_S128x256.numel_eq x) = _
  rw [rSq]
  funext a; match a with
  | 0 => exact Fin.ext (show p.val + 1 * 0 = p.val by omega)
  | 1 => exact Fin.ext (show 0 + 1 * (x 0).val = (x 0).val by omega)
  | 2 => exact Fin.ext (show 0 + 1 * (x 1).val = (x 1).val by omega)
theorem iLs_emb (p : Fin 2) (x : S128.Idx) : ((iLs p).view.emb x : S2x1x128.Idx) = ix3 (n0 := 2) (n1 := 1) (n2 := 128) p 0 (x 0) := by
  show ((iSl p).view.emb ((Rect.unit (s := S1x128) ![0, 0] S1x128.size inb_S1x128_S1x128_0_0).emb (Shape.reshapeEquiv squeezes_S1x128_S128.numel_eq x)) : S2x1x128.Idx) = _
  rw [lSq, iSl_emb]
  funext a; match a with
  | 0 => rfl
  | 1 => exact Fin.ext (show 0 + 1 * 0 = 0 by omega)
  | 2 => exact Fin.ext (show 0 + 1 * (x 0).val = (x 0).val by omega)
theorem rHf_emb (p h : Fin 2) (x : S128x128.Idx) : ((rHf p h).view.emb x : S2x128x256.Idx) = ix3 (n0 := 2) (n1 := 128) (n2 := 256) p (x 0) (hix h (x 1)) := by
  show ((rSl p).view.emb ((Rect.unit (s := S128x256) ![0, 128 * h.val] S128x128.size (inbH h)).emb x) : S2x128x256.Idx) = _
  rw [rSl_emb]
  funext a; match a with
  | 0 => rfl
  | 1 => exact Fin.ext (show 0 + 1 * (x 0).val = (x 0).val by omega)
  | 2 => exact Fin.ext (show 128 * h.val + 1 * (x 1).val = 128 * h.val + (x 1).val by omega)

/-! ## The elements -/

theorem mem_set_iff {sp : Space} {s : Shape} {e : EltTy} {κ : Kind} (v : View sig κ sp s e) (i : v.ty.Idx) : i ∈ v.set ↔ ∃ x, v.emb x = i := by
  simp [View.set]

theorem mem_iSl (p : Fin 2) (i : S2x1x128.Idx) : i ∈ (iSl p).view.set ↔ i 0 = p := by
  refine (mem_set_iff (iSl p).view i).trans ⟨?_, fun h => ?_⟩
  · rintro ⟨x, rfl⟩; exact congrFun (iSl_emb p x) 0
  · refine ⟨ix2 (n0 := 1) (n1 := 128) (i 1) (i 2), (iSl_emb p _).trans ?_⟩
    funext a; match a with
    | 0 => exact h.symm
    | 1 => rfl
    | 2 => rfl
theorem mem_rSl (p : Fin 2) (i : S2x128x256.Idx) : i ∈ (rSl p).view.set ↔ i 0 = p := by
  refine (mem_set_iff (rSl p).view i).trans ⟨?_, fun h => ?_⟩
  · rintro ⟨x, rfl⟩; exact congrFun (rSl_emb p x) 0
  · refine ⟨ix2 (n0 := 128) (n1 := 256) (i 1) (i 2), (rSl_emb p _).trans ?_⟩
    funext a; match a with
    | 0 => exact h.symm
    | 1 => rfl
    | 2 => rfl
theorem mem_rHf (p h : Fin 2) (i : S2x128x256.Idx) : i ∈ (rHf p h).view.set ↔ i 0 = p ∧ 128 * h.val ≤ (i 2).val ∧ (i 2).val < 128 * h.val + 128 := by
  refine (mem_set_iff (rHf p h).view i).trans ⟨?_, fun ⟨h0, h1, h2⟩ => ?_⟩
  · rintro ⟨x, rfl⟩
    have e := rHf_emb p h x
    have hx : (x 1).val < 128 := (x 1).isLt
    refine ⟨congrFun e 0, ?_⟩
    have e2 := congrArg Fin.val (congrFun e 2)
    have e3 : (((rHf p h).view.emb x : S2x128x256.Idx) 2).val = 128 * h.val + (x 1).val := e2
    omega
  · refine ⟨ix2 (n0 := 128) (n1 := 128) (i 1) ⟨(i 2).val - 128 * h.val, by omega⟩, (rHf_emb p h _).trans ?_⟩
    funext a; match a with
    | 0 => exact h0.symm
    | 1 => rfl
    | 2 => exact Fin.ext (show 128 * h.val + ((i 2).val - 128 * h.val) = (i 2).val by omega)
theorem mem_oBk (b : Fin 1024) (i : S131072x256.Idx) : i ∈ (oBk b).view.set ↔ 128 * b.val ≤ (i 0).val ∧ (i 0).val < 128 * b.val + 128 := by
  refine (mem_set_iff (oBk b).view i).trans ⟨?_, fun ⟨h1, h2⟩ => ?_⟩
  · rintro ⟨x, rfl⟩
    have hx : (x 0).val < 128 := (x 0).isLt
    have e3 : (((oBk b).view.emb x : S131072x256.Idx) 0).val = 128 * b.val + (x 0).val := congrArg Fin.val (congrFun (oBk_emb b x) 0)
    omega
  · refine ⟨ix2 (n0 := 128) (n1 := 256) ⟨(i 0).val - 128 * b.val, by omega⟩ (i 1), (oBk_emb b _).trans ?_⟩
    funext a; match a with
    | 0 => exact Fin.ext (show 128 * b.val + ((i 0).val - 128 * b.val) = (i 0).val by omega)
    | 1 => rfl

theorem set_iLs (p : Fin 2) : (iLs p).view.set = (iSl p).view.set := by
  ext i
  refine (mem_set_iff (iLs p).view i).trans (Iff.trans ⟨?_, fun h => ?_⟩ (mem_iSl p i).symm)
  · rintro ⟨x, rfl⟩; exact congrFun (iLs_emb p x) 0
  · have h1 : (i 1).val < 1 := (i 1).isLt
    refine ⟨ix1 (n := 128) (i 2), (iLs_emb p _).trans ?_⟩
    funext a; match a with
    | 0 => exact h.symm
    | 1 => exact Fin.ext (show 0 = (i 1).val by omega)
    | 2 => rfl

theorem iSl_disj : Disjoint (iSl 0).view.set (iSl 1).view.set :=
  Finset.disjoint_left.mpr fun i h0 h1 => absurd (((mem_iSl 0 i).1 h0).symm.trans ((mem_iSl 1 i).1 h1)) (show ¬ ((0 : Fin 2) = 1) by decide)
theorem rSl_disj : Disjoint (rSl 0).view.set (rSl 1).view.set :=
  Finset.disjoint_left.mpr fun i h0 h1 => absurd (((mem_rSl 0 i).1 h0).symm.trans ((mem_rSl 1 i).1 h1)) (show ¬ ((0 : Fin 2) = 1) by decide)
theorem iSl_union : (iSl 0).view.set ∪ (iSl 1).view.set = (Finset.univ : Finset S2x1x128.Idx) := by
  ext i
  refine ⟨fun _ => Finset.mem_univ _, fun _ => Finset.mem_union.mpr ?_⟩
  have : (i 0).val < 2 := (i 0).isLt
  rcases Nat.lt_or_ge (i 0).val 1 with h | h
  · exact .inl ((mem_iSl 0 i).2 (Fin.ext (by show (i 0).val = 0; omega)))
  · exact .inr ((mem_iSl 1 i).2 (Fin.ext (by show (i 0).val = 1; omega)))
theorem rSl_union : (rSl 0).view.set ∪ (rSl 1).view.set = (Finset.univ : Finset S2x128x256.Idx) := by
  ext i
  refine ⟨fun _ => Finset.mem_univ _, fun _ => Finset.mem_union.mpr ?_⟩
  have : (i 0).val < 2 := (i 0).isLt
  rcases Nat.lt_or_ge (i 0).val 1 with h | h
  · exact .inl ((mem_rSl 0 i).2 (Fin.ext (by show (i 0).val = 0; omega)))
  · exact .inr ((mem_rSl 1 i).2 (Fin.ext (by show (i 0).val = 1; omega)))
theorem rHf_disj (p : Fin 2) : Disjoint (rHf p 0).view.set (rHf p 1).view.set :=
  Finset.disjoint_left.mpr fun i h0 h1 => by
    have a := ((mem_rHf p 0 i).1 h0).2.2; have b := ((mem_rHf p 1 i).1 h1).2.1
    have a' : (i 2).val < 128 := a
    have b' : 128 ≤ (i 2).val := b
    omega
theorem rHf_union (p : Fin 2) : (rHf p 0).view.set ∪ (rHf p 1).view.set = (rSl p).view.set := by
  ext i
  refine Finset.mem_union.trans (Iff.trans ⟨?_, fun h => ?_⟩ (mem_rSl p i).symm)
  · rintro (h | h)
    · exact ((mem_rHf p 0 i).1 h).1
    · exact ((mem_rHf p 1 i).1 h).1
  · have : (i 2).val < 256 := (i 2).isLt
    rcases Nat.lt_or_ge (i 2).val 128 with h2 | h2
    · exact .inl ((mem_rHf p 0 i).2 ⟨h, by show 128 * 0 ≤ (i 2).val; omega, by show (i 2).val < 128 * 0 + 128; omega⟩)
    · exact .inr ((mem_rHf p 1 i).2 ⟨h, by show 128 * 1 ≤ (i 2).val; omega, by show (i 2).val < 128 * 1 + 128; omega⟩)

/-- Rows of the result from block `a` up to block `b` of the task at `L`. -/
def oRows (L : grid0.Coords) (a b : ℕ) : Finset S131072x256.Idx :=
  Finset.univ.filter fun i => 128 * (32 * ((L 1).val + 16 * (L 0).val) + a) ≤ (i 0).val ∧ (i 0).val < 128 * (32 * ((L 1).val + 16 * (L 0).val) + b)

theorem mem_oRows {L : grid0.Coords} {a b : ℕ} {i : S131072x256.Idx} : i ∈ oRows L a b ↔
    128 * (32 * ((L 1).val + 16 * (L 0).val) + a) ≤ (i 0).val ∧ (i 0).val < 128 * (32 * ((L 1).val + 16 * (L 0).val) + b) := by
  simp [oRows]

theorem bk_val (L : grid0.Coords) {k : ℕ} (hk : k < 32) : (bk L k).val = 32 * ((L 1).val + 16 * (L 0).val) + k := by
  have h0 : (L 0).val < 2 := (L 0).isLt
  have h1 : (L 1).val < 16 := (L 1).isLt
  exact Nat.mod_eq_of_lt (by omega)

theorem oRows_empty (L : grid0.Coords) (a : ℕ) : oRows L a a = ∅ := by
  ext i; simp only [mem_oRows, Finset.notMem_empty, iff_false]; omega
theorem oRows_first (L : grid0.Coords) {k : ℕ} (hk : k < 32) : oRows L k 32 = (oBk (bk L k)).view.set ∪ oRows L (k + 1) 32 := by
  ext i; rw [Finset.mem_union, mem_oRows, mem_oRows]
  refine Iff.trans ?_ (or_congr (mem_oBk (bk L k) i).symm Iff.rfl)
  rw [bk_val L hk]; omega
theorem oRows_first_disj (L : grid0.Coords) {k : ℕ} (hk : k < 32) : Disjoint (oBk (bk L k)).view.set (oRows L (k + 1) 32) :=
  Finset.disjoint_left.mpr fun i h0 h1 => by
    have a := (mem_oBk (bk L k) i).1 h0; have b := mem_oRows.1 h1; rw [bk_val L hk] at a; omega
theorem oRows_last (L : grid0.Coords) {k : ℕ} (hk : k < 32) : oRows L 0 (k + 1) = oRows L 0 k ∪ (oBk (bk L k)).view.set := by
  ext i; rw [Finset.mem_union, mem_oRows, mem_oRows]
  refine Iff.trans ?_ (or_congr Iff.rfl (mem_oBk (bk L k) i).symm)
  rw [bk_val L hk]; omega
theorem oRows_last_disj (L : grid0.Coords) {k : ℕ} (hk : k < 32) : Disjoint (oRows L 0 k) (oBk (bk L k)).view.set :=
  Finset.disjoint_left.mpr fun i h1 h0 => by
    have a := (mem_oBk (bk L k) i).1 h0; have b := mem_oRows.1 h1; rw [bk_val L hk] at a; omega

/-! ## What the transfers write -/

/-- What a transfer writes through a view is a function on the buffer where that function, read through the view, is
    what it writes. -/
theorem write_eq_on {sp : Space} {s : Shape} {e : EltTy} {κ : Kind} (v : View sig κ sp s e) (f g : v.ty.Contents (Elt F)) (w : s.Idx → Elt F e)
    (h : ∀ x, v.read (Elt F) g x = w x) : ∀ i ∈ v.set, v.write (Elt F) f w Finset.univ i = g i := by
  intro i hi
  obtain ⟨x, rfl⟩ := (mem_set_iff v i).1 hi
  exact (View.write_emb_of_mem (v := v) f w (Finset.mem_univ x)).trans (by rw [← h x, View.read_apply, cast_cast, cast_eq])

section Values
variable (fY : S196608x256.Idx → Elt F .i32) (fI : S1x131072.Idx → Elt F .i32) (hI : ∀ j, (fI j : BitVec 32).toNat < 196608)

theorem read_nBk (b : Fin 1024) (p : Fin 2) (x : S1x128.Idx) :
    (iSl p).view.read (Elt F) (iC fI b) x = (nBk b).view.read (Elt F) fI x := by
  have hx : (x 0).val < 1 := (x 0).isLt
  refine ((View.read_apply _ _).trans (cast_eq _ _)).trans (Eq.trans ?_ ((View.read_apply _ _).trans (cast_eq _ _)).symm)
  refine (congrArg (iC fI b) (iSl_emb p x)).trans (Eq.trans ?_ (congrArg fI (nBk_emb b x)).symm)
  refine congrArg fI ?_
  funext a; match a with
  | 0 => exact Fin.ext (show 0 = (x 0).val by omega)
  | 1 => rfl
theorem read_iLs (b : Fin 1024) (p : Fin 2) (x : S128.Idx) :
    ((iLs p).view.read (Elt F) (iC fI b) x : Elt F .i32) = fI (ix2 (n0 := 1) (n1 := 131072) 0 (bix b (x 0))) :=
  ((View.read_apply _ _).trans (cast_eq _ _)).trans (congrArg (iC fI b) (iLs_emb p x))
theorem read_oBk (b : Fin 1024) (p : Fin 2) (x : S128x256.Idx) :
    (oBk b).view.read (Elt F) (G fY fI hI) x = (rSl p).view.read (Elt F) (rC fY fI hI b) x := by
  refine ((View.read_apply _ _).trans (cast_eq _ _)).trans (Eq.trans ?_ ((View.read_apply _ _).trans (cast_eq _ _)).symm)
  exact (congrArg (G fY fI hI) (oBk_emb b x)).trans (congrArg (rC fY fI hI b) (rSl_emb p x)).symm
include hI in
theorem iLs_lt (b : Fin 1024) (p : Fin 2) (x : S128.Idx) :
    ((iLs p).view.read (Elt F) (iC fI b) x : BitVec 32).toNat < S196608x128.size gathers_S196608x128_S128x128.axis :=
  lt_of_eq_of_lt (congrArg BitVec.toNat (read_iLs fI b p x)) (hI _)
theorem read_rHf (b : Fin 1024) (p h : Fin 2) (x : S128x128.Idx) :
    (rHf p h).view.read (Elt F) (rC fY fI hI b) x
      = SparseCore.gatherPayload gathers_S196608x128_S128x128 ((yHf h).view.read (Elt F) fY)
          (SparseCore.rows ((iLs p).view.read (Elt F) (iC fI b)) rfl (iLs_lt fI hI b p)) x := by
  unfold SparseCore.gatherPayload
  refine ((View.read_apply _ _).trans (cast_eq _ _)).trans (Eq.trans ?_ ((View.read_apply _ _).trans (cast_eq _ _)).symm)
  refine (congrArg (rC fY fI hI b) (rHf_emb p h x)).trans (Eq.trans ?_ (congrArg fY (yHf_emb h _)).symm)
  refine congrArg fY ?_
  set r := SparseCore.rows ((iLs p).view.read (Elt F) (iC fI b)) rfl (iLs_lt fI hI b p) with hr
  have e0 : ((gathers_S196608x128_S128x128.idx r x 0 : Fin 196608) : ℕ) = (rowNo fI hI (bix b (x 0))).val := by
    have e := congrArg Fin.val (Shape.Gathers.idx_axis gathers_S196608x128_S128x128 r x)
    refine Eq.trans e ?_
    show BitVec.toNat ((iLs p).view.read (Elt F) (iC fI b) (S128.rowMajor.symm (x 0)) : BitVec 32) = BitVec.toNat (fI (ix2 (n0 := 1) (n1 := 131072) 0 (bix b (x 0))) : BitVec 32)
    refine congrArg (fun v : BitVec 32 => v.toNat) ((read_iLs fI b p (S128.rowMajor.symm (x 0))).trans (congrArg fI ?_))
    refine congrArg (fun t : Fin 128 => (ix2 (n0 := 1) (n1 := 131072) 0 (bix b t))) ?_
    have e2 : ((S128.rowMajor.symm (x 0)) 0 : Fin 128).val = (x 0).val :=
      (Shape.rowMajor_val_one _).symm.trans (congrArg Fin.val (S128.rowMajor.apply_symm_apply (x 0)))
    exact Fin.ext e2
  have e1 : ((gathers_S196608x128_S128x128.idx r x 1 : Fin 128) : ℕ) = (x 1).val :=
    Shape.Gathers.idx_of_ne gathers_S196608x128_S128x128 r x 1 (by decide)
  funext a; match a with
  | 0 => exact Fin.ext e0.symm
  | 1 => exact congrArg (hix h) (Fin.ext e1.symm)
end Values

end Cert.Proof.Rows
-- ==== Proof.Tile.lean ====
/-
  One task's program logic: each transfer's rule over the slots' states, and the loop's invariant.
-/
module

public import proofs.«01_k».proof.Proof.Ring

@[expose] public section

noncomputable section

namespace Cert.Proof.Rows

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev yLoc (d : Dev nD) : Loc nD τ sig := (SparseCore.T d).loc main_v0
abbrev nLoc (d : Dev nD) : Loc nD τ sig := (SparseCore.T d).loc main_v9
abbrev oLoc (d : Dev nD) : Loc nD τ sig := (SparseCore.T d).loc main_v10

abbrev cV (L : grid0.Coords) : Fin τ.nSC := (L 0).castLE hcore0
abbrev jV (L : grid0.Coords) : Fin τ.nSub := (L 1).castLE hsub0
abbrev iLoc (d : Dev nD) (L : grid0.Coords) : Loc nD τ sig := (V d (cV L) (jV L)).loc cc0_scoped0
abbrev rLoc (d : Dev nD) (L : grid0.Coords) : Loc nD τ sig := (V d (cV L) (jV L)).loc cc0_scoped2

section Ops

variable [FloatOps F] (d : Dev nD) (L : grid0.Coords)
variable (fY : S196608x256.Idx → Elt F .i32) (fI : S1x131072.Idx → Elt F .i32) (hI : ∀ j, (fI j : BitVec 32).toNat < 196608)
variable (qy qn : PosShare TreeShare) (O : CellTallies nD τ sig (HIx 1)) (W : Waits sig (HIx 1))

/-- The share of the index row slot `p`'s copies read at. -/
def nq (p : Fin 2) : PosShare TreeShare := if p = 0 then qn.left else qn.right

/-! ## The slots' states -/

abbrev thr : Thread nD τ := V d (cV L) (jV L)

/-- Index slot `p` free; being filled with block `b`; filled. -/
def IIdle (p : Fin 2) : sProp 𝕄 :=
  iprop((∃ f, iLoc d L ↦[(iSl p).view.set]{fullShare} f) ∗ semVal (thr d L, .dma (cI p)) 0 ∗ nLoc d ↦{nq qn p} fI)
def IBusy (p : Fin 2) (b : Fin 1024) : sProp 𝕄 :=
  iprop(Transfers.Flight countersEmb (thr d L) (.dma (cI p)) (default : HIx 1) (iSl p).view.dmaCredit
      iprop((iLoc d L ↦[(iSl p).view.set]{fullShare} iC fI b) ∗ (nLoc d ↦[(nBk b).view.set]{nq qn p} fI))
    ∗ nLoc d ↦[Finset.univ \ (nBk b).view.set]{nq qn p} fI)
def IFull (p : Fin 2) (b : Fin 1024) : sProp 𝕄 :=
  iprop((iLoc d L ↦[(iSl p).view.set]{fullShare} iC fI b) ∗ semVal (thr d L, .dma (cI p)) 0 ∗ nLoc d ↦{nq qn p} fI)
/-- Row slot `p` free; filled with block `b`'s rows; being written out. -/
def RIdle (p : Fin 2) : sProp 𝕄 :=
  iprop((∃ f, rLoc d L ↦[(rSl p).view.set]{fullShare} f) ∗ semVal (thr d L, .dma (cO p)) 0)
def RFull (p : Fin 2) (b : Fin 1024) : sProp 𝕄 :=
  iprop((rLoc d L ↦[(rSl p).view.set]{fullShare} rC fY fI hI b) ∗ semVal (thr d L, .dma (cO p)) 0)
def RBusy (p : Fin 2) (b : Fin 1024) : sProp 𝕄 :=
  Transfers.Flight countersEmb (thr d L) (.dma (cO p)) (default : HIx 1) (oBk b).view.dmaCredit
      iprop((oLoc d ↦[(oBk b).view.set]{fullShare} G fY fI hI) ∗ (rLoc d L ↦[(rSl p).view.set]{fullShare} rC fY fI hI b))
/-- The rows gathered from, and the gathers' cells. -/
def GI : sProp 𝕄 :=
  iprop((yLoc d ↦{qy} fY) ∗ semVal (thr d L, .dma (cG 0)) 0 ∗ semVal (thr d L, .dma (cG 1)) 0)
/-- What the task owes and has waited for. -/
def OW : sProp 𝕄 :=
  iprop(Transfers.MayWaits (thr d L) (default : HIx 1) O ∗ ∃ W', ⌜∀ p ∈ W', p ∈ W ∨ p.2 = none⌝ ∗ owes (thr d L) O W')

/-! ## The rules -/

local notation "WP" => wp frame (wpE (defs₀ (F := F)) 𝒱₀ (V d (cV L) (jV L)) none) Set.univ

theorem enqI_wp (p : Fin 2) (b : Fin 1024) {α : Type} (k : PUnit → Pg F L α) (Q : α → sProp 𝕄) :
    IIdle d L fI qn p ⊢ iprop((IBusy d L fI qn p b -∗ WP (k ⟨⟩) Q) -∗ WP (enqI L p b >>= k) Q) := by
  unfold IIdle IBusy
  iintro ⟨⟨%f, Hi⟩, Hc, Hn⟩ Hk
  ihave Hns := (pointsTo_split_subset (q := nq qn p) (f := fI) (S := Finset.univ) (Finset.subset_univ (nBk b).view.set)).1 $$ Hn
  icases Hns with ⟨Hn, Hnr⟩
  have e : (enqI L p b >>= k : Pg F L α) = .op (.enqueueDma (nBk b) (.here (iSl p)) (.dma (cI p)) (View.wordExact_bits rfl) ((View.wordExact_bits rfl).reshape _ _) ⟨Or.inl rfl, trivial⟩) k := rfl
  rw [e]
  iapply (Transfers.wp_dmaLocal countersEmb 𝒱₀ (V d (cV L) (jV L)) none (default : HIx 1) (iSl p).view.dmaCredit (View.amount_dma _ _) (View.dmaCredit_pos _ (by decide))
    (Finset.Subset.refl (iSl p).view.set)) $$ [Hn Hi Hc]
  · isplitl [Hn]; · iexact Hn
    isplitl [Hi]; · iexact Hi
    iexact Hc
  iintro Hf
  iapply Hk
  isplitl [Hf]
  · iapply (Transfers.Flight_mono countersEmb (thr d L) ?_) $$ Hf
    refine BIClass.sep_mono (Entails.of_eq (pointsTo_congr ?_)) (Entails.refl _)
    exact write_eq_on (iSl p).view f (iC fI b) _ (fun x => read_nBk fI b p x)
  · iexact Hnr

theorem waitI_wp (p : Fin 2) (b : Fin 1024) {α : Type} (k : PUnit → Pg F L α) (Q : α → sProp 𝕄) :
    iprop(IBusy d L fI qn p b ∗ OW d L O W)
      ⊢ iprop((iprop(IFull d L fI qn p b ∗ OW d L O W) -∗ WP (k ⟨⟩) Q) -∗ WP (waitI L p b >>= k) Q) := by
  unfold IBusy IFull OW
  iintro ⟨⟨Hf, Hnr⟩, #Hmw, %W', %hW', HO⟩ Hk
  have e : (waitI L p b >>= k : Pg F L α) = .op (.waitDma2 (cI p) (nBk b) (iSl p) (View.wordExact_bits rfl) ((View.wordExact_bits rfl).reshape _ _)) k := rfl
  rw [e]
  iapply (Transfers.wp_waitLocalO countersEmb 𝒱₀ (V d (cV L) (jV L)) none (default : HIx 1) rfl) $$ [Hf HO]
  · isplitl [Hf]; · iexact Hf
    isplitl [HO]; · iexact HO
    iapply (Transfers.MayWaits.elim (SemLoc.dma (cI p))) $$ Hmw
  iintro ⟨⟨Hi, Hn⟩, Hc, HO⟩
  iapply Hk
  isplitl [Hi Hc Hn Hnr]
  · isplitl [Hi]; · iexact Hi
    isplitl [Hc]; · iexact Hc
    iapply (pointsTo_split_subset (q := nq qn p) (f := fI) (S := Finset.univ) (Finset.subset_univ (nBk b).view.set)).2
    isplitl [Hn]; · iexact Hn
    iexact Hnr
  · isplitr; · iexact Hmw
    iexists _
    isplitr
    swap; · iexact HO
    ipureintro; intro x hx
    rcases Finset.mem_insert.mp hx with hx | hx; · exact .inr (hx ▸ rfl)
    exact hW' x hx

theorem hNg : ∀ (p h : Fin 2), ∀ hg : S196608x128.Gathers 0 S128x128,
    ∑ j, ((rHf p h).slice (S128x128.rowRect hg.axis' j) (S128x128.stride_rowRect hg.axis' j)).view.dmaCredit = (rHf p h).view.dmaCredit := by decide

/-- One column half gathered and waited for. -/
theorem gather_wp (p h : Fin 2) (b : Fin 1024) {α : Type} (k : PUnit → Pg F L α) (Q : α → sProp 𝕄) (f : S2x128x256.Idx → Elt F .i32) :
    iprop((yLoc d ↦{qy} fY) ∗ semVal (thr d L, .dma (cG h)) 0 ∗ (iLoc d L ↦[(iSl p).view.set]{fullShare} iC fI b)
        ∗ (rLoc d L ↦[(rHf p h).view.set]{fullShare} f) ∗ OW d L O W)
      ⊢ iprop((iprop((yLoc d ↦{qy} fY) ∗ semVal (thr d L, .dma (cG h)) 0 ∗ (iLoc d L ↦[(iSl p).view.set]{fullShare} iC fI b)
        ∗ (rLoc d L ↦[(rHf p h).view.set]{fullShare} rC fY fI hI b) ∗ OW d L O W) -∗ WP (k ⟨⟩) Q)
        -∗ WP (enqG L p h >>= fun _ => waitG L p h >>= k) Q) := by
  unfold OW
  iintro ⟨Hy, Hc, Hi, Hr, #Hmw, %W', %hW', HO⟩ Hk
  ihave Hys := (pointsTo_split_subset (q := qy) (f := fY) (S := Finset.univ) (Finset.subset_univ (yHf h).view.set)).1 $$ Hy
  icases Hys with ⟨Hy, Hyr⟩
  ihave Hi' := (Entails.of_eq (show (iLoc d L ↦[(iSl p).view.set]{fullShare} iC fI b : sProp 𝕄)
      = ((iLs p).view.loc (V d (cV L) (jV L)) ↦[(iLs p).view.set]{fullShare} iC fI b) by rw [set_iLs])) $$ Hi
  unfold enqG
  iapply (SparseCore.wp_indirectGatherLocal countersEmb 𝒱₀ (V d (cV L) (jV L)) none (hg := gathers_S196608x128_S128x128) (default : HIx 1)
      (rHf p h).view.dmaCredit (hNg p h _) (by decide) (iLs_lt fI hI b p)) $$ [Hy Hr Hi' Hc]
  · isplitl [Hy]; · iexact Hy
    isplitl [Hr]; · iexact Hr
    isplitl [Hi']; · iexact Hi'
    iexact Hc
  iintro Hf
  have e : (waitG L p h >>= k : Pg F L α) = .op (.waitDma2 (cG h) (yHf h) (rHf p h) (View.wordExact_bits rfl) (View.wordExact_bits rfl)) k := rfl
  rw [e]
  iapply (Transfers.wp_waitLocalO countersEmb 𝒱₀ (V d (cV L) (jV L)) none (default : HIx 1) rfl) $$ [Hf HO]
  · isplitl [Hf]; · iexact Hf
    isplitl [HO]; · iexact HO
    iapply (Transfers.MayWaits.elim (SemLoc.dma (cG h))) $$ Hmw
  iintro ⟨⟨Hr, Hy, Hi⟩, Hc, HO⟩
  iapply Hk
  isplitl [Hy Hyr]
  · iapply (pointsTo_split_subset (q := qy) (f := fY) (S := Finset.univ) (Finset.subset_univ (yHf h).view.set)).2
    isplitl [Hy]; · iexact Hy
    iexact Hyr
  isplitl [Hc]; · iexact Hc
  isplitl [Hi]
  · iapply (Entails.of_eq (show ((iLs p).view.loc (V d (cV L) (jV L)) ↦[(iLs p).view.set]{fullShare} iC fI b : sProp 𝕄)
      = (iLoc d L ↦[(iSl p).view.set]{fullShare} iC fI b) by rw [set_iLs])) $$ Hi
  isplitl [Hr]
  · iapply (Entails.of_eq (pointsTo_congr (write_eq_on (rHf p h).view f (rC fY fI hI b) _ (fun x => read_rHf fY fI hI b p h x)))) $$ Hr
  isplitr; · iexact Hmw
  iexists _
  isplitr
  swap; · iexact HO
  ipureintro; intro x hx
  rcases Finset.mem_insert.mp hx with hx | hx; · exact .inr (hx ▸ rfl)
  exact hW' x hx

/-- Both halves: the free row slot comes out filled. -/
theorem gathers_wp (p : Fin 2) (b : Fin 1024) {α : Type} (k : PUnit → Pg F L α) (Q : α → sProp 𝕄) :
    iprop(GI d L fY qy ∗ IFull d L fI qn p b ∗ RIdle d L p ∗ OW d L O W)
      ⊢ iprop((iprop(GI d L fY qy ∗ IIdle d L fI qn p ∗ RFull d L fY fI hI p b ∗ OW d L O W) -∗ WP (k ⟨⟩) Q)
        -∗ WP (enqG L p 0 >>= fun _ => waitG L p 0 >>= fun _ => enqG L p 1 >>= fun _ => waitG L p 1 >>= k) Q) := by
  unfold GI IFull RIdle IIdle RFull
  iintro ⟨⟨Hy, H0, H1⟩, ⟨Hi, Hci, Hn⟩, ⟨⟨%f, Hr⟩, Hcr⟩, HO⟩ Hk
  rw [← rHf_union]
  ihave Hrs := (pointsTo_union (rHf_disj p)).1 $$ Hr
  icases Hrs with ⟨Hr0, Hr1⟩
  iapply (gather_wp d L fY fI hI qy O W p 0 b _ _ f) $$ [Hy H0 Hi Hr0 HO]
  · isplitl [Hy]; · iexact Hy
    isplitl [H0]; · iexact H0
    isplitl [Hi]; · iexact Hi
    isplitl [Hr0]; · iexact Hr0
    iexact HO
  iintro ⟨Hy, H0, Hi, Hr0, HO⟩
  iapply (gather_wp d L fY fI hI qy O W p 1 b _ _ f) $$ [Hy H1 Hi Hr1 HO]
  · isplitl [Hy]; · iexact Hy
    isplitl [H1]; · iexact H1
    isplitl [Hi]; · iexact Hi
    isplitl [Hr1]; · iexact Hr1
    iexact HO
  iintro ⟨Hy, H1, Hi, Hr1, HO⟩
  iapply Hk
  isplitl [Hy H0 H1]
  · isplitl [Hy]; · iexact Hy
    isplitl [H0] <;> iassumption
  isplitl [Hi Hci Hn]
  · isplitl [Hi]; · iexists _; iexact Hi
    isplitl [Hci] <;> iassumption
  isplitl [Hr0 Hr1 Hcr]
  · isplitl [Hr0 Hr1]
    · iapply (pointsTo_union (rHf_disj p)).2
      isplitl [Hr0] <;> iassumption
    iexact Hcr
  iexact HO

theorem enqO_wp (p : Fin 2) (b : Fin 1024) {α : Type} (k : PUnit → Pg F L α) (Q : α → sProp 𝕄) (f0 : S131072x256.Idx → Elt F .i32) :
    iprop(RFull d L fY fI hI p b ∗ (oLoc d ↦[(oBk b).view.set]{fullShare} f0))
      ⊢ iprop((RBusy d L fY fI hI p b -∗ WP (k ⟨⟩) Q) -∗ WP (enqO L p b >>= k) Q) := by
  unfold RFull RBusy
  iintro ⟨⟨Hr, Hc⟩, Ho⟩ Hk
  have e : (enqO L p b >>= k : Pg F L α) = .op (.enqueueDma (rSl p) (.here (oBk b)) (.dma (cO p)) ((View.wordExact_bits rfl).reshape _ _) (View.wordExact_bits rfl) ⟨Or.inl rfl, trivial⟩) k := rfl
  rw [e]
  iapply (Transfers.wp_dmaLocal countersEmb 𝒱₀ (V d (cV L) (jV L)) none (default : HIx 1) (oBk b).view.dmaCredit (View.amount_dma _ _) (View.dmaCredit_pos _ (by decide))
    (Finset.Subset.refl (oBk b).view.set)) $$ [Hr Ho Hc]
  · isplitl [Hr]; · iexact Hr
    isplitl [Ho]; · iexact Ho
    iexact Hc
  iintro Hf
  iapply Hk
  iapply (Transfers.Flight_mono countersEmb (thr d L) ?_) $$ Hf
  refine BIClass.sep_mono (Entails.of_eq (pointsTo_congr ?_)) (Entails.refl _)
  exact write_eq_on (oBk b).view f0 (G fY fI hI) _ (fun x => read_oBk fY fI hI b p x)

theorem waitO_wp (p : Fin 2) (b : Fin 1024) {α : Type} (k : PUnit → Pg F L α) (Q : α → sProp 𝕄) :
    iprop(RBusy d L fY fI hI p b ∗ OW d L O W)
      ⊢ iprop((iprop(RIdle d L p ∗ (oLoc d ↦[(oBk b).view.set]{fullShare} G fY fI hI) ∗ OW d L O W) -∗ WP (k ⟨⟩) Q) -∗ WP (waitO L p b >>= k) Q) := by
  unfold RBusy RIdle OW
  iintro ⟨Hf, #Hmw, %W', %hW', HO⟩ Hk
  have e : (waitO L p b >>= k : Pg F L α) = .op (.waitDma2 (cO p) (rSl p) (oBk b) ((View.wordExact_bits rfl).reshape _ _) (View.wordExact_bits rfl)) k := rfl
  rw [e]
  iapply (Transfers.wp_waitLocalO countersEmb 𝒱₀ (V d (cV L) (jV L)) none (default : HIx 1) rfl) $$ [Hf HO]
  · isplitl [Hf]; · iexact Hf
    isplitl [HO]; · iexact HO
    iapply (Transfers.MayWaits.elim (SemLoc.dma (cO p))) $$ Hmw
  iintro ⟨⟨Ho, Hr⟩, Hc, HO⟩
  iapply Hk
  isplitl [Hr Hc]
  · isplitl [Hr]; · iexists _; iexact Hr
    iexact Hc
  isplitl [Ho]; · iexact Ho
  isplitr; · iexact Hmw
  iexists _
  isplitr
  swap; · iexact HO
  ipureintro; intro x hx
  rcases Finset.mem_insert.mp hx with hx | hx; · exact .inr (hx ▸ rfl)
  exact hW' x hx

end Ops
end Cert.Proof.Rows
-- ==== Proof.Loop.lean ====
/-
  The loop's invariant, one trip, and the whole task.
-/
module

public import proofs.«01_k».proof.Proof.Tile

@[expose] public section

noncomputable section

namespace Cert.Proof.Rows

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Loop

variable [FloatOps F] (d : Dev nD) (L : grid0.Coords)
variable (fY : S196608x256.Idx → Elt F .i32) (fI : S1x131072.Idx → Elt F .i32) (hI : ∀ j, (fI j : BitVec 32).toNat < 196608)
variable (qy qn : PosShare TreeShare) (O : CellTallies nD τ sig (HIx 1)) (W : Waits sig (HIx 1))

local notation "WP" => wp frame (wpE (defs₀ (F := F)) 𝒱₀ (V d (cV L) (jV L)) none) Set.univ

/-! ## The loop -/

theorem pr_two (k : ℕ) : pr (k + 1 + 1) = pr k := Fin.ext (show (k + 1 + 1) % 2 = k % 2 by omega)
theorem pr_pred {k : ℕ} (h : 0 < k) : pr (k - 1) = pr (k + 1) := Fin.ext (show (k - 1) % 2 = (k + 1) % 2 by omega)

/-- The slots at the head of trip `k`. -/
def Ins (k : ℕ) : sProp 𝕄 := if k < 32 then IBusy d L fI qn (pr k) (bk L k) else IIdle d L fI qn (pr k)
def Outs (k : ℕ) : sProp 𝕄 := if 0 < k then RBusy d L fY fI hI (pr (k + 1)) (bk L (k - 1)) else RIdle d L (pr (k + 1))

/-- At the head of trip `k`. -/
def Inv (f0 : S131072x256.Idx → Elt F .i32) (k : ℕ) (a : BitVec 32 × BitVec 32 × BitVec 32 × BitVec 32 × BitVec 32) : sProp 𝕄 :=
  iprop(⌜a = args k⌝ ∗ Ins d L fI qn k ∗ IIdle d L fI qn (pr (k + 1)) ∗ RIdle d L (pr k) ∗ Outs d L fY fI hI k ∗ GI d L fY qy
    ∗ (oLoc d ↦[oRows L k 32]{fullShare} f0) ∗ (oLoc d ↦[oRows L 0 (k - 1)]{fullShare} G fY fI hI) ∗ OW d L O W)

/-- Trip `k` after the fetch of the next block's row numbers is issued. -/
theorem trip_rest (f0 : S131072x256.Idx → Elt F .i32) (k : ℕ) (hk : k < 32) :
    iprop(Ins d L fI qn (k + 1) ∗ IBusy d L fI qn (pr k) (bk L k) ∗ RIdle d L (pr k) ∗ Outs d L fY fI hI k ∗ GI d L fY qy
      ∗ (oLoc d ↦[oRows L k 32]{fullShare} f0) ∗ (oLoc d ↦[oRows L 0 (k - 1)]{fullShare} G fY fI hI) ∗ OW d L O W)
      ⊢ WP (waitI L (pr k) (bk L k) >>= fun _ =>
          enqG L (pr k) 0 >>= fun _ => waitG L (pr k) 0 >>= fun _ => enqG L (pr k) 1 >>= fun _ => waitG L (pr k) 1 >>= fun _ =>
          enqO L (pr k) (bk L k) >>= fun _ =>
          (if 0 < k then waitO L (pr (k - 1)) (bk L (k - 1)) else pure ⟨⟩) >>= fun _ =>
          pure (args (k + 1))) (Inv d L fY fI hI qy qn O W f0 (k + 1)) := by
  have hOut1 : Outs d L fY fI hI (k + 1) = (RBusy d L fY fI hI (pr k) (bk L k) : sProp 𝕄) := by
    unfold Outs; rw [if_pos (Nat.succ_pos k), pr_two]; rfl
  have hOld : (oLoc d ↦[oRows L k 32]{fullShare} f0 : sProp 𝕄) ⊢ iprop((oLoc d ↦[(oBk (bk L k)).view.set]{fullShare} f0) ∗ (oLoc d ↦[oRows L (k + 1) 32]{fullShare} f0)) := by
    rw [oRows_first L hk]; exact (pointsTo_union (oRows_first_disj L hk)).1
  rcases Nat.eq_zero_or_pos k with h0 | h0
  · subst h0
    have hOut : Outs d L fY fI hI 0 = (RIdle d L (pr (0 + 1)) : sProp 𝕄) := if_neg (Nat.lt_irrefl 0)
    unfold Inv
    rw [hOut1, hOut, pr_two, if_neg (Nat.lt_irrefl 0)]
    iintro ⟨Hnx, Hin, Hr, Hout, Hg, Hold, Hdone, HO⟩
    ihave Hos := hOld $$ Hold
    icases Hos with ⟨Hob, Hold⟩
    iapply (waitI_wp d L fI qn O W (pr 0) (bk L 0) _ _) $$ [Hin HO]
    · isplitl [Hin] <;> iassumption
    iintro ⟨Hfull, HO⟩
    iapply (gathers_wp d L fY fI hI qy qn O W (pr 0) (bk L 0) _ _) $$ [Hg Hfull Hr HO]
    · isplitl [Hg]; · iexact Hg
      isplitl [Hfull]; · iexact Hfull
      isplitl [Hr]; · iexact Hr
      iexact HO
    iintro ⟨Hg, Hidle, Hrf, HO⟩
    iapply (enqO_wp d L fY fI hI (pr 0) (bk L 0) _ _ f0) $$ [Hrf Hob]
    · isplitl [Hrf] <;> iassumption
    iintro Hrb
    iapply (Entails.of_eq (wp_pure ..).symm)
    imodintro
    isplitr; · ipureintro; rfl
    isplitl [Hnx]; · iexact Hnx
    isplitl [Hidle]; · iexact Hidle
    isplitl [Hout]; · iexact Hout
    isplitl [Hrb]; · iexact Hrb
    isplitl [Hg]; · iexact Hg
    isplitl [Hold]; · iexact Hold
    isplitl [Hdone]; · iexact Hdone
    iexact HO
  · obtain ⟨j, rfl⟩ : ∃ j, k = j + 1 := ⟨k - 1, by omega⟩
    have hOut : Outs d L fY fI hI (j + 1) = (RBusy d L fY fI hI (pr (j + 1 + 1)) (bk L j) : sProp 𝕄) := if_pos h0
    have hl : iprop((oLoc d ↦[oRows L 0 j]{fullShare} G fY fI hI) ∗ (oLoc d ↦[(oBk (bk L j)).view.set]{fullShare} G fY fI hI))
        ⊢ (oLoc d ↦[oRows L 0 (j + 1)]{fullShare} G fY fI hI : sProp 𝕄) := by
      rw [oRows_last L (k := j) (by omega)]
      exact (pointsTo_union (oRows_last_disj L (k := j) (by omega))).2
    have hpp : pr j = pr (j + 1 + 1) := (pr_two j).symm
    unfold Inv
    rw [hOut1, hOut, if_pos h0, pr_two (j + 1), Nat.add_sub_cancel j 1, Nat.add_sub_cancel (j + 1) 1, hpp]
    iintro ⟨Hnx, Hin, Hr, Hout, Hg, Hold, Hdone, HO⟩
    ihave Hos := hOld $$ Hold
    icases Hos with ⟨Hob, Hold⟩
    iapply (waitI_wp d L fI qn O W (pr (j + 1)) (bk L (j + 1)) _ _) $$ [Hin HO]
    · isplitl [Hin] <;> iassumption
    iintro ⟨Hfull, HO⟩
    iapply (gathers_wp d L fY fI hI qy qn O W (pr (j + 1)) (bk L (j + 1)) _ _) $$ [Hg Hfull Hr HO]
    · isplitl [Hg]; · iexact Hg
      isplitl [Hfull]; · iexact Hfull
      isplitl [Hr]; · iexact Hr
      iexact HO
    iintro ⟨Hg, Hidle, Hrf, HO⟩
    iapply (enqO_wp d L fY fI hI (pr (j + 1)) (bk L (j + 1)) _ _ f0) $$ [Hrf Hob]
    · isplitl [Hrf] <;> iassumption
    iintro Hrb
    iapply (waitO_wp d L fY fI hI O W (pr (j + 1 + 1)) (bk L j) _ _) $$ [Hout HO]
    · isplitl [Hout] <;> iassumption
    iintro ⟨Hr, Hob, HO⟩
    iapply (Entails.of_eq (wp_pure ..).symm)
    imodintro
    isplitr; · ipureintro; rfl
    isplitl [Hnx]; · iexact Hnx
    isplitl [Hidle]; · iexact Hidle
    isplitl [Hr]; · iexact Hr
    isplitl [Hrb]; · iexact Hrb
    isplitl [Hg]; · iexact Hg
    isplitl [Hold]; · iexact Hold
    isplitl [Hdone Hob]
    · iapply hl
      isplitl [Hdone] <;> iassumption
    iexact HO

theorem trip_wp (f0 : S131072x256.Idx → Elt F .i32) (k : ℕ) (hk : k < 32) :
    Inv d L fY fI hI qy qn O W f0 k (args k) ⊢ WP (tripC L k) (Inv d L fY fI hI qy qn O W f0 (k + 1)) := by
  have hIn : Ins d L fI qn k = (IBusy d L fI qn (pr k) (bk L k) : sProp 𝕄) := if_pos hk
  have hrest := trip_rest d L fY fI hI qy qn O W f0 k hk
  have hdef : Inv d L fY fI hI qy qn O W f0 k (args k) ⊢ iprop(Ins d L fI qn k ∗ IIdle d L fI qn (pr (k + 1)) ∗ RIdle d L (pr k) ∗ Outs d L fY fI hI k ∗ GI d L fY qy
    ∗ (oLoc d ↦[oRows L k 32]{fullShare} f0) ∗ (oLoc d ↦[oRows L 0 (k - 1)]{fullShare} G fY fI hI) ∗ OW d L O W) := by
    unfold Inv; iintro ⟨-, H⟩; iexact H
  refine hdef.trans ?_
  unfold tripC
  rcases Nat.lt_or_ge k 31 with h31 | h31
  · have hIn1 : Ins d L fI qn (k + 1) = (IBusy d L fI qn (pr (k + 1)) (bk L (k + 1)) : sProp 𝕄) := if_pos (by omega)
    rw [if_pos h31, hIn]
    rw [hIn1] at hrest
    iintro ⟨Hin, Hidle, Hr, Hout, Hg, Hold, Hdone, HO⟩
    iapply (enqI_wp d L fI qn (pr (k + 1)) (bk L (k + 1)) _ _) $$ Hidle
    iintro Hb
    iapply hrest
    isplitl [Hb]; · iexact Hb
    isplitl [Hin]; · iexact Hin
    isplitl [Hr]; · iexact Hr
    isplitl [Hout]; · iexact Hout
    isplitl [Hg]; · iexact Hg
    isplitl [Hold]; · iexact Hold
    isplitl [Hdone]; · iexact Hdone
    iexact HO
  · have hIn1 : Ins d L fI qn (k + 1) = (IIdle d L fI qn (pr (k + 1)) : sProp 𝕄) := if_neg (by omega)
    rw [if_neg (show ¬ k < 31 by omega), hIn]
    rw [hIn1] at hrest
    iintro ⟨Hin, Hidle, Hr, Hout, Hg, Hold, Hdone, HO⟩
    iapply hrest
    isplitl [Hidle]; · iexact Hidle
    isplitl [Hin]; · iexact Hin
    isplitl [Hr]; · iexact Hr
    isplitl [Hout]; · iexact Hout
    isplitl [Hg]; · iexact Hg
    isplitl [Hold]; · iexact Hold
    isplitl [Hdone]; · iexact Hdone
    iexact HO

end Loop
end Cert.Proof.Rows
-- ==== Proof.Task.lean ====
/-
  The whole task: the first copy, the loop, the last wait, from what a task is handed to what it hands back.
-/
module

public import proofs.«01_k».proof.Proof.Loop

@[expose] public section

noncomputable section

namespace Cert.Proof.Rows

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Loop

variable [FloatOps F] (d : Dev nD) (L : grid0.Coords)
variable (fY : S196608x256.Idx → Elt F .i32) (fI : S1x131072.Idx → Elt F .i32) (hI : ∀ j, (fI j : BitVec 32).toNat < 196608)
variable (qy qn : PosShare TreeShare) (O : CellTallies nD τ sig (HIx 1)) (W : Waits sig (HIx 1))

local notation "WP" => wp frame (wpE (defs₀ (F := F)) 𝒱₀ (V d (cV L) (jV L)) none) Set.univ

/-! ## The task's own program -/

theorem body_wp (k : Fin k0_t1_loop.trips) (f0 : S131072x256.Idx → Elt F .i32) (a : BitVec 32 × BitVec 32 × BitVec 32 × BitVec 32 × BitVec 32) :
    Inv d L fY fI hI qy qn O W f0 k.val a ⊢ WP (tripP (F := F) L (v4L L) k a) (Inv d L fY fI hI qy qn O W f0 (k.val + 1)) := by
  have hk : k.val < 32 := lt_of_lt_of_eq k.isLt trips_eq
  have ha : Inv d L fY fI hI qy qn O W f0 k.val a ⊢ iprop(⌜a = args k.val⌝ ∗ Inv d L fY fI hI qy qn O W f0 k.val a) := by
    unfold Inv
    iintro ⟨%h, H⟩
    isplitr; · ipureintro; exact h
    isplitr; · ipureintro; exact h
    iexact H
  refine ha.trans ?_
  iintro ⟨%h, H⟩
  subst h
  rw [trip_eq (F := F) L k]
  iapply (wp_assume 𝒱₀ (V d (cV L) (jV L)) none Set.univ (chk3_ok ⟨k.val, hk⟩))
  iapply (wp_assume 𝒱₀ (V d (cV L) (jV L)) none Set.univ (chk2_ok ⟨k.val, hk⟩))
  iapply (wp_assume 𝒱₀ (V d (cV L) (jV L)) none Set.univ (chk1_ok L k))
  iapply (trip_wp d L fY fI hI qy qn O W f0 k.val hk) $$ H

/-- What a task is handed, besides what it owes: its shares, its slots, its cells, its rows of the result. -/
def Own (f : S131072x256.Idx → Elt F .i32) : sProp 𝕄 :=
  iprop((yLoc d ↦{qy} fY) ∗ (nLoc d ↦{qn} fI) ∗ (oLoc d ↦[oRows L 0 32]{fullShare} f)
    ∗ (∃ fi, iLoc d L ↦{fullShare} fi) ∗ (∃ fr, rLoc d L ↦{fullShare} fr)
    ∗ semVal (thr d L, .dma (cI 0)) 0 ∗ semVal (thr d L, .dma (cI 1)) 0 ∗ semVal (thr d L, .dma (cO 0)) 0 ∗ semVal (thr d L, .dma (cO 1)) 0
    ∗ semVal (thr d L, .dma (cG 0)) 0 ∗ semVal (thr d L, .dma (cG 1)) 0)

/-- The same, by slots. -/
def Slots (f : S131072x256.Idx → Elt F .i32) : sProp 𝕄 :=
  iprop(IIdle d L fI qn 0 ∗ IIdle d L fI qn 1 ∗ RIdle d L 0 ∗ RIdle d L 1 ∗ GI d L fY qy ∗ (oLoc d ↦[oRows L 0 32]{fullShare} f))

theorem nq_split : (nLoc d ↦{qn} fI : sProp 𝕄) ⊣⊢ iprop((nLoc d ↦{nq qn 0} fI) ∗ nLoc d ↦{nq qn 1} fI) :=
  pointsTo_share (PosShare.mem_left_op_right qn)

theorem own_slots (f : S131072x256.Idx → Elt F .i32) : Own d L fY fI qy qn f ⊢ Slots d L fY fI qy qn f := by
  have hi : ∀ fi, (iLoc d L ↦{fullShare} fi : sProp 𝕄) ⊢ iprop((iLoc d L ↦[(iSl 0).view.set]{fullShare} fi) ∗ iLoc d L ↦[(iSl 1).view.set]{fullShare} fi) := fun fi => by
    rw [show (iLoc d L ↦{fullShare} fi : sProp 𝕄) = iLoc d L ↦[(iSl 0).view.set ∪ (iSl 1).view.set]{fullShare} fi from congrArg (fun S => (iLoc d L ↦[S]{fullShare} fi : sProp 𝕄)) iSl_union.symm]
    exact (pointsTo_union iSl_disj).1
  have hr : ∀ fi, (rLoc d L ↦{fullShare} fi : sProp 𝕄) ⊢ iprop((rLoc d L ↦[(rSl 0).view.set]{fullShare} fi) ∗ rLoc d L ↦[(rSl 1).view.set]{fullShare} fi) := fun fi => by
    rw [show (rLoc d L ↦{fullShare} fi : sProp 𝕄) = rLoc d L ↦[(rSl 0).view.set ∪ (rSl 1).view.set]{fullShare} fi from congrArg (fun S => (rLoc d L ↦[S]{fullShare} fi : sProp 𝕄)) rSl_union.symm]
    exact (pointsTo_union rSl_disj).1
  unfold Own Slots IIdle RIdle GI
  iintro ⟨Hy, Hn, Ho, ⟨%fi, Hi⟩, ⟨%fr, Hr⟩, Hc0, Hc1, Hd0, Hd1, Hg0, Hg1⟩
  ihave Hi := (hi fi) $$ Hi
  icases Hi with ⟨Hi0, Hi1⟩
  ihave Hr := (hr fr) $$ Hr
  icases Hr with ⟨Hr0, Hr1⟩
  ihave Hn := (nq_split d fI qn).1 $$ Hn
  icases Hn with ⟨Hn0, Hn1⟩
  isplitl [Hi0 Hc0 Hn0]
  · isplitl [Hi0]; · iexists _; iexact Hi0
    isplitl [Hc0] <;> iassumption
  isplitl [Hi1 Hc1 Hn1]
  · isplitl [Hi1]; · iexists _; iexact Hi1
    isplitl [Hc1] <;> iassumption
  isplitl [Hr0 Hd0]
  · isplitl [Hr0]; · iexists _; iexact Hr0
    iexact Hd0
  isplitl [Hr1 Hd1]
  · isplitl [Hr1]; · iexists _; iexact Hr1
    iexact Hd1
  isplitl [Hy Hg0 Hg1]
  · isplitl [Hy]; · iexact Hy
    isplitl [Hg0] <;> iassumption
  iexact Ho

theorem slots_own (f : S131072x256.Idx → Elt F .i32) : Slots d L fY fI qy qn f ⊢ Own d L fY fI qy qn f := by
  have hi : ∀ f0 f1, iprop((iLoc d L ↦[(iSl 0).view.set]{fullShare} f0) ∗ iLoc d L ↦[(iSl 1).view.set]{fullShare} f1) ⊢ (iprop(∃ g, iLoc d L ↦{fullShare} g) : sProp 𝕄) := fun f0 f1 => by
    have e : (iSl 0).view.set ∪ (iSl 1).view.set = (Finset.univ : Finset (Idx (iLoc d L))) := iSl_union
    refine (pointsTo_join iSl_disj).trans ?_
    rw [e]; iintro H; iexists _; iexact H
  have hr : ∀ f0 f1, iprop((rLoc d L ↦[(rSl 0).view.set]{fullShare} f0) ∗ rLoc d L ↦[(rSl 1).view.set]{fullShare} f1) ⊢ (iprop(∃ g, rLoc d L ↦{fullShare} g) : sProp 𝕄) := fun f0 f1 => by
    have e : (rSl 0).view.set ∪ (rSl 1).view.set = (Finset.univ : Finset (Idx (rLoc d L))) := rSl_union
    refine (pointsTo_join rSl_disj).trans ?_
    rw [e]; iintro H; iexists _; iexact H
  unfold Own Slots IIdle RIdle GI
  iintro ⟨⟨⟨%f0, Hi0⟩, Hc0, Hn0⟩, ⟨⟨%f1, Hi1⟩, Hc1, Hn1⟩, ⟨⟨%g0, Hr0⟩, Hd0⟩, ⟨⟨%g1, Hr1⟩, Hd1⟩, ⟨Hy, Hg0, Hg1⟩, Ho⟩
  isplitl [Hy]; · iexact Hy
  isplitl [Hn0 Hn1]
  · iapply (nq_split d fI qn).2
    isplitl [Hn0] <;> iassumption
  isplitl [Ho]; · iexact Ho
  isplitl [Hi0 Hi1]
  · iapply (hi f0 f1)
    isplitl [Hi0] <;> iassumption
  isplitl [Hr0 Hr1]
  · iapply (hr g0 g1)
    isplitl [Hr0] <;> iassumption
  isplitl [Hc0]; · iexact Hc0
  isplitl [Hc1]; · iexact Hc1
  isplitl [Hd0]; · iexact Hd0
  isplitl [Hd1]; · iexact Hd1
  isplitl [Hg0] <;> iassumption

theorem inv_zero (f0 : S131072x256.Idx → Elt F .i32) :
    iprop(IBusy d L fI qn 0 (bk L 0) ∗ IIdle d L fI qn 1 ∗ RIdle d L 0 ∗ RIdle d L 1 ∗ GI d L fY qy ∗ (oLoc d ↦[oRows L 0 32]{fullShare} f0) ∗ OW d L O W)
      ⊢ Inv d L fY fI hI qy qn O W f0 0 (args 0) := by
  have hIn : Ins d L fI qn 0 = (IBusy d L fI qn 0 (bk L 0) : sProp 𝕄) := if_pos (by decide)
  have hOut : Outs d L fY fI hI 0 = (RIdle d L 1 : sProp 𝕄) := if_neg (Nat.lt_irrefl 0)
  unfold Inv
  rw [hIn, hOut, show oRows L 0 (0 - 1) = ∅ from oRows_empty L 0]
  iintro ⟨Hb, Hi, Hr, Hr1, Hg, Ho, HO⟩
  isplitr; · ipureintro; rfl
  isplitl [Hb]; · iexact Hb
  isplitl [Hi]; · iexact Hi
  isplitl [Hr]; · iexact Hr
  isplitl [Hr1]; · iexact Hr1
  isplitl [Hg]; · iexact Hg
  isplitl [Ho]; · iexact Ho
  isplitr; · iapply (Entails.of_eq pointsTo_empty.symm); iempintro
  iexact HO

theorem inv_last (f0 : S131072x256.Idx → Elt F .i32) (a : BitVec 32 × BitVec 32 × BitVec 32 × BitVec 32 × BitVec 32) :
    Inv d L fY fI hI qy qn O W f0 32 a
      ⊢ iprop(⌜a = args 32⌝ ∗ IIdle d L fI qn 0 ∗ IIdle d L fI qn 1 ∗ RIdle d L 0 ∗ RBusy d L fY fI hI 1 (bk L 31) ∗ GI d L fY qy
          ∗ (oLoc d ↦[oRows L 0 31]{fullShare} G fY fI hI) ∗ OW d L O W) := by
  have hIn : Ins d L fI qn 32 = (IIdle d L fI qn 0 : sProp 𝕄) := if_neg (by decide)
  have hOut : Outs d L fY fI hI 32 = (RBusy d L fY fI hI 1 (bk L 31) : sProp 𝕄) := if_pos (by decide)
  unfold Inv
  rw [hIn, hOut]
  iintro ⟨%h, Hi0, Hi1, Hr, Hb, Hg, -, Ho, HO⟩
  isplitr; · ipureintro; exact h
  isplitl [Hi0]; · iexact Hi0
  isplitl [Hi1]; · iexact Hi1
  isplitl [Hr]; · iexact Hr
  isplitl [Hb]; · iexact Hb
  isplitl [Hg]; · iexact Hg
  isplitl [Ho]; · iexact Ho
  iexact HO

theorem task_wp (f0 : S131072x256.Idx → Elt F .i32) :
    iprop(Own d L fY fI qy qn f0 ∗ OW d L O W)
      ⊢ WP (cc0_moe_return_sc (F := F) L yM (Memref.isWhole_whole _) nM (Memref.isWhole_whole _) oM (Memref.isWhole_whole _) iM (Memref.isWhole_whole _)
        cc0_scoped1 rM (Memref.isWhole_whole _) cc0_scoped3 cc0_scoped4 cc0_scoped5)
        fun _ => iprop(Own d L fY fI qy qn (G fY fI hI) ∗ OW d L O W) := by
  rw [body_eq]
  have hl : iprop((oLoc d ↦[oRows L 0 31]{fullShare} G fY fI hI) ∗ (oLoc d ↦[(oBk (bk L 31)).view.set]{fullShare} G fY fI hI))
      ⊢ (oLoc d ↦[oRows L 0 32]{fullShare} G fY fI hI : sProp 𝕄) := by
    rw [oRows_last L (k := 31) (by decide)]
    exact (pointsTo_union (oRows_last_disj L (k := 31) (by decide))).2
  iintro ⟨H, HO⟩
  ihave H := (own_slots d L fY fI qy qn f0) $$ H
  unfold Slots
  icases H with ⟨Hi0, Hi1, Hr0, Hr1, Hg, Ho⟩
  iapply (enqI_wp d L fI qn 0 (bk L 0) _ _) $$ Hi0
  iintro Hb
  iapply (Scf.wp_for_bind frame (wpE (defs₀ (F := F)) 𝒱₀ (V d (cV L) (jV L)) none) Set.univ _ _ _ k0_t1_ok (args 0) (tripP (F := F) L (v4L L))
    (fun k a => Inv d L fY fI hI qy qn O W f0 k a) (fun k a => body_wp d L fY fI hI qy qn O W k f0 a)) $$ [Hb Hi1 Hr0 Hr1 Hg Ho HO]
  · iapply (inv_zero d L fY fI hI qy qn O W f0)
    isplitl [Hb]; · iexact Hb
    isplitl [Hi1]; · iexact Hi1
    isplitl [Hr0]; · iexact Hr0
    isplitl [Hr1]; · iexact Hr1
    isplitl [Hg]; · iexact Hg
    isplitl [Ho]; · iexact Ho
    iexact HO
  iintro %a HI
  have hlast : ∀ n, n = 32 → (Inv d L fY fI hI qy qn O W f0 n a ⊢ Inv d L fY fI hI qy qn O W f0 32 a) := fun n hn => by subst hn; exact Entails.refl _
  ihave HI := (hlast _ trips_eq) $$ HI
  ihave HI := (inv_last d L fY fI hI qy qn O W f0 a) $$ HI
  icases HI with ⟨%h, Hi0, Hi1, Hr0, Hb, Hg, Ho, HO⟩
  subst h
  rw [tail_eq (F := F) L]
  iapply (wp_assume 𝒱₀ (V d (cV L) (jV L)) none Set.univ (chk5_ok L))
  iapply (wp_assume 𝒱₀ (V d (cV L) (jV L)) none Set.univ chk4_ok)
  iapply (waitO_wp d L fY fI hI O W 1 (bk L 31) _ _) $$ [Hb HO]
  · isplitl [Hb] <;> iassumption
  iintro ⟨Hr1, Hob, HO⟩
  iapply (Entails.of_eq (wp_pure ..).symm)
  imodintro
  isplitr [HO]
  swap; · iexact HO
  iapply (slots_own d L fY fI qy qn (G fY fI hI))
  unfold Slots
  isplitl [Hi0]; · iexact Hi0
  isplitl [Hi1]; · iexact Hi1
  isplitl [Hr0]; · iexact Hr0
  isplitl [Hr1]; · iexact Hr1
  isplitl [Hg]; · iexact Hg
  iapply hl
  isplitl [Ho] <;> iassumption

end Loop
end Cert.Proof.Rows
-- ==== Proof.Deal.lean ====
/-
  The launch's hand-outs: what a SparseCore is given and what each of its tasks is given, and the tasks' obligation.
-/
module

public import proofs.«01_k».proof.Proof.Task
public import Idealize.ShloMosaic.Lib.SparseCore.Quiescent
public import Idealize.ShloMosaic.Lib.Ring
public import Idealize.SL.BI.BigOpNat

@[expose] public section

noncomputable section

namespace Cert.Proof.Rows

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Shares, one after another off a given one -/

/-- What is left of `q` after `n` shares are taken, and the `n`-th share. -/
def rest (q : PosShare TreeShare) : ℕ → PosShare TreeShare
  | 0 => q
  | n + 1 => (rest q n).right
def nth (q : PosShare TreeShare) (n : ℕ) : PosShare TreeShare := (rest q n).left

theorem pts_take {ℓ : Loc nD τ sig} (I : Finset (Idx ℓ)) (q : PosShare TreeShare) (f : Buf (Elt F) ℓ) (n : ℕ) :
    (ℓ ↦[I]{q} f : sProp 𝕄) ⊣⊢ iprop((bigSep (Finset.range n) fun k => ℓ ↦[I]{nth q k} f) ∗ ℓ ↦[I]{rest q n} f) := by
  induction n with
  | zero =>
    rw [Finset.range_zero, bigSep_empty]
    constructor
    · iintro H
      isplitr; · iempintro
      iexact H
    · iintro ⟨-, H⟩
      iexact H
  | succ n ih =>
    have hs : (ℓ ↦[I]{rest q n} f : sProp 𝕄) ⊣⊢ iprop((ℓ ↦[I]{nth q n} f) ∗ ℓ ↦[I]{rest q (n + 1)} f) := pointsTo_share (PosShare.mem_left_op_right (rest q n))
    rw [bigSep_range_succ]
    constructor
    · refine ih.1.trans ?_
      iintro ⟨Ha, Hr⟩
      ihave Hr := hs.1 $$ Hr
      icases Hr with ⟨Hn, Hr⟩
      isplitr [Hr]
      · isplitl [Hn] <;> iassumption
      iexact Hr
    · refine BIBase.Entails.trans ?_ ih.2
      iintro ⟨⟨Hn, Ha⟩, Hr⟩
      isplitl [Ha]; · iexact Ha
      iapply hs.2
      isplitl [Hn] <;> iassumption

theorem pts_deal {ℓ : Loc nD τ sig} (q : PosShare TreeShare) (f : Buf (Elt F) ℓ) :
    (ℓ ↦{q} f : sProp 𝕄) ⊣⊢ iprop((bigSep Finset.univ fun k : Fin 16 => ℓ ↦{nth q k.val} f) ∗ ℓ ↦{rest q 16} f) := by
  rw [Ring.bigSep_fin_eq_range 16 (fun k : Fin 16 => (ℓ ↦{nth q k.val} f : sProp 𝕄)) (fun k => ℓ ↦{nth q k} f) (fun _ _ => rfl)]
  exact pts_take Finset.univ q f 16

/-! ## The result's rows, by core and by task -/

def coordsV (c : Fin (grid0.bound 0)) (s : Fin (grid0.bound 1)) : grid0.Coords :=
  fun | 0 => c | 1 => s | ⟨_ + 2, h⟩ => absurd h (Nat.not_lt.2 (Nat.le_add_left _ _))

/-- The task numbered `i` of core `c`. -/
abbrev at2 (c : Fin 2) (i : Fin 16) : grid0.Coords := coordsV (Fin.cast rfl c) (Fin.cast rfl i)

/-- Core `c`'s rows. -/
def cRows (c : Fin 2) : Finset S131072x256.Idx := Finset.univ.filter fun i => 65536 * c.val ≤ (i 0).val ∧ (i 0).val < 65536 * (c.val + 1)

theorem mem_cRows {c : Fin 2} {i : S131072x256.Idx} : i ∈ cRows c ↔ 65536 * c.val ≤ (i 0).val ∧ (i 0).val < 65536 * (c.val + 1) := by simp [cRows]

theorem mem_tRows {c : Fin 2} {k : Fin 16} {i : S131072x256.Idx} :
    i ∈ oRows (at2 c k) 0 32 ↔ 65536 * c.val + 4096 * k.val ≤ (i 0).val ∧ (i 0).val < 65536 * c.val + 4096 * k.val + 4096 := by
  rw [mem_oRows, show ((at2 c k) 0).val = c.val from rfl, show ((at2 c k) 1).val = k.val from rfl]; omega

theorem cRows_disj : Disjoint (cRows 0) (cRows 1) := Finset.disjoint_left.mpr fun i h0 h1 => by
  have a := mem_cRows.1 h0; have b := mem_cRows.1 h1
  rw [show ((0 : Fin 2)).val = 0 from rfl] at a; rw [show ((1 : Fin 2)).val = 1 from rfl] at b; omega
theorem cRows_all : cRows 0 ∪ cRows 1 = Finset.univ := by
  ext i
  have hi : (i 0).val < 131072 := (i 0).isLt
  simp only [Finset.mem_union, Finset.mem_univ, iff_true, mem_cRows, show ((0 : Fin 2)).val = 0 from rfl, show ((1 : Fin 2)).val = 1 from rfl]; omega

theorem tRows_disj (c : Fin 2) : ∀ k ∈ (Finset.univ : Finset (Fin 16)), ∀ k' ∈ (Finset.univ : Finset (Fin 16)), k ≠ k' →
    Disjoint (oRows (at2 c k) 0 32) (oRows (at2 c k') 0 32) := fun k _ k' _ hk => Finset.disjoint_left.mpr fun i h0 h1 => by
  have a := mem_tRows.1 h0; have b := mem_tRows.1 h1
  exact hk (Fin.ext (by omega))
theorem tRows_all (c : Fin 2) (i : S131072x256.Idx) : i ∈ cRows c ↔ ∃ k : Fin 16, i ∈ oRows (at2 c k) 0 32 := by
  rw [mem_cRows]
  constructor
  · intro h
    exact ⟨⟨((i 0).val - 65536 * c.val) / 4096, by omega⟩, mem_tRows.2 (by dsimp only; omega)⟩
  · rintro ⟨k, hk⟩
    have a := mem_tRows.1 hk; have := k.isLt; omega

theorem pts_cover {ℓ : Loc nD τ sig} (B : Finset (Idx ℓ)) (A : Fin 16 → Finset (Idx ℓ)) (hB : ∀ i, i ∈ B ↔ ∃ k, i ∈ A k)
    (hd : ∀ k ∈ (Finset.univ : Finset (Fin 16)), ∀ k' ∈ (Finset.univ : Finset (Fin 16)), k ≠ k' → Disjoint (A k) (A k')) (f : Buf (Elt F) ℓ) :
    (ℓ ↦[B]{fullShare} f : sProp 𝕄) = bigSep Finset.univ fun k : Fin 16 => ℓ ↦[A k]{fullShare} f := by
  have e : B = Finset.univ.biUnion A := by ext i; rw [hB i, Finset.mem_biUnion]; simp
  rw [e]; exact pointsTo_biUnion Finset.univ A hd

theorem o_tasks (d : Dev nD) (c : Fin 2) (f : S131072x256.Idx → Elt F .i32) :
    (oLoc d ↦[cRows c]{fullShare} f : sProp 𝕄) = bigSep Finset.univ fun k : Fin 16 => oLoc d ↦[oRows (at2 c k) 0 32]{fullShare} f :=
  pts_cover (ℓ := oLoc d) (cRows c) (fun k => oRows (at2 c k) 0 32) (tRows_all c) (tRows_disj c) f

theorem o_cores (d : Dev nD) (f : S131072x256.Idx → Elt F .i32) :
    (oLoc d ↦{fullShare} f : sProp 𝕄) ⊣⊢ iprop((oLoc d ↦[cRows 0]{fullShare} f) ∗ oLoc d ↦[cRows 1]{fullShare} f) := by
  have e : (oLoc d ↦[cRows 0 ∪ cRows 1]{fullShare} f : sProp 𝕄) = oLoc d ↦{fullShare} f :=
    congrArg (fun S : Finset (Idx (oLoc d)) => (oLoc d ↦[S]{fullShare} f : sProp 𝕄)) cRows_all
  exact ⟨(Entails.of_eq e.symm).trans (pointsTo_union cRows_disj).1, (pointsTo_union cRows_disj).2.trans (Entails.of_eq e)⟩

/-- A core's share of an array that both read. -/
def cq : Fin 2 → PosShare TreeShare := fun c => if c = 0 then fullShare.left else fullShare.right

theorem pts_cores {ℓ : Loc nD τ sig} (f : Buf (Elt F) ℓ) : (ℓ ↦{fullShare} f : sProp 𝕄) ⊣⊢ iprop((ℓ ↦{cq 0} f) ∗ ℓ ↦{cq 1} f) :=
  pointsTo_share (PosShare.mem_left_op_right fullShare)

/-! ## A task's own memory and cells -/

section Own

variable (d : Dev nD) (L : grid0.Coords)

/-- The task's six transfer cells. -/
def six : Finset (DmaSem sig) := {cI 0, cI 1, cO 0, cO 1, cG 0, cG 1}

def cellAt : DmaSem sig ↪ GSem nD τ sig := ⟨fun s => (thr d L, .dma s), fun a b h => by simpa using h⟩

theorem six_scoped : ∀ s ∈ six, (SemLoc.dma s : SemLoc sig).isScoped .scVector = true := by decide

theorem sems_task : (ownSems0 (thr d L) : sProp 𝕄)
    = iprop((semVal (thr d L, .dma (cI 0)) 0 ∗ semVal (thr d L, .dma (cI 1)) 0 ∗ semVal (thr d L, .dma (cO 0)) 0 ∗ semVal (thr d L, .dma (cO 1)) 0
        ∗ semVal (thr d L, .dma (cG 0)) 0 ∗ semVal (thr d L, .dma (cG 1)) 0)
      ∗ bigSep (ownCells (thr d L) \ six.map (cellAt d L)) fun g => semVal g 0) := by
  unfold SparseCore.Cfg.ownSems0
  rw [SparseCore.bigSep_sdiff_split' (s := ownCells (thr d L)) (t := six.map (cellAt d L)) (fun g hg => by
      obtain ⟨s, hs, rfl⟩ := Finset.mem_map.1 hg
      exact mem_ownCells.2 ⟨rfl, six_scoped s hs⟩), bigSep_map]
  congr 1
  unfold six
  rw [SparseCore.bigSep_insert' (by decide), SparseCore.bigSep_insert' (by decide), SparseCore.bigSep_insert' (by decide),
    SparseCore.bigSep_insert' (by decide), SparseCore.bigSep_insert' (by decide), bigSep_singleton]
  rfl

theorem bufs_task : (ownBufs (thr d L) : sProp 𝕄)
    = iprop((∃ f, iLoc d L ↦{fullShare} f) ∗ (∃ f, rLoc d L ↦{fullShare} f)
      ∗ bigSep (((ownRefs (τ := τ) (.scVector (cV L) (jV L))).erase ((Proc.scVector (cV L) (jV L)).devRef cc0_scoped0)).erase
          ((Proc.scVector (cV L) (jV L)).devRef cc0_scoped2)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

end Own

/-! ## What each is handed -/

section Hand

variable [FloatOps F]
variable (fY : Dev nD → S196608x256.Idx → Elt F .i32) (fI : Dev nD → S1x131072.Idx → Elt F .i32) (hI : ∀ d j, (fI d j : BitVec 32).toNat < 196608)

/-- A core's part, its rows of the result at `f`; a task's. -/
def CoreHas (d : Dev nD) (c : Fin 2) (f : S131072x256.Idx → Elt F .i32) : sProp 𝕄 :=
  iprop((yLoc d ↦{cq c} fY d) ∗ (nLoc d ↦{cq c} fI d) ∗ oLoc d ↦[cRows c]{fullShare} f)
def TaskHas (d : Dev nD) (c : Fin 2) (k : Fin 16) (f : S131072x256.Idx → Elt F .i32) : sProp 𝕄 :=
  iprop((yLoc d ↦{nth (cq c) k.val} fY d) ∗ (nLoc d ↦{nth (cq c) k.val} fI d) ∗ oLoc d ↦[oRows (at2 c k) 0 32]{fullShare} f)

instance (d : Dev nD) (c : Fin 2) (f : S131072x256.Idx → Elt F .i32) : BI.Storable (upEmb : UEmb _ 𝕄) (CoreHas fY fI d c f) :=
  (inferInstance : BI.Storable (upEmb : UEmb _ 𝕄) iprop((yLoc d ↦{cq c} fY d) ∗ (nLoc d ↦{cq c} fI d) ∗ oLoc d ↦[cRows c]{fullShare} f))
instance (d : Dev nD) (c : Fin 2) (k : Fin 16) (f : S131072x256.Idx → Elt F .i32) : BI.Storable (upEmb : UEmb _ 𝕄) (TaskHas fY fI d c k f) :=
  (inferInstance : BI.Storable (upEmb : UEmb _ 𝕄)
    iprop((yLoc d ↦{nth (cq c) k.val} fY d) ∗ (nLoc d ↦{nth (cq c) k.val} fI d) ∗ oLoc d ↦[oRows (at2 c k) 0 32]{fullShare} f))

/-- The call's exchanges: each core its part and back with its rows of `G`, each task likewise. -/
def P : (K (F := F)).Pay (nD := nD) (Val := Elt F) (Name := ℕ) (U := UU) where
  st := fun q d c => match q with | 0 => iprop(∃ f, CoreHas fY fI d (Fin.cast rfl c) f)
  dn := fun q d c => match q with | 0 => CoreHas fY fI d (Fin.cast rfl c) (G (fY d) (fI d) (hI d))
  go := fun q d c i => match q with | 0 => iprop(∃ f, TaskHas fY fI d (Fin.cast rfl c) (Fin.cast nSub_zero i) f)
  td := fun q d c i => match q with | 0 => TaskHas fY fI d (Fin.cast rfl c) (Fin.cast nSub_zero i) (G (fY d) (fI d) (hI d))
  x := fun _ _ => iprop(emp)

instance P_storable : (P fY fI hI).IsStorable where
  st q d c := match q with
    | 0 => (inferInstance : BI.Storable (upEmb : UEmb _ 𝕄) iprop(∃ f, CoreHas fY fI d (Fin.cast rfl c) f))
  dn q d c := match q with
    | 0 => (inferInstance : BI.Storable (upEmb : UEmb _ 𝕄) (CoreHas fY fI d (Fin.cast rfl c) (G (fY d) (fI d) (hI d))))
  go q d c i := match q with
    | 0 => (inferInstance : BI.Storable (upEmb : UEmb _ 𝕄) iprop(∃ f, TaskHas fY fI d (Fin.cast rfl c) (Fin.cast nSub_zero i) f))
  td q d c i := match q with
    | 0 => (inferInstance : BI.Storable (upEmb : UEmb _ 𝕄) (TaskHas fY fI d (Fin.cast rfl c) (Fin.cast nSub_zero i) (G (fY d) (fI d) (hI d))))

/-! ## A core hands out to its tasks -/

theorem core_tasks (d : Dev nD) (c : Fin 2) (f : S131072x256.Idx → Elt F .i32) :
    CoreHas fY fI d c f ⊢ iprop((bigSep Finset.univ fun k : Fin 16 => TaskHas fY fI d c k f) ∗ (yLoc d ↦{rest (cq c) 16} fY d) ∗ nLoc d ↦{rest (cq c) 16} fI d) := by
  unfold CoreHas TaskHas
  rw [bigSep_sep', bigSep_sep', o_tasks]
  iintro ⟨Hy, Hn, Ho⟩
  ihave Hy := (pts_deal (cq c) (fY d)).1 $$ Hy
  icases Hy with ⟨Hy, Hyr⟩
  ihave Hn := (pts_deal (cq c) (fI d)).1 $$ Hn
  icases Hn with ⟨Hn, Hnr⟩
  isplitl [Hy Hn Ho]
  · isplitl [Hy]; · iexact Hy
    isplitl [Hn] <;> iassumption
  isplitl [Hyr] <;> iassumption

theorem tasks_core (d : Dev nD) (c : Fin 2) (f : S131072x256.Idx → Elt F .i32) :
    iprop((bigSep Finset.univ fun k : Fin 16 => TaskHas fY fI d c k f) ∗ (yLoc d ↦{rest (cq c) 16} fY d) ∗ nLoc d ↦{rest (cq c) 16} fI d) ⊢ CoreHas fY fI d c f := by
  unfold CoreHas TaskHas
  rw [bigSep_sep', bigSep_sep', o_tasks]
  iintro ⟨⟨Hy, Hn, Ho⟩, Hyr, Hnr⟩
  isplitl [Hy Hyr]
  · iapply (pts_deal (cq c) (fY d)).2
    isplitl [Hy] <;> iassumption
  isplitl [Hn Hnr]
  · iapply (pts_deal (cq c) (fI d)).2
    isplitl [Hn] <;> iassumption
  iexact Ho

theorem by_task (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P fY fI hI) 0 := by
  intro d c
  show iprop(∃ f, CoreHas fY fI d (Fin.cast rfl c) f) ⊢ |={Set.univ}=> iprop(
      (bigSep Finset.univ fun i : Fin ((K (F := F)).nSub 0) => iprop(∃ f, TaskHas fY fI d (Fin.cast rfl c) (Fin.cast nSub_zero i) f))
      ∗ ((bigSep Finset.univ fun i : Fin ((K (F := F)).nSub 0) => TaskHas fY fI d (Fin.cast rfl c) (Fin.cast nSub_zero i) (G (fY d) (fI d) (hI d)))
          -∗ CoreHas fY fI d (Fin.cast rfl c) (G (fY d) (fI d) (hI d))))
  rw [by_task (F := F) (fun k => iprop(∃ f, TaskHas fY fI d (Fin.cast rfl c) k f)), by_task (F := F) (fun k => TaskHas fY fI d (Fin.cast rfl c) k (G (fY d) (fI d) (hI d)))]
  iintro ⟨%f, H⟩
  ihave H := (core_tasks fY fI d (Fin.cast rfl c) f) $$ H
  icases H with ⟨Ht, Hr⟩
  imodintro
  isplitl [Ht]
  · have hx : ∀ k : Fin 16, TaskHas fY fI d (Fin.cast rfl c) k f ⊢ (iprop(∃ f, TaskHas fY fI d (Fin.cast rfl c) k f) : sProp 𝕄) := fun k => by
      iintro H; iexists f; iexact H
    have hm : (bigSep Finset.univ fun k : Fin 16 => TaskHas fY fI d (Fin.cast rfl c) k f) ⊢ (bigSep Finset.univ fun k : Fin 16 => iprop(∃ f, TaskHas fY fI d (Fin.cast rfl c) k f) : sProp 𝕄) :=
      bigSep_mono fun k _ => hx k
    iapply hm; iexact Ht
  iintro Ht
  iapply (tasks_core fY fI d (Fin.cast rfl c) (G (fY d) (fI d) (hI d)))
  isplitl [Ht] <;> iassumption

/-! ## The tasks' obligation -/

theorem task_all (d : Dev nD) (c : Fin 2) (k : Fin 16) (O : CellTallies nD τ sig (HIx 1)) (W : Waits sig (HIx 1)) (hO : ∀ g, O g none = 0) :
    iprop(levAts (K (F := F)).L (K (F := F)).lev ∗ emp ∗ (∃ f, TaskHas fY fI d c k f)
        ∗ scopedBufs (V d (cV (at2 c k)) (jV (at2 c k))) ∗ scopedSems0 (V d (cV (at2 c k)) (jV (at2 c k))) ∗ owes (V d (cV (at2 c k)) (jV (at2 c k))) O W)
      ⊢ wp frame (wpE (defs₀ (F := F)) 𝒱₀ (V d (cV (at2 c k)) (jV (at2 c k))) none) Set.univ
          (cc0_moe_return_sc (F := F) (at2 c k) yM (Memref.isWhole_whole _) nM (Memref.isWhole_whole _) oM (Memref.isWhole_whole _) iM (Memref.isWhole_whole _)
            cc0_scoped1 rM (Memref.isWhole_whole _) cc0_scoped3 cc0_scoped4 cc0_scoped5)
          fun _ => iprop(TaskHas fY fI d c k (G (fY d) (fI d) (hI d))
            ∗ scopedBufs (V d (cV (at2 c k)) (jV (at2 c k))) ∗ scopedSems0 (V d (cV (at2 c k)) (jV (at2 c k)))
            ∗ ∃ W', ⌜∀ p ∈ W', p ∈ W ∨ p.2 = none⌝ ∗ owes (V d (cV (at2 c k)) (jV (at2 c k))) O W') := by
  generalize hL : at2 c k = L
  rw [(K (F := F)).scopedBufs_V kfacts d (cV L) (jV L), SparseCore.Cfg.scopedSems0_V (Val := Elt F) d (cV L) (jV L), sems_task, bufs_task]
  unfold TaskHas
  rw [hL]
  iintro ⟨#Hlv, -, ⟨%f, Hy, Hn, Ho⟩, ⟨Hi, Hr, Hbufs⟩, ⟨Hc, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_wand frame (wpE (defs₀ (F := F)) 𝒱₀ (V d (cV L) (jV L)) none) Set.univ) $$ [Hy Hn Ho Hi Hr Hc HO Hmw]
  · iapply (task_wp d L (fY d) (fI d) (hI d) (nth (cq c) k.val) (nth (cq c) k.val) O W f)
    isplitr [HO Hmw]
    · unfold Own
      isplitl [Hy]; · iexact Hy
      isplitl [Hn]; · iexact Hn
      isplitl [Ho]; · iexact Ho
      isplitl [Hi]; · iexact Hi
      isplitl [Hr]; · iexact Hr
      iexact Hc
    unfold OW
    isplitl [Hmw]; · iexact Hmw
    iexists W; isplitr
    · ipureintro; exact fun p hp => Or.inl hp
    iexact HO
  iintro %a ⟨Hown, HO⟩
  unfold Own OW
  icases Hown with ⟨Hy, Hn, Ho, Hi, Hr, Hc⟩
  icases HO with ⟨-, HO⟩
  isplitl [Hy Hn Ho]
  · isplitl [Hy]; · iexact Hy
    isplitl [Hn] <;> iassumption
  isplitl [Hi Hr Hbufs]
  · isplitl [Hi]; · iexact Hi
    isplitl [Hr] <;> iassumption
  isplitl [Hc Hsems]
  · isplitl [Hc] <;> iassumption
  iexact HO

theorem defs₀_vector (c : Fin τ.nSC) (s : Fin τ.nSub) :
    defs₀ (F := F) (.scVector c s) 0 ()
      = SparseCore.onTile hcore0 hsub0 (fun c s => cc0_moe_return_sc (coordsV c s)
          yM (Memref.isWhole_whole _) nM (Memref.isWhole_whole _) oM (Memref.isWhole_whole _) iM (Memref.isWhole_whole _)
            cc0_scoped1 rM (Memref.isWhole_whole _) cc0_scoped3 cc0_scoped4 cc0_scoped5) ⟨⟩ c s := rfl

theorem waits_more {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P fY fI hI) v₀ 0 := by
  intro d c i O W hO _ _
  simp only [show (P fY fI hI).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task_all fY fI hI d (Fin.cast rfl c) (Fin.cast nSub_zero i) O W hO).trans (wp_mono frame _ _ fun _ => waits_more)

end Hand
end Cert.Proof.Rows
-- ==== Proof.Launch.lean ====
/-
  The program's run: the host operations before the call, the call, the reshape after it, and what the run leaves.
-/
module

public import proofs.«01_k».proof.Proof.Deal
public import Idealize.ShloMosaic.Lib.Pipeline.Frame
public import Idealize.ShloMosaic.Lib.StableHlo.Run

@[expose] public section

noncomputable section

namespace Cert.Proof.Rows

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after wp_hlo_within wp_seq held_sub_split held_congr seq)
open Idealize.ShloMosaic.Tactic

variable {F : FTy → Type}

local notation "𝕄" => MT nD τ sig (HIx 1) (Elt F) ℕ UU ℕ

/-! ## The host operations -/

section Host

variable [FloatOps F]

/-- The operations before the call, and the one after it. -/
def before : List (HloOp τ sig (Elt F)) :=
  [StableHlo.reshape main_arg0 main_v0 (rfl : (.i32 : EltTy) = .i32) shapeCasts_S2x98304x256_S196608x256,
   StableHlo.nullary main_v1 (iotaInDim S2 32 0),
   StableHlo.unary main_v1 main_v2 (broadcastInDim S2x1 ![0] bcast_S2_S2x1_0 : (⟨S2, .i32⟩ : BufTy).Contents (Elt F) → (⟨S2x1, .i32⟩ : BufTy).Contents (Elt F)),
   StableHlo.nullary main_c (constantI S_ 32 98304#32),
   StableHlo.unary main_c main_v3 (broadcastInDim S2x1 ![] bcast_S_S2x1 : (⟨S_, .i32⟩ : BufTy).Contents (Elt F) → (⟨S2x1, .i32⟩ : BufTy).Contents (Elt F)),
   StableHlo.binary main_v2 main_v3 main_v4 (muli : (⟨S2x1, .i32⟩ : BufTy).Contents (Elt F) → (⟨S2x1, .i32⟩ : BufTy).Contents (Elt F) → (⟨S2x1, .i32⟩ : BufTy).Contents (Elt F)),
   StableHlo.unary main_arg1 main_v5 (broadcastInDim S1x65536 ![1] bcast_S65536_S1x65536_1 : (⟨S65536, .i32⟩ : BufTy).Contents (Elt F) → (⟨S1x65536, .i32⟩ : BufTy).Contents (Elt F)),
   StableHlo.unary main_v4 main_v6 (broadcastInDim S2x65536 ![0, 1] bcast_S2x1_S2x65536_0_1 : (⟨S2x1, .i32⟩ : BufTy).Contents (Elt F) → (⟨S2x65536, .i32⟩ : BufTy).Contents (Elt F)),
   StableHlo.unary main_v5 main_v7 (broadcastInDim S2x65536 ![0, 1] bcast_S1x65536_S2x65536_0_1 : (⟨S1x65536, .i32⟩ : BufTy).Contents (Elt F) → (⟨S2x65536, .i32⟩ : BufTy).Contents (Elt F)),
   StableHlo.binary main_v6 main_v7 main_v8 (addi : (⟨S2x65536, .i32⟩ : BufTy).Contents (Elt F) → (⟨S2x65536, .i32⟩ : BufTy).Contents (Elt F) → (⟨S2x65536, .i32⟩ : BufTy).Contents (Elt F)),
   StableHlo.reshape main_v8 main_v9 (rfl : (.i32 : EltTy) = .i32) shapeCasts_S2x65536_S1x131072]
def last : HloOp τ sig (Elt F) := StableHlo.reshape main_v10 main_v11 (rfl : (.i32 : EltTy) = .i32) shapeCasts_S131072x256_S2x65536x256

theorem main_eq (d : Dev nD) : main (F := F) d = (do
    seq before
    (sc (F := F)).run d 0
    hlo rfl last (fun _ => .ret ⟨⟩)
    pure ⟨⟩) := rfl

theorem before_sub : ∀ op ∈ (before : List (HloOp τ sig (Elt F))), op.bufs ⊆ StableHlo.tcRefs τ sig :=
  List.forall_iff_forall_mem.mp (by simp [before, List.Forall])
theorem before_fresh : ∀ op ∈ (before : List (HloOp τ sig (Elt F))), op.fresh = ∅ :=
  List.forall_iff_forall_mem.mp ⟨rfl, rfl, rfl, rfl, rfl, rfl, rfl, rfl, rfl, rfl, rfl⟩

/-! ## What they leave -/

variable (m : (ℓ : Loc nD τ sig) → Buf (Elt F) ℓ) (ρ : Dev nD → PrngReg)

abbrev aLoc (d : Dev nD) : Loc nD τ sig := (SparseCore.T d).loc main_arg0
abbrev bLoc (d : Dev nD) : Loc nD τ sig := (SparseCore.T d).loc main_arg1
abbrev zLoc (d : Dev nD) : Loc nD τ sig := (SparseCore.T d).loc main_v11

/-- The rows of all pieces in one table; the row number of each of the result's rows. -/
def tbl (x : S2x98304x256.Idx → Elt F .i32) : S196608x256.Idx → Elt F .i32 := shapeCast S196608x256 x shapeCasts_S2x98304x256_S196608x256
def nums (y : S65536.Idx → Elt F .i32) : S1x131072.Idx → Elt F .i32 :=
  shapeCast S1x131072
    (addi (broadcastInDim S2x65536 ![0, 1] bcast_S2x1_S2x65536_0_1
        (muli (broadcastInDim S2x1 ![0] bcast_S2_S2x1_0 (iotaInDim S2 32 0)) (broadcastInDim S2x1 ![] bcast_S_S2x1 (constantI S_ 32 98304#32))))
      (broadcastInDim S2x65536 ![0, 1] bcast_S1x65536_S2x65536_0_1 (broadcastInDim S1x65536 ![1] bcast_S65536_S1x65536_1 y)) : S2x65536.Idx → Elt F .i32)
    shapeCasts_S2x65536_S1x131072
/-- The result as the program's caller reads it. -/
def outp (g : S131072x256.Idx → Elt F .i32) : S2x65536x256.Idx → Elt F .i32 := shapeCast S2x65536x256 g shapeCasts_S131072x256_S2x65536x256

abbrev V0 (d : Dev nD) : Valuation τ sig (Elt F) := fun b => m (d, b)
def V1 (d : Dev nD) : Valuation τ sig (Elt F) := after before (V0 m d)

theorem V1_y (d : Dev nD) : V1 m d (Proc.devRef .tc main_v0) = tbl (m (aLoc d)) := by
  unfold V1 before
  after_results
  rfl
theorem V1_n (d : Dev nD) : V1 m d (Proc.devRef .tc main_v9) = nums (m (bLoc d)) := by
  unfold V1 before
  after_results
  rfl
theorem V1_a (d : Dev nD) : V1 m d (Proc.devRef .tc main_arg0) = m (aLoc d) := by
  unfold V1 before
  after_results
theorem V1_b (d : Dev nD) : V1 m d (Proc.devRef .tc main_arg1) = m (bLoc d) := by
  unfold V1 before
  after_results

/-! ## The run of @main -/

section Main

variable (hI : ∀ d j, (nums (m (bLoc d)) j : BitVec 32).toNat < 196608)

/-- The call's result. -/
abbrev res (d : Dev nD) : S131072x256.Idx → Elt F .i32 := G (tbl (m (aLoc d))) (nums (m (bLoc d))) (hI d)
def V2 (d : Dev nD) : Valuation τ sig (Elt F) := Function.update (V1 m d) (Proc.devRef .tc main_v10) (res m hI d)
def V3 (d : Dev nD) : Valuation τ sig (Elt F) := (last (F := F)).result (V2 m hI d)

abbrev Pm : (K (F := F)).Pay (nD := nD) (Val := Elt F) (Name := ℕ) (U := UU) := P (fun d => tbl (m (aLoc d))) (fun d => nums (m (bLoc d))) hI

theorem mem_uc (b : Ref sig .tc) (h : (Proc.devRef (τ := τ) .tc b).isScoped = false) : Proc.devRef .tc b ∈ Pipeline.ucRefs τ sig :=
  Finset.mem_filter.mpr ⟨StableHlo.devRef_mem_tcRefs b, by rw [h]; decide⟩

/-- The arrays the call reads and writes; the arrays the claims read. -/
def three : Finset (DevRef τ sig) := {Proc.devRef .tc main_v0, Proc.devRef .tc main_v9, Proc.devRef .tc main_v10}
def ends : Finset (DevRef τ sig) := {Proc.devRef .tc main_arg0, Proc.devRef .tc main_arg1, Proc.devRef .tc main_v11}

theorem three_sub : three ⊆ Pipeline.ucRefs τ sig := fun b hb => by
  simp only [three, Finset.mem_insert, Finset.mem_singleton] at hb
  rcases hb with rfl | rfl | rfl <;> exact mem_uc _ rfl
theorem ends_sub : ends ⊆ Pipeline.ucRefs τ sig := fun b hb => by
  simp only [ends, Finset.mem_insert, Finset.mem_singleton] at hb
  rcases hb with rfl | rfl | rfl <;> exact mem_uc _ rfl

theorem held_three (d : Dev nD) (U : Valuation τ sig (Elt F)) :
    (held (T d) three U : sProp 𝕄)
      = iprop((yLoc d ↦{fullShare} U (Proc.devRef .tc main_v0)) ∗ (nLoc d ↦{fullShare} U (Proc.devRef .tc main_v9)) ∗ oLoc d ↦{fullShare} U (Proc.devRef .tc main_v10)) := by
  unfold held three
  rw [SparseCore.bigSep_insert' (by decide), SparseCore.bigSep_insert' (by decide), bigSep_singleton]
theorem held_ends (d : Dev nD) (U : Valuation τ sig (Elt F)) :
    (held (T d) ends U : sProp 𝕄)
      = iprop((aLoc d ↦{fullShare} U (Proc.devRef .tc main_arg0)) ∗ (bLoc d ↦{fullShare} U (Proc.devRef .tc main_arg1)) ∗ zLoc d ↦{fullShare} U (Proc.devRef .tc main_v11)) := by
  unfold held ends
  rw [SparseCore.bigSep_insert' (by decide), SparseCore.bigSep_insert' (by decide), bigSep_singleton]

theorem V2_of_ne (d : Dev nD) {b : DevRef τ sig} (h : b ≠ Proc.devRef .tc main_v10) : V2 m hI d b = V1 m d b := Function.update_of_ne h _ _
theorem V2_o (d : Dev nD) : V2 m hI d (Proc.devRef .tc main_v10) = res m hI d := Function.update_self _ _ _

theorem V3_a (d : Dev nD) : V3 m hI d (Proc.devRef .tc main_arg0) = m (aLoc d) := by
  unfold V3 last
  rw [StableHlo.reshape_result_ne, V2_of_ne m hI d (by decide), V1_a]; decide
theorem V3_b (d : Dev nD) : V3 m hI d (Proc.devRef .tc main_arg1) = m (bLoc d) := by
  unfold V3 last
  rw [StableHlo.reshape_result_ne, V2_of_ne m hI d (by decide), V1_b]; decide
theorem V3_z (d : Dev nD) : V3 m hI d (Proc.devRef .tc main_v11) = outp (res m hI d) := by
  unfold V3 last
  rw [StableHlo.reshape_result, V2_o]
  rfl

/-- What @main starts the call with, and what it has after. -/
theorem call_in (d : Dev nD) : (held (T d) (Pipeline.ucRefs τ sig) (V1 m d) : sProp 𝕄)
    ⊢ iprop((bigSep Finset.univ fun c : Fin ((K (F := F)).nCore 0) => (Pm m hI).st 0 d c) ∗ held (T d) (Pipeline.ucRefs τ sig \ three) (V1 m d)) := by
  have e : (bigSep Finset.univ fun c : Fin ((K (F := F)).nCore 0) => (Pm m hI).st 0 d c)
      = iprop((∃ f, CoreHas (fun d => tbl (m (aLoc d))) (fun d => nums (m (bLoc d))) d 0 f) ∗ ∃ f, CoreHas (fun d => tbl (m (aLoc d))) (fun d => nums (m (bLoc d))) d 1 f) :=
    bigSep_fin_two (fun c : Fin 2 => (Pm m hI).st 0 d c)
  rw [e, held_sub_split (T d) three_sub, held_three, V1_y, V1_n]
  unfold CoreHas
  iintro ⟨⟨Hy, Hn, Ho⟩, Hr⟩
  ihave Hy := (pts_cores _).1 $$ Hy
  icases Hy with ⟨Hy0, Hy1⟩
  ihave Hn := (pts_cores _).1 $$ Hn
  icases Hn with ⟨Hn0, Hn1⟩
  ihave Ho := (o_cores d _).1 $$ Ho
  icases Ho with ⟨Ho0, Ho1⟩
  isplitr [Hr]
  swap; · iexact Hr
  isplitl [Hy0 Hn0 Ho0]
  · iexists _
    isplitl [Hy0]; · iexact Hy0
    isplitl [Hn0] <;> iassumption
  · iexists _
    isplitl [Hy1]; · iexact Hy1
    isplitl [Hn1] <;> iassumption

theorem call_out (d : Dev nD) :
    iprop((bigSep Finset.univ fun c : Fin ((K (F := F)).nCore 0) => (Pm m hI).dn 0 d c) ∗ held (T d) (Pipeline.ucRefs τ sig \ three) (V1 m d))
      ⊢ (held (T d) (Pipeline.ucRefs τ sig) (V2 m hI d) : sProp 𝕄) := by
  have e : (bigSep Finset.univ fun c : Fin ((K (F := F)).nCore 0) => (Pm m hI).dn 0 d c)
      = iprop((CoreHas (fun d => tbl (m (aLoc d))) (fun d => nums (m (bLoc d))) d 0 (res m hI d)) ∗ CoreHas (fun d => tbl (m (aLoc d))) (fun d => nums (m (bLoc d))) d 1 (res m hI d)) :=
    bigSep_fin_two (fun c : Fin 2 => (Pm m hI).dn 0 d c)
  have er : (held (T d) (Pipeline.ucRefs τ sig \ three) (V2 m hI d) : sProp 𝕄) = held (T d) (Pipeline.ucRefs τ sig \ three) (V1 m d) :=
    held_congr (T d) fun b hb => V2_of_ne m hI d fun h => (Finset.mem_sdiff.1 hb).2 (by rw [h]; decide)
  rw [e, held_sub_split (T d) three_sub (V2 m hI d), held_three, er, V2_o, V2_of_ne m hI d (show Proc.devRef .tc main_v0 ≠ Proc.devRef .tc main_v10 by decide),
    V2_of_ne m hI d (show Proc.devRef .tc main_v9 ≠ Proc.devRef .tc main_v10 by decide), V1_y, V1_n]
  unfold CoreHas
  iintro ⟨⟨⟨Hy0, Hn0, Ho0⟩, ⟨Hy1, Hn1, Ho1⟩⟩, Hr⟩
  isplitr [Hr]
  swap; · iexact Hr
  isplitl [Hy0 Hy1]
  · iapply (pts_cores _).2
    isplitl [Hy0] <;> iassumption
  isplitl [Hn0 Hn1]
  · iapply (pts_cores _).2
    isplitl [Hn0] <;> iassumption
  iapply (o_cores d _).2
  isplitl [Ho0] <;> iassumption

/-- What @main keeps for the claims. -/
abbrev FIN (d : Dev nD) : sProp 𝕄 := iprop((aLoc d ↦{fullShare} m (aLoc d)) ∗ (bLoc d ↦{fullShare} m (bLoc d)) ∗ zLoc d ↦{fullShare} outp (res m hI d))

theorem fin_of (d : Dev nD) : (held (T d) (Pipeline.ucRefs τ sig) ((last (F := F)).result (V2 m hI d)) : sProp 𝕄) ⊢ FIN m hI d := by
  show held (T d) (Pipeline.ucRefs τ sig) (V3 m hI d) ⊢ _
  rw [held_sub_split (T d) ends_sub, held_ends, V3_a, V3_b, V3_z]
  iintro ⟨H, -⟩
  iexact H

theorem last_sub : (last (F := F)).bufs ⊆ Pipeline.ucRefs τ sig := Pipeline.sub_ucRefs _ (by simp [last])

set_option backward.isDefEq.respectTransparency.types false in
theorem hmain (κ : GSem nD τ sig → ℕ) (d : Dev nD) :
    iprop((K (F := F)).ctx EH (Pm m hI) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hI d ∗ (K (F := F)).tcEnd d) := by
  unfold SparseCore.Cfg.tcRes SparseCore.Cfg.tcEnd
  rw [show (unscopedBufs d (fun b => m ((SparseCore.T d).loc b)) : sProp 𝕄) = held (T d) (Pipeline.ucRefs τ sig) (V0 m d) from
    Pipeline.unscopedBufs_held (Ix := HIx 1) (Name := ℕ) (U := UU) (Lvl := ℕ) d (V0 m d), main_eq]
  iintro ⟨#Hctx, Hst, ⟨Hb, Hheld, Hts, -⟩, -⟩
  iapply (wp_seq (defs := (K (F := F)).defs (D (F := F))) 𝒱 none Set.univ d (Pipeline.ucRefs τ sig) _ before (fun op h => Pipeline.sub_ucRefs op (before_sub op h)) before_fresh (V0 m d)) $$ [Hb Hheld]
  · isplitl [Hb] <;> iassumption
  iintro ⟨Hb, Hheld⟩
  ihave Hh := (show held (d.tc : Thread nD τ) (Pipeline.ucRefs τ sig) (after before (V0 m d)) ⊢ _ from call_in m hI d) $$ Hheld
  icases Hh with ⟨Hin, Hrest⟩
  simp only [wp_bind]
  iapply ((K (F := F)).wp_run (D (F := F)) 𝒱 (EH := EH) (P := Pm m hI) κ d 0) $$ [Hst Hin Hb Hrest Hts]
  isplitr; · iexact Hctx
  isplitl [Hst]; · iexact Hst
  isplitl [Hin]; · iexact Hin
  iintro ⟨Hst, Hdn⟩
  ihave Hheld := (call_out m hI d) $$ [Hdn Hrest]
  · isplitl [Hdn] <;> iassumption
  iapply (wp_hlo_within 𝒱 (SparseCore.T d) none Set.univ (op := last) (S := Pipeline.ucRefs τ sig) last_sub (V := V2 m hI d)) $$ [Hb Hheld]
  · isplitl [Hb] <;> iassumption
  iintro ⟨Hb, Hheld⟩
  ihave Hf := (fin_of m hI d) $$ Hheld
  rw [wp_ret]; imodintro
  rw [wp_pure]; imodintro
  isplitl [Hst]; · iexact Hst
  isplitl [Hf]; · iexact Hf
  isplitl [Hb] <;> iassumption

/-! ## What a run ends with -/

def fq (d : Dev nD) (s' : Phys nD τ sig (Elt F)) : Prop :=
  s'.mem.mem (aLoc d) = m (aLoc d) ∧ s'.mem.mem (bLoc d) = m (bLoc d) ∧ s'.mem.mem (zLoc d) = outp (res m hI d)

set_option maxRecDepth 16384 in
theorem hfin (d : Dev nD) (s' : Phys nD τ sig (Elt F)) : iprop(FIN m hI d ∗ SI s') ⊢ (⌜fq m hI d s'⌝ : sProp 𝕄) := by
  iintro ⟨⟨Ha, Hb, Hz⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := zLoc d) (I := Finset.univ) (q := fullShare) (f := outp (res m hI d))) $$ [HSI Hz]
  · isplitl [HSI] <;> iassumption
  icases H with %h3
  ipureintro
  exact ⟨funext fun i => h1 i (Finset.mem_univ i), funext fun i => h2 i (Finset.mem_univ i), funext fun i => h3 i (Finset.mem_univ i)⟩

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (Pm m hI).x q thr) := by
  have hemp : ∀ {I : Type} (s : Finset I), (bigSep s fun _ => iprop(emp)) = (iprop(emp) : sProp 𝕄) := fun s => bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [hemp]; iempintro
  rw [show (bigSep Finset.univ fun thr : Thread nD τ => bigSep Finset.univ fun q : Fin 1 => (Pm m hI).x q thr) = bigSep Finset.univ fun _ => iprop(emp) from
    bigSep_congr fun _ _ => bigSep_univ_of_subsingleton (0 : Fin 1), hemp]
  iempintro

/-- A run's end: the arguments as they were, the result the table's rows by number, every semaphore at zero. -/
def Done : PUnit × MemSt nD τ sig (Elt F) → Prop := fun r => (∀ d : Dev nD, r.2.mem (aLoc d) = m (aLoc d) ∧ r.2.mem (bLoc d) = m (bLoc d)
  ∧ r.2.mem (zLoc d) = outp (res m hI d)) ∧ r.2.sem = fun _ => 0

theorem run_main [∀ e, Nonempty (Elt F e)] :
    θ_run (Cert.KernelIdeal.defs (F := F)) (Cert.KernelIdeal.threads (F := F)) ⟨m, fun _ => 0, ρ⟩ (Done m hI) :=
  SparseCore.Cfg.θ_run_sc_quiescent (K := K (F := F)) (D := D (F := F)) (𝒱 := 𝒱) (EH := EH) (P := Pm m hI) (A := ∅) kfacts v₀
    (fun q hq => match q with | 0 => nomatch hq)
    (fun q _ => match q with | 0 => tileObl _ _ hI)
    (fun q _ => match q with | 0 => SparseCore.Cfg.VecSplit.of_plain (vecSplit _ _ hI))
    m ρ main (fun _ => iprop(emp)) (FIN m hI) (u₀ (F := F)) (sep_elim_left.trans (hu₀ m hI)) (hmain m ρ hI) (fq m hI) (hfin m hI) (Done m hI) (fun _ h hz => ⟨h, hz⟩)

end Main
end Host
end Cert.Proof.Rows
-- ==== Proof.Value.lean ====
/-
  What the program computes: the call's numbers by piece and place, the result's rows, and the reference's gather.
-/
module

public import proofs.«01_k».proof.Proof.Launch
public import Idealize.ShloMosaic.Lib.ValueIdx
public import Idealize.ShloMosaic.Lib.ValueLayout

@[expose] public section

noncomputable section

namespace Cert.Proof.Rows

open Cert.KernelIdeal Cert.KernelIdeal.Gen
open Idealize.ShloMosaic Idealize.ShloMosaic.ValueIdx

/-- Row `dest n` of each piece, at place `n`. -/
def rowsAt {α : Type} (x : S2x98304x256.Idx → α) (y : S65536.Idx → BitVec 32) (hy : ∀ j, (y j).toNat < 98304) : S2x65536x256.Idx → α :=
  fun i => x (ix3 (n0 := 2) (n1 := 98304) (n2 := 256) (i 0) ⟨(y (ix1 (n := 65536) (i 1))).toNat, hy _⟩ (i 2))

variable {F : FTy → Type} [FloatOps F]

/-- The number of place `n` of piece `p`. -/
theorem nums_at (y : S65536.Idx → Elt F .i32) (p : Fin 2) (n : Fin 65536) (j : S1x131072.Idx) (hj : (j 1).val = 65536 * p.val + n.val) :
    nums (F := F) y j = (BitVec.ofNat 32 p.val * 98304#32 + (y (ix1 (n := 65536) n) : BitVec 32) : BitVec 32) := by
  have h0 : (j 0).val = 0 := by have h : (j 0).val < 1 := (j 0).isLt; omega
  unfold nums
  rw [shapeCast_apply _ _ j (ix2 (n0 := 2) (n1 := 65536) p n) (by
    rw [Shape.rowMajor_val_two, Shape.rowMajor_val_two]
    show p.val * 65536 + n.val = (j 0).val * 131072 + (j 1).val
    omega)]
  have e1 : broadcastInDim S2x65536 ![0, 1] bcast_S2x1_S2x65536_0_1 (muli (broadcastInDim S2x1 ![0] bcast_S2_S2x1_0 (iotaInDim S2 32 0)) (broadcastInDim S2x1 ![] bcast_S_S2x1 (constantI S_ 32 98304#32))) (ix2 (n0 := 2) (n1 := 65536) p n)
      = (BitVec.ofNat 32 p.val * 98304#32 : BitVec 32) := by
    rw [broadcastInDim_apply _ _ _ _ (ix2 (n0 := 2) (n1 := 1) p 0) (by intro a; match a with | ⟨0, _⟩ => rfl | ⟨1, _⟩ => rfl)]
    show (broadcastInDim S2x1 ![0] bcast_S2_S2x1_0 (iotaInDim S2 32 0) (ix2 (n0 := 2) (n1 := 1) p 0) * broadcastInDim S2x1 ![] bcast_S_S2x1 (constantI S_ 32 98304#32) (ix2 (n0 := 2) (n1 := 1) p 0) : BitVec 32) = _
    rw [broadcastInDim_apply _ _ _ _ (ix1 (n := 2) p) (by intro a; match a with | ⟨0, _⟩ => rfl)]
    rfl
  have e2 : broadcastInDim S2x65536 ![0, 1] bcast_S1x65536_S2x65536_0_1 (broadcastInDim S1x65536 ![1] bcast_S65536_S1x65536_1 y) (ix2 (n0 := 2) (n1 := 65536) p n) = y (ix1 (n := 65536) n) := by
    rw [broadcastInDim_apply _ _ _ _ (ix2 (n0 := 1) (n1 := 65536) 0 n) (by intro a; match a with | ⟨0, _⟩ => rfl | ⟨1, _⟩ => rfl),
      broadcastInDim_apply _ _ _ _ (ix1 (n := 65536) n) (by intro a; match a with | ⟨0, _⟩ => rfl)]
  exact congrArg₂ (fun a b : BitVec 32 => a + b) e1 e2

theorem num_val (p : Fin 2) (v : BitVec 32) (hv : v.toNat < 98304) : (BitVec.ofNat 32 p.val * 98304#32 + v : BitVec 32).toNat = 98304 * p.val + v.toNat := by
  have hp := p.isLt
  rw [BitVec.toNat_add, BitVec.toNat_mul, BitVec.toNat_ofNat, BitVec.toNat_ofNat]
  omega

theorem nums_val (y : S65536.Idx → Elt F .i32) (hy : ∀ j, (y j : BitVec 32).toNat < 98304) (p : Fin 2) (n : Fin 65536) (j : S1x131072.Idx) (hj : (j 1).val = 65536 * p.val + n.val) :
    (nums (F := F) y j : BitVec 32).toNat = 98304 * p.val + (y (ix1 (n := 65536) n) : BitVec 32).toNat := by
  rw [nums_at y p n j hj]; exact num_val p _ (hy _)

theorem nums_lt (y : S65536.Idx → Elt F .i32) (hy : ∀ j, (y j : BitVec 32).toNat < 98304) (j : S1x131072.Idx) : (nums (F := F) y j : BitVec 32).toNat < 196608 := by
  have h1 : (j 1).val < 131072 := (j 1).isLt
  rw [nums_val y hy ⟨(j 1).val / 65536, by omega⟩ ⟨(j 1).val % 65536, by omega⟩ j (by dsimp only; omega)]
  have := hy (ix1 (n := 65536) ⟨(j 1).val % 65536, by omega⟩)
  dsimp only; omega

/-- THE PROGRAM'S VALUE: each place of each piece holds the row that `dest` names. -/
theorem outp_rows (x : S2x98304x256.Idx → Elt F .i32) (y : S65536.Idx → Elt F .i32) (hy : ∀ j, (y j : BitVec 32).toNat < 98304)
    (hI : ∀ j, (nums (F := F) y j : BitVec 32).toNat < 196608) : outp (G (tbl x) (nums y) hI) = rowsAt x y hy := by
  funext i
  have h0 : (i 0).val < 2 := (i 0).isLt
  have h1 : (i 1).val < 65536 := (i 1).isLt
  have h2 : (i 2).val < 256 := (i 2).isLt
  unfold outp
  rw [shapeCast_apply _ _ i (ix2 (n0 := 131072) (n1 := 256) ⟨65536 * (i 0).val + (i 1).val, by omega⟩ ⟨(i 2).val, h2⟩) (by
    rw [Shape.rowMajor_val_two, Shape.rowMajor_val_three]
    show (65536 * (i 0).val + (i 1).val) * 256 + (i 2).val = ((i 0).val * 65536 + (i 1).val) * 256 + (i 2).val
    omega)]
  have hv := nums_val y hy ⟨(i 0).val, h0⟩ ⟨(i 1).val, h1⟩ (ix2 (n0 := 1) (n1 := 131072) 0 ⟨65536 * (i 0).val + (i 1).val, by omega⟩) rfl
  have hd := hy (ix1 (n := 65536) ⟨(i 1).val, h1⟩)
  unfold G tbl rowsAt
  rw [shapeCast_apply _ _ _ (ix3 (n0 := 2) (n1 := 98304) (n2 := 256) ⟨(i 0).val, h0⟩ ⟨(y (ix1 (n := 65536) ⟨(i 1).val, h1⟩) : BitVec 32).toNat, hd⟩ ⟨(i 2).val, h2⟩) (by
    rw [Shape.rowMajor_val_two, Shape.rowMajor_val_three]
    show ((i 0).val * 98304 + (y (ix1 (n := 65536) ⟨(i 1).val, h1⟩) : BitVec 32).toNat) * 256 + (i 2).val
      = (nums (F := F) y (ix2 (n0 := 1) (n1 := 131072) 0 ⟨65536 * (i 0).val + (i 1).val, by omega⟩) : BitVec 32).toNat * 256 + (i 2).val
    rw [hv]; dsimp only; omega)]
  rfl

/-! ## The reference's gather -/

/-- The dimension numbers of `x[:, dest]`. -/
abbrev pick (wf : GatherDims.WF S2x98304x256 ⟨2, ![65536, 1]⟩ S2x65536x256 [0, 2] [1] [] [1] [] 1 ![2, 1, 256]) :
    GatherDims S2x98304x256 ⟨2, ![65536, 1]⟩ S2x65536x256 where
  offsetDims := [0, 2]
  collapsedSliceDims := [1]
  operandBatchingDims := []
  startIndicesBatchingDims := []
  startIndexMap := [1]
  indexVectorDim := 1
  sliceSizes := ![2, 1, 256]
  wf := wf

theorem gather_rows {α : Type} (wf) (x : S2x98304x256.Idx → α) (idx : IVec ⟨2, ![65536, 1]⟩ 32) (y : S65536.Idx → BitVec 32)
    (hy : ∀ j, (y j).toNat < 98304) (hidx : ∀ n : Fin 65536, idx (ix2 (n0 := 65536) (n1 := 1) n 0) = y (ix1 (n := 65536) n)) :
    Host.gather (pick wf) x idx = rowsAt x y hy := by
  funext i
  have h1 : (i 1).val < 65536 := (i 1).isLt
  unfold Host.gather rowsAt
  refine congrArg x (funext fun a => Fin.ext ?_)
  have hsi : ∀ h, (pick wf).siIdx i ⟨List.idxOf (1 : Fin 3) (pick wf).startIndexMap, h⟩ = ix2 (n0 := 65536) (n1 := 1) ⟨(i 1).val, h1⟩ 0 := by
    intro h; funext b; refine Fin.ext ?_
    match b with
    | ⟨0, _⟩ => rfl
    | ⟨1, _⟩ => rfl
  match a with
  | ⟨0, _⟩ =>
    show (pick wf).start i idx 0 + (pick wf).batchCoord i 0 + (pick wf).offCoord i 0 = (i 0).val
    have e : (pick wf).start i idx 0 = 0 := rfl
    have e' : (pick wf).offCoord i 0 = (i 0).val := rfl
    rw [e, e', GatherDims.batchCoord_eq_zero _ _ _ List.not_mem_nil]; omega
  | ⟨1, _⟩ =>
    show (pick wf).start i idx 1 + (pick wf).batchCoord i 1 + (pick wf).offCoord i 1 = (y (ix1 (n := 65536) (i 1))).toNat
    have e' : (pick wf).offCoord i 1 = 0 := rfl
    have e : (pick wf).start i idx 1 = (y (ix1 (n := 65536) (i 1))).toNat := by
      unfold GatherDims.start
      rw [dif_pos (show (1 : Fin 3) ∈ (pick wf).startIndexMap from List.mem_singleton.mpr rfl), hsi, hidx]
      have hv := hy (ix1 (n := 65536) (i 1))
      show min (y (ix1 (n := 65536) (i 1))).toInt.toNat 98303 = _
      rw [BitVec.toInt_eq_toNat_cond, if_pos (by omega)]
      omega
    rw [e', GatherDims.batchCoord_eq_zero _ _ _ List.not_mem_nil]
    exact e
  | ⟨2, _⟩ =>
    show (pick wf).start i idx 2 + (pick wf).batchCoord i 2 + (pick wf).offCoord i 2 = (i 2).val
    have e : (pick wf).start i idx 2 = 0 := rfl
    have e' : (pick wf).offCoord i 2 = (i 2).val := rfl
    rw [e, e', GatherDims.batchCoord_eq_zero _ _ _ List.not_mem_nil]; omega

/-- A row number in range is not negative: the wrap that `x[:, dest]` puts round it leaves it. -/
theorem wrap_id (v w : BitVec 32) (hv : v.toNat < 98304) : Scalar.select (IntOp.cmpi .slt v 0#32) w v = v := by
  have h : v.slt 0#32 = false := by
    simp only [BitVec.slt_eq_decide, BitVec.toInt_eq_toNat_cond, BitVec.toNat_ofNat, decide_eq_false_iff_not]
    omega
  unfold Scalar.select
  rw [show IntOp.cmpi .slt v 0#32 = BitVec.ofBool (v.slt 0#32) from rfl, h]
  rfl

end Cert.Proof.Rows
-- ==== Proof.Refs.lean ====
/-
  The reference's run: a line of host operations, the last the gather `x[:, dest]`.
-/
module

public import proofs.«01_k».proof.Proof.Value
public import proofs.«01_k».proof.Proof.Gen.Reference
public import proofs.«01_k».proof.Proof.Gen.ReferenceIdeal
public import Idealize.ShloMosaic.Lib.Claim
public import Idealize.ShloMosaic.Lib.Quiescent

@[expose] public section

noncomputable section

namespace Cert.Proof.Rows

open Idealize.ShloMosaic Idealize.ShloMosaic.ValueIdx Idealize.SL.Sem

variable {F : FTy → Type} [FloatOps F]

section Plain

open Cert.Reference Cert.Reference.Gen

theorem plain_ref (x : S2x98304x256.Idx → Elt F .i32) (y : S65536.Idx → Elt F .i32) (hy : ∀ j, (y j : BitVec 32).toNat < 98304) :
    Host.gather gather_S2x98304x256_S65536x1_S2x65536x256_02_1_n_n_1_1_21256 x (broadcastInDim S65536x1 ![0] bcast_S65536_S65536x1_0
      (select (cmpi .slt y (broadcastInDim S65536 ![] bcast_S_S65536 (constantI S_ 32 0#32))) (addi y (broadcastInDim S65536 ![] bcast_S_S65536 (constantI S_ 32 98304#32))) y))
      = rowsAt x y hy := by
  refine gather_rows _ x _ y hy fun n => ?_
  rw [broadcastInDim_apply _ _ _ _ (ix1 (n := 65536) n) (by intro a; match a with | ⟨0, _⟩ => rfl)]
  exact wrap_id _ _ (hy _)

/-- The reference's run: the result holds the rows `dest` names, the arguments are as they were. -/
theorem plain_run (m : (ℓ : Loc nD τ sig) → Buf (Elt F) ℓ) (ρ : Dev nD → PrngReg) :
    θ_run (defs (F := F)) (onTc (τ := τ) (main (F := F))) ⟨m, fun _ => 0, ρ⟩ fun r => (∀ d : Dev nD,
      r.2.mem ((d.tc : Thread nD τ).loc main_arg0) = m ((d.tc : Thread nD τ).loc main_arg0)
      ∧ r.2.mem ((d.tc : Thread nD τ).loc main_arg1) = m ((d.tc : Thread nD τ).loc main_arg1)
      ∧ ∀ hy : ∀ j : S65536.Idx, (m ((d.tc : Thread nD τ).loc main_arg1) j : BitVec 32).toNat < 98304,
        r.2.mem ((d.tc : Thread nD τ).loc main_v6) = rowsAt (m ((d.tc : Thread nD τ).loc main_arg0)) (m ((d.tc : Thread nD τ).loc main_arg1)) hy)
      ∧ r.2.sem = fun _ => 0 := by
  refine (StableHlo.run_hlo (defs (F := F)) (main (F := F)) (by hlo_seq) (by decide) (by decide) (by simp)
    (by intro _ h; (repeat (cases h with | head => rfl | tail _ h => ?_)); exact nomatch h) m ρ).mono fun r h => ⟨fun d => ⟨?_, ?_, fun hy => ?_⟩, sem_eq_zero_of_no_sems rfl _⟩
  · rw [h d main_arg0]; after_results
  · rw [h d main_arg1]; after_results
  · rw [h d main_v6, ← plain_ref]
    after_results

end Plain

section Ideal

open Cert.ReferenceIdeal Cert.ReferenceIdeal.Gen

theorem ideal_ref (x : S2x98304x256.Idx → Elt F .i32) (y : S65536.Idx → Elt F .i32) (hy : ∀ j, (y j : BitVec 32).toNat < 98304) :
    Host.gather gather_S2x98304x256_S65536x1_S2x65536x256_02_1_n_n_1_1_21256 x (broadcastInDim S65536x1 ![0] bcast_S65536_S65536x1_0
      (select (cmpi .slt y (broadcastInDim S65536 ![] bcast_S_S65536 (constantI S_ 32 0#32))) (addi y (broadcastInDim S65536 ![] bcast_S_S65536 (constantI S_ 32 98304#32))) y))
      = rowsAt x y hy := by
  refine gather_rows _ x _ y hy fun n => ?_
  rw [broadcastInDim_apply _ _ _ _ (ix1 (n := 65536) n) (by intro a; match a with | ⟨0, _⟩ => rfl)]
  exact wrap_id _ _ (hy _)

/-- The reference's run: the result holds the rows `dest` names, the arguments are as they were. -/
theorem ideal_run (m : (ℓ : Loc nD τ sig) → Buf (Elt F) ℓ) (ρ : Dev nD → PrngReg) :
    θ_run (defs (F := F)) (onTc (τ := τ) (main (F := F))) ⟨m, fun _ => 0, ρ⟩ fun r => (∀ d : Dev nD,
      r.2.mem ((d.tc : Thread nD τ).loc main_arg0) = m ((d.tc : Thread nD τ).loc main_arg0)
      ∧ r.2.mem ((d.tc : Thread nD τ).loc main_arg1) = m ((d.tc : Thread nD τ).loc main_arg1)
      ∧ ∀ hy : ∀ j : S65536.Idx, (m ((d.tc : Thread nD τ).loc main_arg1) j : BitVec 32).toNat < 98304,
        r.2.mem ((d.tc : Thread nD τ).loc main_v6) = rowsAt (m ((d.tc : Thread nD τ).loc main_arg0)) (m ((d.tc : Thread nD τ).loc main_arg1)) hy)
      ∧ r.2.sem = fun _ => 0 := by
  refine (StableHlo.run_hlo (defs (F := F)) (main (F := F)) (by hlo_seq) (by decide) (by decide) (by simp)
    (by intro _ h; (repeat (cases h with | head => rfl | tail _ h => ?_)); exact nomatch h) m ρ).mono fun r h => ⟨fun d => ⟨?_, ?_, fun hy => ?_⟩, sem_eq_zero_of_no_sems rfl _⟩
  · rw [h d main_arg0]; after_results
  · rw [h d main_arg1]; after_results
  · rw [h d main_v6, ← ideal_ref]
    after_results

end Ideal

end Cert.Proof.Rows
-- ==== Proof.ProjSpec.lean ====
/-
  The input projection as plain mathematics over the extended reals: the normalised and modulated rows, their products
  with the weight's columns, and the short convolution along a sequence.
-/
module

public import Idealize.ShloMosaic.PureOps.Ideal
public import Idealize.ShloMosaic.Lib.Pointwise

@[expose] public section

noncomputable section

namespace Cert.Proof.ProjSpec

open Idealize.ShloMosaic

/-- The integer zero, converted, is zero. -/
theorem pad0 : (FloatOps.sitofp FTy.f32 0#32 : Ideal FTy.f32) = 0 := by
  show ((((0#32 : BitVec 32).toInt : ℤ) : ℝ) : EReal) = 0
  simp

/-- The arguments, by coordinates. -/
structure Args where
  x : Fin 8 → Fin 4096 → Fin 1024 → EReal
  md : Fin 8 → Fin 6144 → EReal
  g : Fin 1024 → EReal
  w : Fin 1024 → Fin 8208 → EReal
  cw : Fin 3 → Fin 1024 → EReal

variable (A : Args)

/-- One number of the normalised and modulated input. -/
def hid (b : Fin 8) (s : Fin 4096) (k : Fin 1024) : EReal :=
  A.x b s k * Ideal.rsqrt (Ideal.div (∑ j, A.x b s j * A.x b s j) (Ideal.ofBits FTy.f32 1149239296#32) + Ideal.ofBits FTy.f32 897988541#32)
    * (A.g k * (1 + A.md b ⟨1024 + k.val, by omega⟩)) + A.md b ⟨k.val, by omega⟩

/-- One number of the projection. -/
def prj (b : Fin 8) (s : Fin 4096) (n : Fin 8208) : EReal := ∑ k, hid A b s k * A.w k n

/-- What the convolution runs over. -/
def up (b : Fin 8) (s : Fin 4096) (j : Fin 1024) : EReal := prj A b s ⟨4112 + j.val, by omega⟩ * prj A b s ⟨5136 + j.val, by omega⟩

/-- The same `d` rows earlier, zero before the sequence starts. -/
def upB (d : ℕ) (b : Fin 8) (s : Fin 4096) (j : Fin 1024) : EReal := if d ≤ s.val then up A b ⟨s.val - d, by omega⟩ j else 0

def conv (b : Fin 8) (s : Fin 4096) (j : Fin 1024) : EReal := A.cw 0 j * upB A 2 b s j + A.cw 1 j * upB A 1 b s j + A.cw 2 j * up A b s j

/-- The three results. -/
def za (b : Fin 8) (s : Fin 4096) (n : Fin 3072) : EReal := prj A b s ⟨if n.val < 2048 then n.val else n.val + 16, by split <;> omega⟩

def zb (b : Fin 8) (s : Fin 4096) (n : Fin 3072) : EReal :=
  if h : n.val < 1024 then prj A b s ⟨3088 + n.val, by omega⟩ * conv A b s ⟨n.val, h⟩ else prj A b s ⟨5136 + n.val, by omega⟩

def zg (b : Fin 8) (s : Fin 4096) (n : Fin 128) : EReal := if n.val < 48 then prj A b s ⟨2048 + n.val % 16, by omega⟩ else 0

end Cert.Proof.ProjSpec
end
-- ==== Proof.ProjIn.lean ====
/-
  What the input projection's grid points read: the blocks of its operands, in the arguments' own places.
-/
module

public import proofs.«01_k».proof.Proof.Gen.Kernel2Ideal.Value
public import Idealize.ShloMosaic.Lib.Pipeline.ValueKit
public import Idealize.ShloMosaic.Lib.Pointwise
public import proofs.«01_k».proof.Proof.ProjSpec

@[expose] public section

noncomputable section

namespace Cert.Proof.Proj

open Cert.Kernel2Ideal Cert.Kernel2Ideal.Gen
open Idealize.ShloMosaic Idealize.ShloMosaic.TcCoe Idealize.ShloMosaic.Tactic
open Idealize.ShloMosaic.Pipeline

variable (m : (ℓ : Loc nD τ sig) → Buf (Elt Ideal) ℓ) (c : Dev nD) (t : Fin cfg0.N)

theorem idx : ∀ t : Fin cfg0.N, win0_0.index t = ![t.val, 0] ∧ win0_1.index t = ![t.val / 4, 0, 0] ∧ win0_2.index t = ![0, 0] ∧ win0_3.index t = ![0, 0]
    ∧ win0_4.index t = ![0, 0] ∧ win0_5.index t = ![0, 0] ∧ win0_6.index t = ![0, 0] := by decide +kernel

set_option maxRecDepth 16384

theorem V_v10 : V m c main_v10 = shapeCast _ (m ((c : Thread nD τ).loc main_arg0)) shapeCasts_S8x4096x1024_S32768x1024 := by
  unfold V hostOps0 hostOps0_1 hostOps0_2
  simp only [List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem V_v11 : V m c main_v11 = shapeCast _ (m ((c : Thread nD τ).loc main_arg1)) shapeCasts_S8x6144_S8x6x1024 := by
  unfold V hostOps0 hostOps0_1 hostOps0_2
  simp only [List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem V_v12 : V m c main_v12 = shapeCast _ (m ((c : Thread nD τ).loc main_arg2)) shapeCasts_S1024_S1x1024 := by
  unfold V hostOps0 hostOps0_1 hostOps0_2
  simp only [List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem V_v5 : V m c main_v5 = (truncf .bf16 (extractStridedSlice S1024x5120 ![0, 3088] (m ((c : Thread nD τ).loc main_arg3) : FVec Ideal S1024x8208 .f32) slices_S1024x8208_S1024x5120_0_3088) bitsLt_bf16_f32 : FVec Ideal S1024x5120 .bf16) := by
  unfold V hostOps0 hostOps0_1 hostOps0_2
  simp only [List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem V_v3 : V m c main_v3 = (truncf .bf16 (concatenate S1024x3072 1 [⟨S1024x2048, extractStridedSlice S1024x2048 ![0, 0] (m ((c : Thread nD τ).loc main_arg3) : FVec Ideal S1024x8208 .f32) slices_S1024x8208_S1024x2048_0_0⟩, ⟨S1024x1024, extractStridedSlice S1024x1024 ![0, 2064] (m ((c : Thread nD τ).loc main_arg3) : FVec Ideal S1024x8208 .f32) slices_S1024x8208_S1024x1024_0_2064⟩] concatenates_S1024x2048_S1024x1024_S1024x3072_d1) bitsLt_bf16_f32 : FVec Ideal S1024x3072 .bf16) := by
  unfold V hostOps0 hostOps0_1 hostOps0_2
  simp only [List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

/-- The sixteen narrow columns of the weight. -/
def narrow : FVec Ideal S1024x16 .f32 := extractStridedSlice S1024x16 ![0, 2048] (m ((c : Thread nD τ).loc main_arg3) : FVec Ideal S1024x8208 .f32) slices_S1024x8208_S1024x16_0_2048

theorem V_v9 : V m c main_v9 = (truncf .bf16 (pad S1024x128 ![0, 0] ![0, 80] ![0, 0] (concatenate S1024x48 1 [⟨S1024x16, narrow m c⟩, ⟨S1024x16, narrow m c⟩, ⟨S1024x16, narrow m c⟩] concatenates_S1024x16_S1024x16_S1024x16_S1024x48_d1) (sitofp .f32 (constantI S_ 32 0#32)) pads_S1024x48_S1024x128_000_0800 h_S_) bitsLt_bf16_f32 : FVec Ideal S1024x128 .bf16) := by
  unfold V hostOps0 hostOps0_1 hostOps0_2
  simp only [List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem in0 (r k : Fin 1024) (i : S8x4096x1024.Idx) (h0 : (i 0).val = t.val / 4) (h1 : (i 1).val = t.val % 4 * 1024 + r.val) (h2 : (i 2).val = k.val) :
    iblk m c 0 t (ix2 r k) = m ((c : Thread nD τ).loc main_arg0) i := by
  have ht : t.val < 32 := lt_of_lt_of_eq t.isLt N_0
  have e : (win0_0.blk t).view.emb (ix2 r k) = ix2 (n0 := 32768) (n1 := 1024) ⟨t.val * 1024 + r.val, by omega⟩ k := by blk_ext [idx t]
  blk_simp [iblk, idx t]
  rw [V_v10, e]
  refine shapeCast_apply _ _ _ i ?_
  rw [Shape.rowMajor_val_two, Shape.rowMajor_val_three]
  show ((i 0).val * 4096 + (i 1).val) * 1024 + (i 2).val = (t.val * 1024 + r.val) * 1024 + k.val
  omega

theorem in1 (r : Fin 6) (k : Fin 1024) (i : S8x6144.Idx) (h0 : (i 0).val = t.val / 4) (h1 : (i 1).val = r.val * 1024 + k.val) :
    iblk m c 1 t (ix3 0 r k) = m ((c : Thread nD τ).loc main_arg1) i := by
  have ht : t.val < 32 := lt_of_lt_of_eq t.isLt N_0
  have e : (win0_1.blk t).view.emb (ix3 0 r k) = ix3 (n0 := 8) (n1 := 6) (n2 := 1024) ⟨t.val / 4, by omega⟩ r k := by blk_ext [idx t]
  blk_simp [iblk, idx t]
  rw [V_v11, e]
  refine shapeCast_apply _ _ _ i ?_
  rw [Shape.rowMajor_val_two, Shape.rowMajor_val_three]
  show (i 0).val * 6144 + (i 1).val = (t.val / 4 * 6 + r.val) * 1024 + k.val
  omega

theorem in2 (k : Fin 1024) :
    iblk m c 2 t (ix2 0 k) = m ((c : Thread nD τ).loc main_arg2) (ix1 k) := by
  have e : (win0_2.blk t).view.emb (ix2 0 k) = ix2 (n0 := 1) (n1 := 1024) 0 k := by blk_ext [idx t]
  blk_simp [iblk, idx t]
  rw [V_v12, e]
  pointwise

theorem in3 (r : Fin 3) (k : Fin 1024) :
    iblk m c 3 t (ix2 r k) = m ((c : Thread nD τ).loc main_arg4) (ix2 r k) := by
  blk_ext [iblk, V, idx t]

theorem in4 (k : Fin 1024) (n : Fin 3072) (i : S1024x8208.Idx) (h0 : (i 0).val = k.val) (h1 : (i 1).val = if n.val < 2048 then n.val else n.val + 16) :
    iblk m c 4 t (ix2 k n) = m ((c : Thread nD τ).loc main_arg3) i := by
  have e : (win0_4.blk t).view.emb (ix2 k n) = ix2 (n0 := 1024) (n1 := 3072) k n := by blk_ext [idx t]
  blk_simp [iblk, idx t]
  rw [V_v3, e]
  pointwise
  split_ifs at h1 ⊢ <;> blk_ext []

theorem in5 (k : Fin 1024) (n : Fin 5120) (i : S1024x8208.Idx) (h0 : (i 0).val = k.val) (h1 : (i 1).val = 3088 + n.val) :
    iblk m c 5 t (ix2 k n) = m ((c : Thread nD τ).loc main_arg3) i := by
  have e : (win0_5.blk t).view.emb (ix2 k n) = ix2 (n0 := 1024) (n1 := 5120) k n := by blk_ext [idx t]
  blk_simp [iblk, idx t]
  rw [V_v5, e]
  pointwise
  blk_ext []

theorem in6 (k : Fin 1024) (n : Fin 128) (i : S1024x8208.Idx) (h0 : (i 0).val = k.val) (h1 : (i 1).val = 2048 + n.val % 16) :
    iblk m c 6 t (ix2 k n) = if n.val < 48 then (m ((c : Thread nD τ).loc main_arg3) i : EReal) else (0 : EReal) := by
  have e : (win0_6.blk t).view.emb (ix2 k n) = ix2 (n0 := 1024) (n1 := 128) k n := by blk_ext [idx t]
  blk_simp [iblk, idx t]
  rw [V_v9, e]
  unfold narrow
  pointwise
  split_ifs
  all_goals first
    | blk_ext []
    | exact ProjSpec.pad0
    | (exfalso; omega)
    | (exfalso; rename_i h; exact h rfl)
    | skip

end Cert.Proof.Proj
end
-- ==== Proof.ProjPay.lean ====
/-
  The values that one grid point of the input projection stores, read one number at a time.
-/
module

public import proofs.«01_k».proof.Proof.Gen.Kernel2Ideal.Skeleton
public import Idealize.ShloMosaic.Lib.Pointwise

@[expose] public section

noncomputable section

namespace Cert.Proof.Proj

open Cert.Kernel2Ideal Cert.Kernel2Ideal.Gen
open Idealize.ShloMosaic Idealize.ShloMosaic.TcCoe Idealize.ShloMosaic.Tactic

/-- The modulated rows of a block. -/
def hB (X : Vec Ideal S1024x1024 .f32) (M : Vec Ideal S1x6x1024 .f32) (G : Vec Ideal S1x1024 .f32) : FVec Ideal S1024x1024 .bf16 := k0_pay6 (k0_pay4 X M G) (k0_pay5 M)

theorem hB_at (X : Vec Ideal S1024x1024 .f32) (M : Vec Ideal S1x6x1024 .f32) (G : Vec Ideal S1x1024 .f32) (r k : Fin 1024) :
    hB X M G (ix2 r k) = (X (ix2 r k) * Ideal.rsqrt (Ideal.div (∑ x, X (ix2 r x) * X (ix2 r x)) (Ideal.ofBits FTy.f32 1149239296#32) + Ideal.ofBits FTy.f32 897988541#32)
      * (G (ix2 0 k) * (1 + M (ix3 0 1 k))) + M (ix3 0 0 k) : EReal) := by
  unfold hB k0_pay6 k0_pay4 k0_pay5 k0_pay3
  pointwise

section products

variable (v35 v37 : FVec Ideal S1024x1024 .f32) (r : Fin 1024)

theorem pay7_at (W : Vec Ideal S1024x1024 .bf16) (k : Fin 1024) : k0_pay7 v35 v37 W (ix2 r k) = (∑ x, k0_pay6 v35 v37 (ix2 r x) * W (ix2 x k) : EReal) := by
  unfold k0_pay7; pointwise

theorem pay8_at (W : Vec Ideal S1024x1024 .bf16) (k : Fin 1024) : k0_pay8 v35 v37 W (ix2 r k) = (∑ x, k0_pay6 v35 v37 (ix2 r x) * W (ix2 x k) : EReal) := by
  unfold k0_pay8; pointwise

theorem pay9_at (W : Vec Ideal S1024x1024 .bf16) (k : Fin 1024) : k0_pay9 v35 v37 W (ix2 r k) = (∑ x, k0_pay6 v35 v37 (ix2 r x) * W (ix2 x k) : EReal) := by
  unfold k0_pay9; pointwise

theorem pay10_at (W : Vec Ideal S1024x128 .bf16) (k : Fin 128) : k0_pay10 v35 v37 W (ix2 r k) = (∑ x, k0_pay6 v35 v37 (ix2 r x) * W (ix2 x k) : EReal) := by
  unfold k0_pay10; pointwise

theorem pay11_at (W : Vec Ideal S1024x1024 .bf16) (k : Fin 1024) : k0_pay11 v35 v37 W (ix2 r k) = (∑ x, k0_pay6 v35 v37 (ix2 r x) * W (ix2 x k) : EReal) := by
  unfold k0_pay11; pointwise

theorem pay13_at (h : FVec Ideal S1024x1024 .bf16) (W : Vec Ideal S1024x1024 .bf16) (k : Fin 1024) :
    k0_pay13 h (k0_pay12 W) (ix2 r k) = (∑ x, h (ix2 r x) * W (ix2 x k) : EReal) := by
  unfold k0_pay13 k0_pay12; pointwise

end products

/-- Two rows earlier: the first two rows come from what is kept. -/
def bk2 (kk : Fin 8 → EReal) (u : Fin 1024 → EReal) (r : Fin 1024) : EReal := if h : r.val < 2 then kk ⟨6 + r.val, by omega⟩ else u ⟨r.val - 2, by omega⟩

/-- One row earlier. -/
def bk1 (kk : Fin 8 → EReal) (u : Fin 1024 → EReal) (r : Fin 1024) : EReal := if h : r.val < 1 then kk 7 else u ⟨r.val - 1, by omega⟩

theorem cmp_eq (r : Fin 1024) (d : ℕ) (hd : d < 1024) : IntOp.cmpi .eq (BitVec.ofNat 32 r.val) (BitVec.ofNat 32 d) = if r.val = d then 1#1 else 0#1 := by
  have e : (BitVec.ofNat 32 r.val = BitVec.ofNat 32 d) ↔ r.val = d := by
    rw [← BitVec.toNat_inj, BitVec.toNat_ofNat, BitVec.toNat_ofNat, Nat.mod_eq_of_lt (by omega), Nat.mod_eq_of_lt (by omega)]
  by_cases h : r.val = d
  · rw [if_pos h]; simp [IntOp.cmpi, e.mpr h]
  · rw [if_neg h]
    show BitVec.ofBool (BitVec.ofNat 32 r.val == BitVec.ofNat 32 d) = 0#1
    rw [beq_false_of_ne (mt e.mp h)]
    rfl

theorem sel2 (r : Fin 1024) (kk : Fin 8 → EReal) (u : Fin 1024 → EReal) (h) :
    Scalar.select (IntOp.cmpi .eq (BitVec.ofNat 32 r.val) 0#32) (kk 6) (Scalar.select (IntOp.cmpi .eq (BitVec.ofNat 32 r.val) 1#32) (kk 7) (u ⟨(r.val + 1024 - 2) % 1024, h⟩)) = bk2 kk u r := by
  rw [cmp_eq r 0 (by omega), cmp_eq r 1 (by omega)]
  unfold bk2
  by_cases h0 : r.val = 0
  · rw [if_pos h0, dif_pos (by omega)]
    have e : (⟨6 + r.val, by omega⟩ : Fin 8) = 6 := Fin.ext (by show 6 + r.val = 6; omega)
    rw [e]; rfl
  · by_cases h1 : r.val = 1
    · rw [if_neg h0, if_pos h1, dif_pos (by omega)]
      have e : (⟨6 + r.val, by omega⟩ : Fin 8) = 7 := Fin.ext (by show 6 + r.val = 7; omega)
      rw [e]; rfl
    · rw [if_neg h0, if_neg h1, dif_neg (by omega)]
      have e : (⟨(r.val + 1024 - 2) % 1024, h⟩ : Fin 1024) = ⟨r.val - 2, by omega⟩ := Fin.ext (by show (r.val + 1024 - 2) % 1024 = r.val - 2; omega)
      rw [e]; rfl

theorem sel1 (r : Fin 1024) (kk : Fin 8 → EReal) (u : Fin 1024 → EReal) (h) :
    Scalar.select (IntOp.cmpi .eq (BitVec.ofNat 32 r.val) 0#32) (kk 7) (u ⟨(r.val + 1024 - 1) % 1024, h⟩) = bk1 kk u r := by
  rw [cmp_eq r 0 (by omega)]
  unfold bk1
  by_cases h0 : r.val = 0
  · rw [if_pos h0, dif_pos (by omega)]; rfl
  · rw [if_neg h0, dif_neg (by omega)]
    have e : (⟨(r.val + 1024 - 1) % 1024, h⟩ : Fin 1024) = ⟨r.val - 1, by omega⟩ := Fin.ext (by show (r.val + 1024 - 1) % 1024 = r.val - 1; omega)
    rw [e]; rfl

section groups

variable (h : FVec Ideal S1024x1024 .bf16) (wb wc wh : Vec Ideal S1024x256 .bf16) (k : Vec Ideal S8x256 .f32) (c0 c1 c2 : Vec Ideal S1x256 .f32)

/-- The product of the two projections that the convolution runs over. -/
def gu (j : Fin 256) (r : Fin 1024) : EReal := (∑ x, h (ix2 r x) * wc (ix2 x j)) * (∑ x, h (ix2 r x) * wh (ix2 x j))

/-- One number of a group of 256 columns. -/
def gv (r : Fin 1024) (j : Fin 256) : EReal :=
  (∑ x, h (ix2 r x) * wb (ix2 x j)) * (c0 (ix2 0 j) * bk2 (fun i => k (ix2 i j)) (gu h wc wh j) r + c1 (ix2 0 j) * bk1 (fun i => k (ix2 i j)) (gu h wc wh j) r + c2 (ix2 0 j) * gu h wc wh j r)

theorem pay20_at (r : Fin 1024) (j : Fin 256) :
    k0_pay20 (k0_pay14 h wb) (k0_pay15 h wc wh) (k0_pay16 h wc wh k) (k0_pay17 h wc wh k) c0 c1 c2 (ix2 r j) = gv h wb wc wh k c0 c1 c2 r j := by
  unfold k0_pay20 k0_pay14 k0_pay16 k0_pay17 k0_pay15
  pointwise
  exact congrArg₂ (· * ·) rfl (congrArg₂ (· + ·) (congrArg₂ (· + ·) (congrArg₂ (· * ·) rfl (sel2 r (fun i => k (ix2 i j)) (gu h wc wh j) _)) (congrArg₂ (· * ·) rfl (sel1 r (fun i => k (ix2 i j)) (gu h wc wh j) _))) rfl)

theorem pay27_at (r : Fin 1024) (j : Fin 256) :
    k0_pay27 (iota Kind.tc S1024x256 32 [0] iota_S1024x256_d0_w32) (k0_pay21 h wb) (k0_pay22 h wc wh) k (k0_pay23 h (iota Kind.tc S1024x256 32 [0] iota_S1024x256_d0_w32) wc wh k)
      (k0_pay24 (iota Kind.tc S1024x256 32 [0] iota_S1024x256_d0_w32)) (k0_pay25 k) c0 c1 c2 (ix2 r j) = gv h wb wc wh k c0 c1 c2 r j := by
  unfold k0_pay27 k0_pay21 k0_pay23 k0_pay24 k0_pay25 k0_pay22
  pointwise
  exact congrArg₂ (· * ·) rfl (congrArg₂ (· + ·) (congrArg₂ (· + ·) (congrArg₂ (· * ·) rfl (sel2 r (fun i => k (ix2 i j)) (gu h wc wh j) _)) (congrArg₂ (· * ·) rfl (sel1 r (fun i => k (ix2 i j)) (gu h wc wh j) _))) rfl)

theorem pay33_at (r : Fin 1024) (j : Fin 256) :
    k0_pay33 (iota Kind.tc S1024x256 32 [0] iota_S1024x256_d0_w32) (k0_pay28 h wb) (k0_pay29 h wc) (k0_pay30 h wh) k c0 c1 c2 (ix2 r j) = gv h wb wc wh k c0 c1 c2 r j := by
  unfold k0_pay33 k0_pay31 k0_pay28 k0_pay29 k0_pay30
  pointwise
  exact congrArg₂ (· * ·) rfl (congrArg₂ (· + ·) (congrArg₂ (· + ·) (congrArg₂ (· * ·) rfl (sel2 r (fun i => k (ix2 i j)) (gu h wc wh j) _)) (congrArg₂ (· * ·) rfl (sel1 r (fun i => k (ix2 i j)) (gu h wc wh j) _))) rfl)

theorem pay1_at (r : Fin 1024) (j : Fin 256) :
    k0_pay1 (k0_pay34 h wb) (k0_pay35 h wc wh) (k0_pay36 h (iota Kind.tc S1024x256 32 [0] iota_S1024x256_d0_w32) wc wh k)
      (k0_pay38 h (iota Kind.tc S1024x256 32 [0] iota_S1024x256_d0_w32) wc wh k c0) c1 c2 (ix2 r j) = gv h wb wc wh k c0 c1 c2 r j := by
  unfold k0_pay1 k0_pay34 k0_pay36 k0_pay38 k0_pay35
  pointwise
  exact congrArg₂ (· * ·) rfl (congrArg₂ (· + ·) (congrArg₂ (· + ·) (congrArg₂ (· * ·) rfl (sel2 r (fun i => k (ix2 i j)) (gu h wc wh j) _)) (congrArg₂ (· * ·) rfl (sel1 r (fun i => k (ix2 i j)) (gu h wc wh j) _))) rfl)

theorem pay19_at (r : Fin 8) (j : Fin 256) : k0_pay19 (k0_pay18 h wc wh) (ix2 r j) = gu h wc wh j ⟨1016 + r.val, by omega⟩ := by
  unfold k0_pay19 k0_pay18 k0_pay15
  pointwise
  rfl

theorem pay26_at (r : Fin 8) (j : Fin 256) : k0_pay26 (k0_pay22 h wc wh) (ix2 r j) = gu h wc wh j ⟨1016 + r.val, by omega⟩ := by
  unfold k0_pay26 k0_pay22
  pointwise
  rfl

theorem pay32_at (r : Fin 8) (j : Fin 256) : k0_pay32 (k0_pay29 h wc) (k0_pay30 h wh) (ix2 r j) = gu h wc wh j ⟨1016 + r.val, by omega⟩ := by
  unfold k0_pay32 k0_pay31 k0_pay29 k0_pay30
  pointwise
  rfl

theorem pay37_at (r : Fin 8) (j : Fin 256) : k0_pay37 h wc wh (ix2 r j) = gu h wc wh j ⟨1016 + r.val, by omega⟩ := by
  unfold k0_pay37 k0_pay35
  pointwise
  rfl

end groups

end Cert.Proof.Proj
end
-- ==== Proof.ProjTile.lean ====
/-
  What one grid point of the input projection leaves in its three results and in the kept rows.
-/
module

public import proofs.«01_k».proof.Proof.Gen.Kernel2Ideal.Value
public import Idealize.ShloMosaic.Lib.Pipeline.ValueKit
public import Idealize.ShloMosaic.Lib.Pipeline.ReadBack
public import proofs.«01_k».proof.Proof.ProjPay

@[expose] public section

noncomputable section

namespace Cert.Proof.Proj

open Cert.Kernel2Ideal Cert.Kernel2Ideal.Gen
open Idealize.ShloMosaic Idealize.ShloMosaic.TcCoe Idealize.ShloMosaic.Tactic
open Idealize.ShloMosaic.Pipeline

section block

variable (h : FVec Ideal S1024x1024 .bf16) (W : S1024x5120.Idx → Elt Ideal .bf16) (C : S3x1024.Idx → Elt Ideal .f32) (K : S8x1024.Idx → Elt Ideal .f32)

/-- One number of the block's product with a column of the second weight. -/
def tp (n : Fin 5120) (r : Fin 1024) : EReal := ∑ x, h (ix2 r x) * W (ix2 x n)

/-- What the convolution runs over. -/
def tu (j : Fin 1024) (r : Fin 1024) : EReal := tp h W ⟨1024 + j.val, by omega⟩ r * tp h W ⟨2048 + j.val, by omega⟩ r

/-- One number of the convolved columns. -/
def tg (r : Fin 1024) (j : Fin 1024) : EReal :=
  tp h W ⟨j.val, by omega⟩ r * (C (ix2 0 j) * bk2 (fun i => K (ix2 i j)) (tu h W j) r + C (ix2 1 j) * bk1 (fun i => K (ix2 i j)) (tu h W j) r + C (ix2 2 j) * tu h W j r)

/-- One number of the second result. -/
def tz (r : Fin 1024) (n : Fin 3072) : EReal := if hn : n.val < 1024 then tg h W C K r ⟨n.val, hn⟩ else tp h W ⟨2048 + n.val, by omega⟩ r

theorem gu_cols (o oc oh : ℕ) (ho : o + 256 ≤ 1024) (hc : oc = 1024 + o) (hh : oh = 2048 + o) (i1 i2) (j : Fin 256) (r : Fin 1024) :
    gu h (View.ld W (Rect.unit (s := S1024x5120) ![0, oc] ![1024, 256] i1)) (View.ld W (Rect.unit (s := S1024x5120) ![0, oh] ![1024, 256] i2)) j r = tu h W ⟨o + j.val, by omega⟩ r := by
  subst hc hh
  refine congrArg₂ (· * ·) (Finset.sum_congr rfl fun x _ => congrArg (h (ix2 r x) * ·) ?_) (Finset.sum_congr rfl fun x _ => congrArg (h (ix2 r x) * ·) ?_)
  · exact View.ld_unit_apply_of W _ _ _ _ _ (Fin.forall_fin_two.2 ⟨(Nat.zero_add _).symm, (Nat.add_assoc _ _ _).symm⟩)
  · exact View.ld_unit_apply_of W _ _ _ _ _ (Fin.forall_fin_two.2 ⟨(Nat.zero_add _).symm, (Nat.add_assoc _ _ _).symm⟩)

theorem gv_cols (o oc oh : ℕ) (ho : o + 256 ≤ 1024) (hc : oc = 1024 + o) (hh : oh = 2048 + o) (i1 i2 i3 i4 i5 i6 i7) (j : Fin 256) (r : Fin 1024) :
    gv h (View.ld W (Rect.unit (s := S1024x5120) ![0, o] ![1024, 256] i1)) (View.ld W (Rect.unit (s := S1024x5120) ![0, oc] ![1024, 256] i2)) (View.ld W (Rect.unit (s := S1024x5120) ![0, oh] ![1024, 256] i3))
      (View.ld K (Rect.unit (s := S8x1024) ![0, o] ![8, 256] i4)) (View.ld C (Rect.unit (s := S3x1024) ![0, o] ![1, 256] i5)) (View.ld C (Rect.unit (s := S3x1024) ![1, o] ![1, 256] i6))
      (View.ld C (Rect.unit (s := S3x1024) ![2, o] ![1, 256] i7)) r j = tg h W C K r ⟨o + j.val, by omega⟩ := by
  have eu : gu h (View.ld W (Rect.unit (s := S1024x5120) ![0, oc] ![1024, 256] i2)) (View.ld W (Rect.unit (s := S1024x5120) ![0, oh] ![1024, 256] i3)) j = tu h W ⟨o + j.val, by omega⟩ :=
    funext fun r => gu_cols h W o oc oh ho hc hh i2 i3 j r
  have ek : (fun i : Fin 8 => View.ld K (Rect.unit (s := S8x1024) ![0, o] ![8, 256] i4) (ix2 i j)) = fun i => K (ix2 i ⟨o + j.val, by omega⟩) :=
    funext fun i => View.ld_unit_apply_of K _ _ _ _ _ (Fin.forall_fin_two.2 ⟨(Nat.zero_add _).symm, rfl⟩)
  have e0 : View.ld C (Rect.unit (s := S3x1024) ![0, o] ![1, 256] i5) (ix2 0 j) = C (ix2 0 ⟨o + j.val, by omega⟩) :=
    View.ld_unit_apply_of C _ _ _ _ _ (Fin.forall_fin_two.2 ⟨rfl, rfl⟩)
  have e1 : View.ld C (Rect.unit (s := S3x1024) ![1, o] ![1, 256] i6) (ix2 0 j) = C (ix2 1 ⟨o + j.val, by omega⟩) :=
    View.ld_unit_apply_of C _ _ _ _ _ (Fin.forall_fin_two.2 ⟨rfl, rfl⟩)
  have e2 : View.ld C (Rect.unit (s := S3x1024) ![2, o] ![1, 256] i7) (ix2 0 j) = C (ix2 2 ⟨o + j.val, by omega⟩) :=
    View.ld_unit_apply_of C _ _ _ _ _ (Fin.forall_fin_two.2 ⟨rfl, rfl⟩)
  unfold gv tg
  rw [eu, ek, e0, e1, e2]
  refine congrArg (· * _) (Finset.sum_congr rfl fun x _ => congrArg (h (ix2 r x) * ·) ?_)
  exact View.ld_unit_apply_of W _ _ _ _ _ (Fin.forall_fin_two.2 ⟨(Nat.zero_add _).symm, rfl⟩)

theorem cr_close (o oc oh : ℕ) (ho : o + 256 ≤ 1024) (hc : oc = 1024 + o) (hh : oh = 2048 + o) (i1 i2) (r r' : Fin 8) (j : Fin 256) (n : Fin 1024) (e0 : r.val = r'.val) (e1 : n.val = o + j.val) :
    gu h (View.ld W (Rect.unit (s := S1024x5120) ![0, oc] ![1024, 256] i1)) (View.ld W (Rect.unit (s := S1024x5120) ![0, oh] ![1024, 256] i2)) j ⟨1016 + r'.val, by omega⟩
      = tu h W n ⟨1016 + r.val, by omega⟩ := by
  obtain rfl : r = r' := Fin.ext e0
  obtain ⟨n, hn⟩ := n
  obtain rfl : n = o + j.val := e1
  exact gu_cols h W o oc oh ho hc hh i1 i2 j _

theorem zb_close (o oc oh : ℕ) (ho : o + 256 ≤ 1024) (hc : oc = 1024 + o) (hh : oh = 2048 + o) (i1 i2 i3 i4 i5 i6 i7) (r r' : Fin 1024) (j : Fin 256) (n : Fin 3072) (e0 : r.val = r'.val) (e1 : n.val = o + j.val) :
    gv h (View.ld W (Rect.unit (s := S1024x5120) ![0, o] ![1024, 256] i1)) (View.ld W (Rect.unit (s := S1024x5120) ![0, oc] ![1024, 256] i2)) (View.ld W (Rect.unit (s := S1024x5120) ![0, oh] ![1024, 256] i3))
      (View.ld K (Rect.unit (s := S8x1024) ![0, o] ![8, 256] i4)) (View.ld C (Rect.unit (s := S3x1024) ![0, o] ![1, 256] i5)) (View.ld C (Rect.unit (s := S3x1024) ![1, o] ![1, 256] i6))
      (View.ld C (Rect.unit (s := S3x1024) ![2, o] ![1, 256] i7)) r' j = tz h W C K r n := by
  obtain rfl : r = r' := Fin.ext e0
  obtain ⟨n, hn⟩ := n
  obtain rfl : n = o + j.val := e1
  unfold tz
  rw [dif_pos (show o + j.val < 1024 by omega)]
  exact gv_cols h W C K o oc oh ho hc hh i1 i2 i3 i4 i5 i6 i7 j r

theorem zb_close2 (o : ℕ) (ho : 1024 ≤ o) (ho' : o + 1024 ≤ 3072) (oo : ℕ) (hoo : oo = 2048 + o) (i1) (r r' : Fin 1024) (j : Fin 1024) (n : Fin 3072) (e0 : r.val = r'.val) (e1 : n.val = o + j.val) :
    (∑ x, h (ix2 r' x) * View.ld W (Rect.unit (s := S1024x5120) ![0, oo] ![1024, 1024] i1) (ix2 x j) : EReal) = tz h W C K r n := by
  obtain rfl : r = r' := Fin.ext e0
  obtain ⟨n, hn⟩ := n
  obtain rfl : n = o + j.val := e1
  subst hoo
  unfold tz
  rw [dif_neg (show ¬ o + j.val < 1024 by omega)]
  refine Finset.sum_congr rfl fun x _ => congrArg (h (ix2 r x) * ·) ?_
  exact View.ld_unit_apply_of W _ _ _ _ _ (Fin.forall_fin_two.2 ⟨(Nat.zero_add _).symm, (Nat.add_assoc _ _ _).symm⟩)

theorem za_close (A : S1024x3072.Idx → Elt Ideal .bf16) (o : ℕ) (ho' : o + 1024 ≤ 3072) (i1) (r r' : Fin 1024) (j : Fin 1024) (n : Fin 3072) (e0 : r.val = r'.val) (e1 : n.val = o + j.val) :
    (∑ x, h (ix2 r' x) * View.ld A (Rect.unit (s := S1024x3072) ![0, o] ![1024, 1024] i1) (ix2 x j) : EReal) = ∑ x, h (ix2 r x) * A (ix2 x n) := by
  obtain rfl : r = r' := Fin.ext e0
  obtain ⟨n, hn⟩ := n
  obtain rfl : n = o + j.val := e1
  refine Finset.sum_congr rfl fun x _ => congrArg (h (ix2 r x) * ·) ?_
  exact View.ld_unit_apply_of A _ _ _ _ _ (Fin.forall_fin_two.2 ⟨(Nat.zero_add _).symm, rfl⟩)

end block

variable (m : (ℓ : Loc nD τ sig) → Buf (Elt Ideal) ℓ) (c : Dev nD) (t : Fin cfg0.N)

/-- The modulated rows of a grid point. -/
def hh : FVec Ideal S1024x1024 .bf16 := hB (iblk m c 0 t) (iblk m c 1 t) (iblk m c 2 t)

theorem cr_B (h0 : ¬ t.val % 4 = 0) (r : Fin 8) (n : Fin 1024) :
    (outsAt0 m c t.val t.isLt).2.2.2 (ix2 r n) = tu (hh m c t) (iblk m c 5 t) n ⟨1016 + r.val, by omega⟩ := by
  rw [outsAt0_B m c t h0]
  dsimp only
  frame_out
  canon_tiles x e
  · obtain ⟨r', j, rfl⟩ : ∃ r' j, x = ix2 r' j := ⟨_, _, eq_ix2 x⟩
    exact (pay37_at _ _ _ r' j).trans (cr_close (hh m c t) (iblk m c 5 t) 768 1792 2816 (by omega) rfl rfl _ _ r r' j n e0 e1)
  · obtain ⟨r', j, rfl⟩ : ∃ r' j, x = ix2 r' j := ⟨_, _, eq_ix2 x⟩
    exact (pay32_at _ _ _ r' j).trans (cr_close (hh m c t) (iblk m c 5 t) 512 1536 2560 (by omega) rfl rfl _ _ r r' j n e0 e1)
  · obtain ⟨r', j, rfl⟩ : ∃ r' j, x = ix2 r' j := ⟨_, _, eq_ix2 x⟩
    exact (pay26_at _ _ _ r' j).trans (cr_close (hh m c t) (iblk m c 5 t) 256 1280 2304 (by omega) rfl rfl _ _ r r' j n e0 e1)
  · obtain ⟨r', j, rfl⟩ : ∃ r' j, x = ix2 r' j := ⟨_, _, eq_ix2 x⟩
    exact (pay19_at _ _ _ r' j).trans (cr_close (hh m c t) (iblk m c 5 t) 0 1024 2048 (by omega) rfl rfl _ _ r r' j n e0 (e1.trans (Nat.zero_add _).symm))

theorem zb_B (h0 : ¬ t.val % 4 = 0) (r : Fin 1024) (n : Fin 3072) :
    (outsAt0 m c t.val t.isLt).2.1 (ix2 r n) = tz (hh m c t) (iblk m c 5 t) (iblk m c 3 t) (outsAt0 m c (t.val - 1) (lt_of_le_of_lt (Nat.sub_le _ _) t.isLt)).2.2.2 r n := by
  rw [outsAt0_B m c t h0]
  dsimp only
  frame_out
  simp only [read_unread_whole]
  refine View.canon_eq_of_allAt _ _ _ (View.cover_of_tiledBy _ ![1024, 256] (by sl_kernel_rfl) _) (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _)))))))
  · tile_intro x e
    obtain ⟨r', j, rfl⟩ : ∃ r' j, x = ix2 r' j := ⟨_, _, eq_ix2 x⟩
    exact (pay1_at _ _ _ _ _ _ _ _ r' j).trans (zb_close (hh m c t) (iblk m c 5 t) (iblk m c 3 t) _ 768 1792 2816 (by omega) rfl rfl _ _ _ _ _ _ _ r r' j n e0 e1)
  · tile_intro x e
    obtain ⟨r', j, rfl⟩ : ∃ r' j, x = ix2 r' j := ⟨_, _, eq_ix2 x⟩
    exact (pay33_at _ _ _ _ _ _ _ _ r' j).trans (zb_close (hh m c t) (iblk m c 5 t) (iblk m c 3 t) _ 512 1536 2560 (by omega) rfl rfl _ _ _ _ _ _ _ r r' j n e0 e1)
  · tile_intro x e
    obtain ⟨r', j, rfl⟩ : ∃ r' j, x = ix2 r' j := ⟨_, _, eq_ix2 x⟩
    exact (pay27_at _ _ _ _ _ _ _ _ r' j).trans (zb_close (hh m c t) (iblk m c 5 t) (iblk m c 3 t) _ 256 1280 2304 (by omega) rfl rfl _ _ _ _ _ _ _ r r' j n e0 e1)
  · tile_intro x e
    obtain ⟨r', j, rfl⟩ : ∃ r' j, x = ix2 r' j := ⟨_, _, eq_ix2 x⟩
    exact (pay20_at _ _ _ _ _ _ _ _ r' j).trans (zb_close (hh m c t) (iblk m c 5 t) (iblk m c 3 t) _ 0 1024 2048 (by omega) rfl rfl _ _ _ _ _ _ _ r r' j n e0 (e1.trans (Nat.zero_add _).symm))
  · tile_intro x e
    obtain ⟨r', j, rfl⟩ : ∃ r' j, x = ix2 r' j := ⟨_, _, eq_ix2 x⟩
    exact (pay13_at r' _ _ j).trans (zb_close2 (hh m c t) (iblk m c 5 t) (iblk m c 3 t) _ 2048 (by omega) (by omega) 4096 rfl _ r r' j n e0 e1)
  · tile_intro x e
    obtain ⟨r', j, rfl⟩ : ∃ r' j, x = ix2 r' j := ⟨_, _, eq_ix2 x⟩
    exact (pay11_at _ _ r' _ j).trans (zb_close2 (hh m c t) (iblk m c 5 t) (iblk m c 3 t) _ 1024 (by omega) (by omega) 3072 rfl _ r r' j n e0 e1)

theorem za_B (h0 : ¬ t.val % 4 = 0) (r : Fin 1024) (n : Fin 3072) :
    (outsAt0 m c t.val t.isLt).1 (ix2 r n) = (∑ x, hh m c t (ix2 r x) * iblk m c 4 t (ix2 x n) : EReal) := by
  rw [outsAt0_B m c t h0]
  dsimp only
  frame_out
  canon_tiles x e
  · obtain ⟨r', j, rfl⟩ : ∃ r' j, x = ix2 r' j := ⟨_, _, eq_ix2 x⟩
    exact (pay9_at _ _ r' _ j).trans (za_close (hh m c t) (iblk m c 4 t) 2048 (by omega) _ r r' j n e0 e1)
  · obtain ⟨r', j, rfl⟩ : ∃ r' j, x = ix2 r' j := ⟨_, _, eq_ix2 x⟩
    exact (pay8_at _ _ r' _ j).trans (za_close (hh m c t) (iblk m c 4 t) 1024 (by omega) _ r r' j n e0 e1)
  · obtain ⟨r', j, rfl⟩ : ∃ r' j, x = ix2 r' j := ⟨_, _, eq_ix2 x⟩
    exact (pay7_at _ _ r' _ j).trans (za_close (hh m c t) (iblk m c 4 t) 0 (by omega) _ r r' j n e0 (e1.trans (Nat.zero_add _).symm))

theorem zg_B (h0 : ¬ t.val % 4 = 0) (r : Fin 1024) (n : Fin 128) :
    (outsAt0 m c t.val t.isLt).2.2.1 (ix2 r n) = (∑ x, hh m c t (ix2 r x) * iblk m c 6 t (ix2 x n) : EReal) := by
  rw [outsAt0_B m c t h0]
  dsimp only
  frame_out
  exact pay10_at _ _ r _ n

theorem zb_A (h0 : t.val % 4 = 0) (r : Fin 1024) (n : Fin 3072) :
    (outsAt0 m c t.val t.isLt).2.1 (ix2 r n) = tz (hh m c t) (iblk m c 5 t) (iblk m c 3 t) (k0_pay2 (F := Ideal)) r n := by
  rw [outsAt0_A m c t h0]
  dsimp only
  frame_open
  simp (disch := decide) only [↓ View.readCov_skip, ↓ View.readCov_cons_toLoadRect, ↓ View.readCov_fill]
  frame_out
  refine View.canon_eq_of_allAt _ _ _ (View.cover_of_tiledBy _ ![1024, 256] (by sl_kernel_rfl) _) (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _)))))))
  · tile_intro x e
    obtain ⟨r', j, rfl⟩ : ∃ r' j, x = ix2 r' j := ⟨_, _, eq_ix2 x⟩
    exact (pay1_at _ _ _ _ _ _ _ _ r' j).trans (zb_close (hh m c t) (iblk m c 5 t) (iblk m c 3 t) _ 768 1792 2816 (by omega) rfl rfl _ _ _ _ _ _ _ r r' j n e0 e1)
  · tile_intro x e
    obtain ⟨r', j, rfl⟩ : ∃ r' j, x = ix2 r' j := ⟨_, _, eq_ix2 x⟩
    exact (pay33_at _ _ _ _ _ _ _ _ r' j).trans (zb_close (hh m c t) (iblk m c 5 t) (iblk m c 3 t) _ 512 1536 2560 (by omega) rfl rfl _ _ _ _ _ _ _ r r' j n e0 e1)
  · tile_intro x e
    obtain ⟨r', j, rfl⟩ : ∃ r' j, x = ix2 r' j := ⟨_, _, eq_ix2 x⟩
    exact (pay27_at _ _ _ _ _ _ _ _ r' j).trans (zb_close (hh m c t) (iblk m c 5 t) (iblk m c 3 t) _ 256 1280 2304 (by omega) rfl rfl _ _ _ _ _ _ _ r r' j n e0 e1)
  · tile_intro x e
    obtain ⟨r', j, rfl⟩ : ∃ r' j, x = ix2 r' j := ⟨_, _, eq_ix2 x⟩
    exact (pay20_at _ _ _ _ _ _ _ _ r' j).trans (zb_close (hh m c t) (iblk m c 5 t) (iblk m c 3 t) _ 0 1024 2048 (by omega) rfl rfl _ _ _ _ _ _ _ r r' j n e0 (e1.trans (Nat.zero_add _).symm))
  · tile_intro x e
    obtain ⟨r', j, rfl⟩ : ∃ r' j, x = ix2 r' j := ⟨_, _, eq_ix2 x⟩
    exact (pay13_at r' _ _ j).trans (zb_close2 (hh m c t) (iblk m c 5 t) (iblk m c 3 t) _ 2048 (by omega) (by omega) 4096 rfl _ r r' j n e0 e1)
  · tile_intro x e
    obtain ⟨r', j, rfl⟩ : ∃ r' j, x = ix2 r' j := ⟨_, _, eq_ix2 x⟩
    exact (pay11_at _ _ r' _ j).trans (zb_close2 (hh m c t) (iblk m c 5 t) (iblk m c 3 t) _ 1024 (by omega) (by omega) 3072 rfl _ r r' j n e0 e1)

theorem za_A (h0 : t.val % 4 = 0) (r : Fin 1024) (n : Fin 3072) :
    (outsAt0 m c t.val t.isLt).1 (ix2 r n) = (∑ x, hh m c t (ix2 r x) * iblk m c 4 t (ix2 x n) : EReal) := by
  rw [outsAt0_A m c t h0]
  dsimp only
  frame_out
  canon_tiles x e
  · obtain ⟨r', j, rfl⟩ : ∃ r' j, x = ix2 r' j := ⟨_, _, eq_ix2 x⟩
    exact (pay9_at _ _ r' _ j).trans (za_close (hh m c t) (iblk m c 4 t) 2048 (by omega) _ r r' j n e0 e1)
  · obtain ⟨r', j, rfl⟩ : ∃ r' j, x = ix2 r' j := ⟨_, _, eq_ix2 x⟩
    exact (pay8_at _ _ r' _ j).trans (za_close (hh m c t) (iblk m c 4 t) 1024 (by omega) _ r r' j n e0 e1)
  · obtain ⟨r', j, rfl⟩ : ∃ r' j, x = ix2 r' j := ⟨_, _, eq_ix2 x⟩
    exact (pay7_at _ _ r' _ j).trans (za_close (hh m c t) (iblk m c 4 t) 0 (by omega) _ r r' j n e0 (e1.trans (Nat.zero_add _).symm))

theorem zg_A (h0 : t.val % 4 = 0) (r : Fin 1024) (n : Fin 128) :
    (outsAt0 m c t.val t.isLt).2.2.1 (ix2 r n) = (∑ x, hh m c t (ix2 r x) * iblk m c 6 t (ix2 x n) : EReal) := by
  rw [outsAt0_A m c t h0]
  dsimp only
  frame_out
  exact pay10_at _ _ r _ n

theorem cr_A (h0 : t.val % 4 = 0) (r : Fin 8) (n : Fin 1024) :
    (outsAt0 m c t.val t.isLt).2.2.2 (ix2 r n) = tu (hh m c t) (iblk m c 5 t) n ⟨1016 + r.val, by omega⟩ := by
  rw [outsAt0_A m c t h0]
  dsimp only
  frame_out
  refine View.canon_append_of_piecesOf (Val := Elt Ideal) (s := S8x1024) (e := .f32) (fun y : S8x1024.Idx => (tu (hh m c t) (iblk m c 5 t) (y 1) ⟨1016 + (y 0).val, by have := (y 0).isLt; exact Nat.add_lt_add_left this 1016⟩ : Elt Ideal .f32)) [_] [_, _, _, _] ⟨?_, ?_, ?_, ?_, trivial⟩ (ix2 r n) ?_
  · intro x
    obtain ⟨r', j, rfl⟩ : ∃ r' j, x = ix2 r' j := ⟨_, _, eq_ix2 x⟩
    exact (pay37_at _ _ _ r' j).trans (cr_close (hh m c t) (iblk m c 5 t) 768 1792 2816 (by omega) rfl rfl _ _ _ r' j _ (by show 0 + 1 * r'.val = r'.val; omega) (by show 768 + 1 * j.val = 768 + j.val; omega))
  · intro x
    obtain ⟨r', j, rfl⟩ : ∃ r' j, x = ix2 r' j := ⟨_, _, eq_ix2 x⟩
    exact (pay32_at _ _ _ r' j).trans (cr_close (hh m c t) (iblk m c 5 t) 512 1536 2560 (by omega) rfl rfl _ _ _ r' j _ (by show 0 + 1 * r'.val = r'.val; omega) (by show 512 + 1 * j.val = 512 + j.val; omega))
  · intro x
    obtain ⟨r', j, rfl⟩ : ∃ r' j, x = ix2 r' j := ⟨_, _, eq_ix2 x⟩
    exact (pay26_at _ _ _ r' j).trans (cr_close (hh m c t) (iblk m c 5 t) 256 1280 2304 (by omega) rfl rfl _ _ _ r' j _ (by show 0 + 1 * r'.val = r'.val; omega) (by show 256 + 1 * j.val = 256 + j.val; omega))
  · intro x
    obtain ⟨r', j, rfl⟩ : ∃ r' j, x = ix2 r' j := ⟨_, _, eq_ix2 x⟩
    exact (pay19_at _ _ _ r' j).trans (cr_close (hh m c t) (iblk m c 5 t) 0 1024 2048 (by omega) rfl rfl _ _ _ r' j _ (by show 0 + 1 * r'.val = r'.val; omega) (by show 0 + 1 * j.val = 0 + j.val; omega))
  · exact View.cover_of_tiledBy _ ![8, 256] (by sl_kernel_rfl) _

end Cert.Proof.Proj
end
-- ==== Proof.ProjEq.lean ====
/-
  The input projection's kernel as plain mathematics: every number of its three results.
-/
module

public import proofs.«01_k».proof.Proof.ProjIn
public import proofs.«01_k».proof.Proof.ProjTile

@[expose] public section

noncomputable section

namespace Cert.Proof.Proj

open Cert.Kernel2Ideal Cert.Kernel2Ideal.Gen Cert.Kernel2Ideal.Value
open Idealize.ShloMosaic Idealize.ShloMosaic.TcCoe Idealize.ShloMosaic.Tactic
open Idealize.ShloMosaic.Pipeline

variable (m : (ℓ : Loc nD τ sig) → Buf (Elt Ideal) ℓ) (c : Dev nD) (t : Fin cfg0.N)

/-- The arguments, by coordinates. -/
def args : ProjSpec.Args where
  x b s k := m ((c : Thread nD τ).loc main_arg0) (ix3 b s k)
  md b k := m ((c : Thread nD τ).loc main_arg1) (ix2 b k)
  g k := m ((c : Thread nD τ).loc main_arg2) (ix1 k)
  w k n := m ((c : Thread nD τ).loc main_arg3) (ix2 k n)
  cw i k := m ((c : Thread nD τ).loc main_arg4) (ix2 i k)

theorem lt32 : t.val < 32 := lt_of_lt_of_eq t.isLt N_0

/-- The sequence of a grid point. -/
def bt : Fin 8 := ⟨t.val / 4, by have := lt32 t; omega⟩

/-- The place in the sequence of a grid point's row. -/
def sq (r : Fin 1024) : Fin 4096 := ⟨t.val % 4 * 1024 + r.val, by omega⟩

theorem hh_at (r k : Fin 1024) : hh m c t (ix2 r k) = ProjSpec.hid (args m c) (bt t) (sq t r) k := by
  have e0 : ∀ k, iblk m c 0 t (ix2 r k) = (args m c).x (bt t) (sq t r) k := fun k => in0 m c t r k _ rfl rfl rfl
  have e1 : iblk m c 1 t (ix3 0 1 k) = (args m c).md (bt t) ⟨1024 + k.val, by omega⟩ := in1 m c t 1 k _ rfl (congrArg (· + k.val) (Nat.one_mul 1024).symm)
  have e2 : iblk m c 1 t (ix3 0 0 k) = (args m c).md (bt t) ⟨k.val, by omega⟩ := in1 m c t 0 k _ rfl (by show k.val = 0 * 1024 + k.val; omega)
  have e3 : iblk m c 2 t (ix2 0 k) = (args m c).g k := in2 m c t k
  refine (hB_at (iblk m c 0 t) (iblk m c 1 t) (iblk m c 2 t) r k).trans ?_
  simp only [e0, e1, e2, e3]
  rfl

theorem tp_at (n : Fin 5120) (r : Fin 1024) : tp (hh m c t) (iblk m c 5 t) n r = ProjSpec.prj (args m c) (bt t) (sq t r) ⟨3088 + n.val, by omega⟩ :=
  Finset.sum_congr rfl fun k _ => congrArg₂ (· * ·) (hh_at m c t r k) (in5 m c t k n (ix2 k ⟨3088 + n.val, by omega⟩) rfl rfl)

theorem prj_congr (A : ProjSpec.Args) (b : Fin 8) (s : Fin 4096) (n n' : Fin 8208) (h : n.val = n'.val) : ProjSpec.prj A b s n = ProjSpec.prj A b s n' := by
  rw [Fin.ext h]

theorem tu_at (j r : Fin 1024) : tu (hh m c t) (iblk m c 5 t) j r = ProjSpec.up (args m c) (bt t) (sq t r) j :=
  congrArg₂ (· * ·) ((tp_at m c t _ r).trans (prj_congr _ _ _ _ _ (by show 3088 + (1024 + j.val) = 4112 + j.val; omega)))
    ((tp_at m c t _ r).trans (prj_congr _ _ _ _ _ (by show 3088 + (2048 + j.val) = 5136 + j.val; omega)))

theorem up_congr (A : ProjSpec.Args) (b b' : Fin 8) (s s' : Fin 4096) (j : Fin 1024) (hb : b.val = b'.val) (hs : s.val = s'.val) : ProjSpec.up A b s j = ProjSpec.up A b' s' j := by
  rw [Fin.ext hb, Fin.ext hs]

section kept

variable (K : S8x1024.Idx → Elt Ideal .f32) (j : Fin 1024)
  (k0 : t.val % 4 = 0 → ∀ i, K (ix2 i j) = (0 : EReal))
  (k1 : (h : ¬ t.val % 4 = 0) → ∀ i : Fin 8, K (ix2 i j) = ProjSpec.up (args m c) (bt t) ⟨t.val % 4 * 1024 - 8 + i.val, by omega⟩ j)

include k0 k1

theorem bk2_at (r : Fin 1024) : bk2 (fun i => K (ix2 i j)) (tu (hh m c t) (iblk m c 5 t) j) r = ProjSpec.upB (args m c) 2 (bt t) (sq t r) j := by
  have es : (sq t r).val = t.val % 4 * 1024 + r.val := rfl
  unfold bk2 ProjSpec.upB
  by_cases h : r.val < 2
  · rw [dif_pos h]
    by_cases h4 : t.val % 4 = 0
    · rw [if_neg (by omega)]; exact k0 h4 _
    · rw [if_pos (by omega)]
      exact (k1 h4 _).trans (up_congr _ _ _ _ _ _ rfl (by show t.val % 4 * 1024 - 8 + (6 + r.val) = (sq t r).val - 2; omega))
  · rw [dif_neg h, if_pos (by omega)]
    exact (tu_at m c t j _).trans (up_congr _ _ _ _ _ _ rfl (by show t.val % 4 * 1024 + (r.val - 2) = (sq t r).val - 2; omega))

theorem bk1_at (r : Fin 1024) : bk1 (fun i => K (ix2 i j)) (tu (hh m c t) (iblk m c 5 t) j) r = ProjSpec.upB (args m c) 1 (bt t) (sq t r) j := by
  have es : (sq t r).val = t.val % 4 * 1024 + r.val := rfl
  unfold bk1 ProjSpec.upB
  by_cases h : r.val < 1
  · rw [dif_pos h]
    by_cases h4 : t.val % 4 = 0
    · rw [if_neg (by omega)]; exact k0 h4 _
    · rw [if_pos (by omega)]
      exact (k1 h4 7).trans (up_congr _ _ _ _ _ _ rfl (by show t.val % 4 * 1024 - 8 + 7 = (sq t r).val - 1; omega))
  · rw [dif_neg h, if_pos (by omega)]
    exact (tu_at m c t j _).trans (up_congr _ _ _ _ _ _ rfl (by show t.val % 4 * 1024 + (r.val - 1) = (sq t r).val - 1; omega))

theorem tg_at (r : Fin 1024) : tg (hh m c t) (iblk m c 5 t) (iblk m c 3 t) K r j
    = ProjSpec.prj (args m c) (bt t) (sq t r) ⟨3088 + j.val, by omega⟩ * ProjSpec.conv (args m c) (bt t) (sq t r) j := by
  unfold tg
  rw [bk2_at m c t K j k0 k1 r, bk1_at m c t K j k0 k1 r, tu_at, tp_at]
  exact congrArg (_ * ·) (congrArg₂ (· + ·) (congrArg₂ (· + ·) (congrArg (· * _) (in3 m c t 0 j)) (congrArg (· * _) (in3 m c t 1 j))) (congrArg (· * _) (in3 m c t 2 j)))

end kept

theorem tz_at (K : S8x1024.Idx → Elt Ideal .f32)
    (k0 : t.val % 4 = 0 → ∀ i j, K (ix2 i j) = (0 : EReal))
    (k1 : (h : ¬ t.val % 4 = 0) → ∀ (i : Fin 8) (j : Fin 1024), K (ix2 i j) = ProjSpec.up (args m c) (bt t) ⟨t.val % 4 * 1024 - 8 + i.val, by omega⟩ j)
    (r : Fin 1024) (n : Fin 3072) : tz (hh m c t) (iblk m c 5 t) (iblk m c 3 t) K r n = ProjSpec.zb (args m c) (bt t) (sq t r) n := by
  unfold tz ProjSpec.zb
  by_cases h : n.val < 1024
  · rw [dif_pos h, dif_pos h]
    exact tg_at m c t K ⟨n.val, h⟩ (fun h i => k0 h i _) (fun h i => k1 h i _) r
  · rw [dif_neg h, dif_neg h]
    exact (tp_at m c t _ r).trans (prj_congr _ _ _ _ _ (by show 3088 + (2048 + n.val) = 5136 + n.val; omega))

theorem cr_at (r : Fin 8) (n : Fin 1024) : (outsAt0 m c t.val t.isLt).2.2.2 (ix2 r n) = ProjSpec.up (args m c) (bt t) (sq t ⟨1016 + r.val, by omega⟩) n := by
  by_cases h : t.val % 4 = 0
  · exact (cr_A m c t h r n).trans (tu_at m c t n _)
  · exact (cr_B m c t h r n).trans (tu_at m c t n _)

theorem zb_at (r : Fin 1024) (n : Fin 3072) : (outsAt0 m c t.val t.isLt).2.1 (ix2 r n) = ProjSpec.zb (args m c) (bt t) (sq t r) n := by
  by_cases h : t.val % 4 = 0
  · refine (zb_A m c t h r n).trans (tz_at m c t _ (fun _ i j => ?_) (fun h' => absurd h h') r n)
    unfold k0_pay2
    pointwise
  · refine (zb_B m c t h r n).trans (tz_at m c t _ (fun h' => absurd h' h) (fun _ i j => ?_) r n)
    refine (cr_at m c ⟨t.val - 1, lt_of_le_of_lt (Nat.sub_le _ _) t.isLt⟩ i j).trans (up_congr _ _ _ _ _ _ ?_ ?_)
    · show (t.val - 1) / 4 = t.val / 4
      omega
    · show (t.val - 1) % 4 * 1024 + (1016 + i.val) = t.val % 4 * 1024 - 8 + i.val
      omega

theorem za_at (r : Fin 1024) (n : Fin 3072) : (outsAt0 m c t.val t.isLt).1 (ix2 r n) = ProjSpec.za (args m c) (bt t) (sq t r) n := by
  have e : (∑ x, hh m c t (ix2 r x) * iblk m c 4 t (ix2 x n) : EReal) = ProjSpec.za (args m c) (bt t) (sq t r) n :=
    Finset.sum_congr rfl fun k _ => congrArg₂ (· * ·) (hh_at m c t r k) (in4 m c t k n (ix2 k ⟨if n.val < 2048 then n.val else n.val + 16, by split <;> omega⟩) rfl rfl)
  by_cases h : t.val % 4 = 0
  · exact (za_A m c t h r n).trans e
  · exact (za_B m c t h r n).trans e

theorem zg_at (r : Fin 1024) (n : Fin 128) : (outsAt0 m c t.val t.isLt).2.2.1 (ix2 r n) = ProjSpec.zg (args m c) (bt t) (sq t r) n := by
  have e : (∑ x, hh m c t (ix2 r x) * iblk m c 6 t (ix2 x n) : EReal) = ProjSpec.zg (args m c) (bt t) (sq t r) n := by
    have e6 := fun k => in6 m c t k n (ix2 k ⟨2048 + n.val % 16, by omega⟩) rfl rfl
    unfold ProjSpec.zg
    by_cases hn : n.val < 48
    · rw [if_pos hn]
      exact Finset.sum_congr rfl fun k _ => congrArg₂ (· * ·) (hh_at m c t r k) ((e6 k).trans (if_pos hn))
    · rw [if_neg hn]
      exact Finset.sum_eq_zero fun k _ => (congrArg (_ * ·) ((e6 k).trans (if_neg hn))).trans (mul_zero _)
  by_cases h : t.val % 4 = 0
  · exact (zg_A m c t h r n).trans e
  · exact (zg_B m c t h r n).trans e

/-- The grid point of a row. -/
def ptOf (R : Fin 32768) : Fin cfg0.N := ⟨R.val / 1024, lt_of_lt_of_eq (by omega : R.val / 1024 < 32) N_0.symm⟩

section whole

variable (b : Fin 8) (s : Fin 4096) (R : Fin 32768) (hR : R.val = 4096 * b.val + s.val)

include hR

theorem G7_at (n : Fin 3072) : G7 m c (ix2 R n) = ProjSpec.za (args m c) b s n := by
  have hb : bt (ptOf R) = b := Fin.ext (by show R.val / 1024 / 4 = b.val; omega)
  have hs : sq (ptOf R) ⟨R.val % 1024, by omega⟩ = s := Fin.ext (by show R.val / 1024 % 4 * 1024 + R.val % 1024 = s.val; omega)
  have hp : pt7Of (ix2 R n) = (ptOf R).val := by show 1 * (R.val / 1024 - 0) + 1 * (n.val / 3072 - 0) = R.val / 1024; omega
  have hl : loc7Of (ix2 R n) = ix2 (⟨R.val % 1024, by omega⟩ : Fin 1024) n := by
    funext a
    refine Fin.cases ?_ (fun a => Fin.cases ?_ (fun a => a.elim0) a) a
    · rfl
    · exact Fin.ext (show n.val % 3072 = n.val by omega)
  unfold G7
  rw [dif_pos (hp ▸ (ptOf R).isLt), ← outsAt0_sweep m c _ (hp ▸ (ptOf R).isLt), hl]
  rw [show outsAt0 m c (pt7Of (ix2 R n)) (hp ▸ (ptOf R).isLt) = outsAt0 m c (ptOf R).val (ptOf R).isLt by congr 1]
  exact (za_at m c (ptOf R) _ n).trans (by rw [hb, hs])

theorem G8_at (n : Fin 3072) : G8 m c (ix2 R n) = ProjSpec.zb (args m c) b s n := by
  have hb : bt (ptOf R) = b := Fin.ext (by show R.val / 1024 / 4 = b.val; omega)
  have hs : sq (ptOf R) ⟨R.val % 1024, by omega⟩ = s := Fin.ext (by show R.val / 1024 % 4 * 1024 + R.val % 1024 = s.val; omega)
  have hp : pt8Of (ix2 R n) = (ptOf R).val := by show 1 * (R.val / 1024 - 0) + 1 * (n.val / 3072 - 0) = R.val / 1024; omega
  have hl : loc8Of (ix2 R n) = ix2 (⟨R.val % 1024, by omega⟩ : Fin 1024) n := by
    funext a
    refine Fin.cases ?_ (fun a => Fin.cases ?_ (fun a => a.elim0) a) a
    · rfl
    · exact Fin.ext (show n.val % 3072 = n.val by omega)
  unfold G8
  rw [dif_pos (hp ▸ (ptOf R).isLt), ← outsAt0_sweep m c _ (hp ▸ (ptOf R).isLt), hl]
  rw [show outsAt0 m c (pt8Of (ix2 R n)) (hp ▸ (ptOf R).isLt) = outsAt0 m c (ptOf R).val (ptOf R).isLt by congr 1]
  exact (zb_at m c (ptOf R) _ n).trans (by rw [hb, hs])

theorem G9_at (n : Fin 128) : G9 m c (ix2 R n) = ProjSpec.zg (args m c) b s n := by
  have hb : bt (ptOf R) = b := Fin.ext (by show R.val / 1024 / 4 = b.val; omega)
  have hs : sq (ptOf R) ⟨R.val % 1024, by omega⟩ = s := Fin.ext (by show R.val / 1024 % 4 * 1024 + R.val % 1024 = s.val; omega)
  have hp : pt9Of (ix2 R n) = (ptOf R).val := by show 1 * (R.val / 1024 - 0) + 1 * (n.val / 128 - 0) = R.val / 1024; omega
  have hl : loc9Of (ix2 R n) = ix2 (⟨R.val % 1024, by omega⟩ : Fin 1024) n := by
    funext a
    refine Fin.cases ?_ (fun a => Fin.cases ?_ (fun a => a.elim0) a) a
    · rfl
    · exact Fin.ext (show n.val % 128 = n.val by omega)
  unfold G9
  rw [dif_pos (hp ▸ (ptOf R).isLt), ← outsAt0_sweep m c _ (hp ▸ (ptOf R).isLt), hl]
  rw [show outsAt0 m c (pt9Of (ix2 R n)) (hp ▸ (ptOf R).isLt) = outsAt0 m c (ptOf R).val (ptOf R).isLt by congr 1]
  exact (zg_at m c (ptOf R) _ n).trans (by rw [hb, hs])

end whole

end Cert.Proof.Proj
end
-- ==== Proof.ProjRef.lean ====
/-
  The reference of the input projection, read one number at a time.
-/
module

public import proofs.«01_k».proof.Proof.Gen.Reference2Ideal.Run
public import Idealize.ShloMosaic.Lib.Pointwise
public import proofs.«01_k».proof.Proof.ProjSpec

@[expose] public section

set_option maxRecDepth 16384

noncomputable section

namespace Cert.Proof.ProjRef

open Cert.Reference2Ideal Cert.Reference2Ideal.Gen Cert.Reference2Ideal.Value
open Idealize.ShloMosaic Idealize.ShloMosaic.TcCoe Idealize.ShloMosaic.Tactic

variable (m : (ℓ : Loc nD τ sig) → Buf (Elt Ideal) ℓ) (c : Dev nD)

/-- The arguments, by coordinates. -/
def args : ProjSpec.Args where
  x b s k := m ((c.tc : Thread nD τ).loc main_arg0) (ix3 b s k)
  md b k := m ((c.tc : Thread nD τ).loc main_arg1) (ix2 b k)
  g k := m ((c.tc : Thread nD τ).loc main_arg2) (ix1 k)
  w k n := m ((c.tc : Thread nD τ).loc main_arg3) (ix2 k n)
  cw i k := m ((c.tc : Thread nD τ).loc main_arg4) (ix2 i k)

/-- The modulated rows. -/
def hT : FVec Ideal S8x4096x1024 .f32 :=
  addf (mulf (mulf (mulf (m ((c.tc : Thread nD τ).loc main_arg0)) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (m ((c.tc : Thread nD τ).loc main_arg0)) (m ((c.tc : Thread nD τ).loc main_arg0))) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (m ((c.tc : Thread nD τ).loc main_arg2))))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (m ((c.tc : Thread nD τ).loc main_arg1)) slices_S8x6144_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (m ((c.tc : Thread nD τ).loc main_arg1)) slices_S8x6144_S8x1024_0_0)))

/-- The projection, before it is taken apart. -/
def zT : FVec Ideal S32768x8208 .f32 :=
  shapeCast _ (Host.dotGeneral (φ₁ := .f32) (φ₂ := .f32) dot_S8x4096x1024_S1024x8208_S8x4096x8208_2_0_01_1_n_n none (hT m c) (m ((c.tc : Thread nD τ).loc main_arg3) : FVec Ideal S1024x8208 .f32)) shapeCasts_S8x4096x8208_S32768x8208

theorem hT_at (b : Fin 8) (s : Fin 4096) (k : Fin 1024) : hT m c (ix3 b s k) = ProjSpec.hid (args m c) b s k := by
  unfold hT
  pointwise
  simp only [ProjSpec.hid, args]
  exact congrArg (· + _) (mul_assoc _ _ _)

theorem zT_at (b : Fin 8) (s : Fin 4096) (R : Fin 32768) (hR : R.val = 4096 * b.val + s.val) (n : Fin 8208) :
    zT m c (ix2 R n) = ProjSpec.prj (args m c) b s n := by
  unfold zT
  refine (shapeCast_apply _ _ _ (ix3 b s n) ?_).trans ?_
  · rw [Shape.rowMajor_val_two, Shape.rowMajor_val_three]
    simp only [ix2, ix3, Matrix.cons_val]
    omega
  · generalize hh : hT m c = h
    pointwise
    simp only [← hh, hT_at]
    rfl

/-- What the convolution runs over, two rows of zeros before it. -/
def uT : FVec Ideal S8x4098x1024 .f32 :=
  (pad S8x4098x1024 ![0, 2, 0] ![0, 0, 0] ![0, 0, 0] (shapeCast _ (mulf (extractStridedSlice S32768x1024 ![0, 4112] (zT m c) slices_S32768x8208_S32768x1024_0_4112) (extractStridedSlice S32768x1024 ![0, 5136] (zT m c) slices_S32768x8208_S32768x1024_0_5136)) shapeCasts_S32768x1024_S8x4096x1024) (sitofp (F := Ideal) .f32 (constantI S_ 32 0#32)) pads_S8x4096x1024_S8x4098x1024_000_200_000 h_S_)

/-- The convolution. -/
def vT : FVec Ideal S8x4096x1024 .f32 :=
  (addf (addf (addf (broadcastInDim S8x4096x1024 ![] bcast_S_S8x4096x1024 (constant S_ .f32 0x00000000#32)) (mulf (broadcastInDim S8x4096x1024 ![0, 1, 2] bcast_S1x1x1024_S8x4096x1024_0_1_2 (broadcastInDim S1x1x1024 ![2] bcast_S1024_S1x1x1024_2 (shapeCast _ (extractStridedSlice S1x1024 ![0, 0] (m ((c.tc : Thread nD τ).loc main_arg4)) slices_S3x1024_S1x1024_0_0) shapeCasts_S1x1024_S1024))) (extractStridedSlice S8x4096x1024 ![0, 0, 0] (uT m c) slices_S8x4098x1024_S8x4096x1024_0_0_0))) (mulf (broadcastInDim S8x4096x1024 ![0, 1, 2] bcast_S1x1x1024_S8x4096x1024_0_1_2 (broadcastInDim S1x1x1024 ![2] bcast_S1024_S1x1x1024_2 (shapeCast _ (extractStridedSlice S1x1024 ![1, 0] (m ((c.tc : Thread nD τ).loc main_arg4)) slices_S3x1024_S1x1024_1_0) shapeCasts_S1x1024_S1024))) (extractStridedSlice S8x4096x1024 ![0, 1, 0] (uT m c) slices_S8x4098x1024_S8x4096x1024_0_1_0))) (mulf (broadcastInDim S8x4096x1024 ![0, 1, 2] bcast_S1x1x1024_S8x4096x1024_0_1_2 (broadcastInDim S1x1x1024 ![2] bcast_S1024_S1x1x1024_2 (shapeCast _ (extractStridedSlice S1x1024 ![2, 0] (m ((c.tc : Thread nD τ).loc main_arg4)) slices_S3x1024_S1x1024_2_0) shapeCasts_S1x1024_S1024))) (extractStridedSlice S8x4096x1024 ![0, 2, 0] (uT m c) slices_S8x4098x1024_S8x4096x1024_0_2_0)))

theorem zg_eq : res_main_v62 m c = pad S32768x128 ![0, 0] ![0, 80] ![0, 0] ((concatenate S32768x48 1 [⟨S32768x16, ((extractStridedSlice S32768x16 ![0, 2048] (zT m c) slices_S32768x8208_S32768x16_0_2048) : (⟨S32768x16, .f32⟩ : BufTy).Contents (Elt Ideal))⟩, ⟨S32768x16, ((extractStridedSlice S32768x16 ![0, 2048] (zT m c) slices_S32768x8208_S32768x16_0_2048) : (⟨S32768x16, .f32⟩ : BufTy).Contents (Elt Ideal))⟩, ⟨S32768x16, ((extractStridedSlice S32768x16 ![0, 2048] (zT m c) slices_S32768x8208_S32768x16_0_2048) : (⟨S32768x16, .f32⟩ : BufTy).Contents (Elt Ideal))⟩] concatenates_S32768x16_S32768x16_S32768x16_S32768x48_d1 : (⟨S32768x48, .f32⟩ : BufTy).Contents (Elt Ideal))) (sitofp (F := Ideal) .f32 (constantI S_ 32 0#32)) pads_S32768x48_S32768x128_000_0800 h_S_ := by
  unfold res_main_v62 zT hT
  rfl

theorem zb_eq : res_main_v64 m c = truncf .bf16 (concatenate S32768x3072 1 [⟨S32768x1024, (mulf (extractStridedSlice S32768x1024 ![0, 3088] (zT m c) slices_S32768x8208_S32768x1024_0_3088) (shapeCast _ (vT m c) shapeCasts_S8x4096x1024_S32768x1024))⟩, ⟨S32768x2048, (extractStridedSlice S32768x2048 ![0, 6160] (zT m c) slices_S32768x8208_S32768x2048_0_6160)⟩] concatenates_S32768x1024_S32768x2048_S32768x3072_d1) bitsLt_bf16_f32 := by
  unfold res_main_v64 vT uT zT hT
  rfl

/-- The first result. -/
def zaT : FVec Ideal S32768x3072 .bf16 := truncf .bf16 (concatenate S32768x3072 1 [⟨S32768x2048, (extractStridedSlice S32768x2048 ![0, 0] (zT m c) slices_S32768x8208_S32768x2048_0_0)⟩, ⟨S32768x1024, (extractStridedSlice S32768x1024 ![0, 2064] (zT m c) slices_S32768x8208_S32768x1024_0_2064)⟩] concatenates_S32768x2048_S32768x1024_S32768x3072_d1) bitsLt_bf16_f32

theorem zg_at (b : Fin 8) (s : Fin 4096) (R : Fin 32768) (hR : R.val = 4096 * b.val + s.val) (n : Fin 128) :
    res_main_v62 m c (ix2 R n) = ProjSpec.zg (args m c) b s n := by
  rw [zg_eq]
  have e := zT_at m c b s R hR
  generalize zT m c = z at e ⊢
  pointwise
  simp only [e, ProjSpec.zg, ProjSpec.pad0]
  split_ifs <;> first | rfl | (congr 2; omega)

theorem za_at (b : Fin 8) (s : Fin 4096) (R : Fin 32768) (hR : R.val = 4096 * b.val + s.val) (n : Fin 3072) :
    zaT m c (ix2 R n) = ProjSpec.za (args m c) b s n := by
  unfold zaT
  have e := zT_at m c b s R hR
  generalize zT m c = z at e ⊢
  pointwise
  simp only [e, ProjSpec.za]
  split_ifs <;> first | rfl | (congr 2; omega)

theorem uT_at (b : Fin 8) (s : Fin 4098) (j : Fin 1024) :
    uT m c (ix3 b s j) = if h : 2 ≤ s.val then ProjSpec.up (args m c) b ⟨s.val - 2, by omega⟩ j else 0 := by
  unfold uT
  have e := zT_at m c b
  generalize zT m c = z at e ⊢
  pointwise
  rw [ProjSpec.pad0]
  by_cases h : 2 ≤ s.val
  · rw [dif_pos ⟨h, by omega⟩, dif_pos h, e ⟨s.val - 2, by omega⟩ _ (by show b.val * 4096 + (s.val - 2) = 4096 * b.val + (s.val - 2); omega),
      e ⟨s.val - 2, by omega⟩ _ (by show b.val * 4096 + (s.val - 2) = 4096 * b.val + (s.val - 2); omega)]
    rfl
  · rw [dif_neg (fun k => h k.1), dif_neg h]

theorem vT_at (b : Fin 8) (s : Fin 4096) (j : Fin 1024) : vT m c (ix3 b s j) = ProjSpec.conv (args m c) b s j := by
  unfold vT
  have e := uT_at m c b
  generalize uT m c = z at e ⊢
  pointwise
  simp only [e, ProjSpec.conv, ProjSpec.upB]
  refine congrArg₂ (· + ·) (congrArg₂ (· + ·) (congrArg₂ (· * ·) rfl ?_) (congrArg₂ (· * ·) rfl ?_)) (congrArg₂ (· * ·) rfl ?_)
  · split_ifs <;> rfl
  · split_ifs <;> first | (exfalso; omega) | rfl | (congr 2; omega)
  · rw [dif_pos (by omega)]
    congr 2
    omega

theorem zb_at (b : Fin 8) (s : Fin 4096) (R : Fin 32768) (hR : R.val = 4096 * b.val + s.val) (n : Fin 3072) :
    res_main_v64 m c (ix2 R n) = ProjSpec.zb (args m c) b s n := by
  rw [zb_eq]
  have e := zT_at m c b s R hR
  have e2 : ∀ j, shapeCast S32768x1024 (vT m c) shapeCasts_S8x4096x1024_S32768x1024 (ix2 R j) = ProjSpec.conv (args m c) b s j := by
    intro j
    refine (shapeCast_apply _ _ _ (ix3 b s j) ?_).trans (vT_at m c b s j)
    rw [Shape.rowMajor_val_two, Shape.rowMajor_val_three]
    simp only [ix2, ix3, Matrix.cons_val]
    omega
  generalize zT m c = z at e ⊢
  generalize shapeCast S32768x1024 (vT m c) shapeCasts_S8x4096x1024_S32768x1024 = v at e2 ⊢
  pointwise
  simp only [e, e2, ProjSpec.zb]
  split_ifs <;> first | rfl | (congr 2; omega)

end Cert.Proof.ProjRef
end
-- ==== Proof.ProjMeet.lean ====
/-
  The input projection's kernel and its reference meet: each of the three results is the same array.
-/
module

public import proofs.«01_k».proof.Defs
public import proofs.«01_k».proof.Proof.Gen.Kernel2
public import proofs.«01_k».proof.Proof.ProjEq
public import proofs.«01_k».proof.Proof.ProjRef
public import Idealize.ShloMosaic.Lib.Quiescent

@[expose] public section

set_option maxRecDepth 16384

noncomputable section

namespace Cert.Proof.ProjMeet

open Idealize.ShloMosaic Idealize.ShloMosaic.TcCoe Idealize.SL.Sem

section results

variable (m : (ℓ : Loc Cert.Kernel2Ideal.nD Cert.Kernel2Ideal.τ Cert.Kernel2Ideal.sig) → Buf (Elt Ideal) ℓ) (c : Dev Cert.Kernel2Ideal.nD)
  (m' : (ℓ : Loc Cert.Reference2Ideal.nD Cert.Reference2Ideal.τ Cert.Reference2Ideal.sig) → Buf (Elt Ideal) ℓ) (c' : Dev Cert.Reference2Ideal.nD)
  (h : ProjRef.args m' c' = Proj.args m c)

include h

theorem za_meet : ProjRef.zaT m' c' = Cert.Kernel2Ideal.Value.G7 m c := by
  funext i
  obtain ⟨R, n, rfl⟩ : ∃ (R : Fin 32768) (n : Fin 3072), i = ix2 R n := ⟨_, _, eq_ix2 i⟩
  have hR : R.val = 4096 * (R.val / 4096) + R.val % 4096 := (Nat.div_add_mod _ _).symm
  exact (ProjRef.za_at m' c' ⟨R.val / 4096, by omega⟩ ⟨R.val % 4096, by omega⟩ R hR n).trans
    ((congrArg (fun A => ProjSpec.za A _ _ n) h).trans (Proj.G7_at m c _ _ R hR n).symm)

theorem zb_meet : Cert.Reference2Ideal.Value.res_main_v64 m' c' = Cert.Kernel2Ideal.Value.G8 m c := by
  funext i
  obtain ⟨R, n, rfl⟩ : ∃ (R : Fin 32768) (n : Fin 3072), i = ix2 R n := ⟨_, _, eq_ix2 i⟩
  have hR : R.val = 4096 * (R.val / 4096) + R.val % 4096 := (Nat.div_add_mod _ _).symm
  exact (ProjRef.zb_at m' c' ⟨R.val / 4096, by omega⟩ ⟨R.val % 4096, by omega⟩ R hR n).trans
    ((congrArg (fun A => ProjSpec.zb A _ _ n) h).trans (Proj.G8_at m c _ _ R hR n).symm)

theorem zg_meet : Cert.Reference2Ideal.Value.res_main_v62 m' c' = Cert.Kernel2Ideal.Value.G9 m c := by
  funext i
  obtain ⟨R, n, rfl⟩ : ∃ (R : Fin 32768) (n : Fin 128), i = ix2 R n := ⟨_, _, eq_ix2 i⟩
  have hR : R.val = 4096 * (R.val / 4096) + R.val % 4096 := (Nat.div_add_mod _ _).symm
  exact (ProjRef.zg_at m' c' ⟨R.val / 4096, by omega⟩ ⟨R.val % 4096, by omega⟩ R hR n).trans
    ((congrArg (fun A => ProjSpec.zg A _ _ n) h).trans (Proj.G9_at m c _ _ R hR n).symm)

end results

/-- The two texts' body is one function of the machine. -/
theorem body_eq : Cert.Kernel2.cc0_in_projection (F := Bits) = Cert.Kernel2Ideal.cc0_in_projection (F := Bits) := rfl

theorem labels_eq : Cert.Kernel2.defs₀ (F := Bits) = Cert.Kernel2Ideal.defs₀ (F := Bits) := by
  unfold Cert.Kernel2.defs₀ Cert.Kernel2Ideal.defs₀
  refine congrArg (Defs.onTc (nD := 1) (τ := Topo.v7x) (sig := Cert.Kernel2.sig) (Val := Elt Bits) (Λ := Cert.Kernel2.Λ₀)) ?_
  funext l a
  match l, a with
  | 0, (t, s) => rw [body_eq]; rfl

theorem table_eq : Cert.Kernel2.defs (F := Bits) = Cert.Kernel2Ideal.defs (F := Bits) :=
  congrArg (Pipeline.defs Cert.Kernel2.pcfgs) labels_eq

theorem main_eq : Cert.Kernel2.main (F := Bits) = Cert.Kernel2Ideal.main (F := Bits) := rfl

theorem frame_p : Cert.quiescent_Kernel2 := fun m g _ => by
  rw [table_eq, main_eq]
  exact Cert.Kernel2Ideal.Gen.frame (F := Bits) m g

theorem frame_pi : Cert.quiescent_Kernel2Ideal := fun m g _ => Cert.Kernel2Ideal.Gen.frame (F := Ideal) m g

theorem frame_ri : Cert.quiescent_Reference2Ideal := fun m g _ =>
  (Cert.Reference2Ideal.Value.run (F := Ideal) m g).mono fun _ h => ⟨fun c => (h c).2.2.2, sem_eq_zero_of_no_sems rfl _⟩

theorem algebraic : Cert.algebraic_Kernel2Ideal_Reference2Ideal := fun m g m' g' _ hagree =>
  have ha := fun c => (show ProjRef.args m' c = Proj.args m c by
    obtain ⟨h0, h1, h2, h3, h4⟩ := hagree c
    unfold ProjRef.args Proj.args
    rw [h0, h1, h2, h3, h4])
  ⟨Cert.Kernel2Ideal.Value.G7 m, Cert.Kernel2Ideal.Value.G8 m, Cert.Kernel2Ideal.Value.G9 m,
    Cert.Kernel2Ideal.Value.run (F := Ideal) m g,
    (Cert.Reference2Ideal.Value.run (F := Ideal) m' g').mono fun _ h c =>
      ⟨(h c).1.trans (za_meet m c m' c (ha c)), (h c).2.1.trans (zb_meet m c m' c (ha c)), (h c).2.2.1.trans (zg_meet m c m' c (ha c)), (h c).2.2.2⟩⟩

end Cert.Proof.ProjMeet
end
-- ==== Proof.MixSpec.lean ====
/-
  The mixer's output as plain mathematics over the extended reals: two gated products, their sum's product with the third
  weight, the residual, and the residual normalised and modulated.
-/
module

public import Idealize.ShloMosaic.PureOps.Ideal
public import Idealize.ShloMosaic.Lib.Pointwise

@[expose] public section

noncomputable section

namespace Cert.Proof.MixSpec

open Idealize.ShloMosaic

/-- The arguments, by coordinates. -/
structure Args where
  og : Fin 32768 → Fin 1024 → EReal
  zb : Fin 32768 → Fin 3072 → EReal
  x : Fin 8 → Fin 4096 → Fin 1024 → EReal
  md : Fin 8 → Fin 6144 → EReal
  wg : Fin 1024 → Fin 1024 → EReal
  wc : Fin 1024 → Fin 1024 → EReal
  wo : Fin 1024 → Fin 1024 → EReal
  g : Fin 1024 → EReal

variable (A : Args)

/-- One number of the two gated products' sum. -/
def mix (R : Fin 32768) (k : Fin 1024) : EReal :=
  Ideal.logistic (A.zb R ⟨1024 + k.val, by omega⟩) * (∑ j, A.og R j * A.wg j k)
    + Ideal.logistic (A.zb R ⟨2048 + k.val, by omega⟩) * (∑ j : Fin 1024, A.zb R ⟨j.val, by omega⟩ * A.wc j k)

/-- One number of the residual. -/
def res (b : Fin 8) (s : Fin 4096) (R : Fin 32768) (n : Fin 1024) : EReal :=
  A.x b s n + A.md b ⟨2048 + n.val, by omega⟩ * (∑ k, mix A R k * A.wo k n)

/-- One number of the normalised and modulated residual. -/
def hid (b : Fin 8) (s : Fin 4096) (R : Fin 32768) (k : Fin 1024) : EReal :=
  res A b s R k * Ideal.rsqrt (Ideal.div (∑ j, res A b s R j * res A b s R j) (Ideal.ofBits FTy.f32 1149239296#32) + Ideal.ofBits FTy.f32 897988541#32)
    * (A.g k * (1 + A.md b ⟨4096 + k.val, by omega⟩)) + A.md b ⟨3072 + k.val, by omega⟩

end Cert.Proof.MixSpec
end
-- ==== Proof.MixIn.lean ====
/-
  What the mixer output's grid points read: the blocks of its operands, in the arguments' own places.
-/
module

public import proofs.«01_k».proof.Proof.Gen.Kernel3Ideal.Value
public import Idealize.ShloMosaic.Lib.Pipeline.ValueKit
public import Idealize.ShloMosaic.Lib.Pointwise
public import proofs.«01_k».proof.Proof.MixSpec

@[expose] public section

noncomputable section

namespace Cert.Proof.Mix

open Cert.Kernel3Ideal Cert.Kernel3Ideal.Gen
open Idealize.ShloMosaic Idealize.ShloMosaic.TcCoe Idealize.ShloMosaic.Tactic
open Idealize.ShloMosaic.Pipeline

variable (m : (ℓ : Loc nD τ sig) → Buf (Elt Ideal) ℓ) (c : Dev nD) (t : Fin cfg0.N)

theorem idx : ∀ t : Fin cfg0.N, win0_0.index t = ![t.val, 0] ∧ win0_1.index t = ![t.val, 0] ∧ win0_2.index t = ![t.val, 0] ∧ win0_3.index t = ![t.val / 4, 0, 0]
    ∧ win0_4.index t = ![0, 0] ∧ win0_5.index t = ![0, 0] ∧ win0_6.index t = ![0, 0] ∧ win0_7.index t = ![0, 0]
    ∧ win0_10.index t = ![t.val, 0] ∧ win0_11.index t = ![0, t.val, 0] := by decide +kernel

set_option maxRecDepth 16384

theorem V_v10 : V m c main_v10 = shapeCast _ (m ((c : Thread nD τ).loc main_arg2)) shapeCasts_S8x4096x1024_S32768x1024 := by
  unfold V hostOps0 hostOps0_1 hostOps0_2 hostOps0_3 hostOps0_4
  simp only [List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem V_v11 : V m c main_v11 = shapeCast _ (m ((c : Thread nD τ).loc main_arg3)) shapeCasts_S8x6144_S8x6x1024 := by
  unfold V hostOps0 hostOps0_1 hostOps0_2 hostOps0_3 hostOps0_4
  simp only [List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem V_v12 : V m c main_v12 = (truncf .bf16 (m ((c : Thread nD τ).loc main_arg4) : FVec Ideal S1024x1024 .f32) bitsLt_bf16_f32 : FVec Ideal S1024x1024 .bf16) := by
  unfold V hostOps0 hostOps0_1 hostOps0_2 hostOps0_3 hostOps0_4
  simp only [List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem V_v13 : V m c main_v13 = (truncf .bf16 (m ((c : Thread nD τ).loc main_arg5) : FVec Ideal S1024x1024 .f32) bitsLt_bf16_f32 : FVec Ideal S1024x1024 .bf16) := by
  unfold V hostOps0 hostOps0_1 hostOps0_2 hostOps0_3 hostOps0_4
  simp only [List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem V_v14 : V m c main_v14 = (truncf .bf16 (m ((c : Thread nD τ).loc main_arg6) : FVec Ideal S1024x1024 .f32) bitsLt_bf16_f32 : FVec Ideal S1024x1024 .bf16) := by
  unfold V hostOps0 hostOps0_1 hostOps0_2 hostOps0_3 hostOps0_4
  simp only [List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem V_v15 : V m c main_v15 = shapeCast _ (m ((c : Thread nD τ).loc main_arg7)) shapeCasts_S1024_S1x1024 := by
  unfold V hostOps0 hostOps0_1 hostOps0_2 hostOps0_3 hostOps0_4
  simp only [List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

/-- The grid point's row of the whole array. -/
def rw (r : Fin 1024) : Fin 32768 := ⟨t.val * 1024 + r.val, by have : t.val < 32 := lt_of_lt_of_eq t.isLt N_0; omega⟩

theorem in0 (r k : Fin 1024) : iblk m c 0 t (ix2 r k) = m ((c : Thread nD τ).loc main_arg0) (ix2 (rw t r) k) := by
  unfold rw
  blk_ext [iblk, V, idx t]

theorem in1 (r : Fin 1024) (k : Fin 3072) : iblk m c 1 t (ix2 r k) = m ((c : Thread nD τ).loc main_arg1) (ix2 (rw t r) k) := by
  unfold rw
  blk_ext [iblk, V, idx t]

theorem in2 (r k : Fin 1024) (i : S8x4096x1024.Idx) (h0 : (i 0).val = t.val / 4) (h1 : (i 1).val = t.val % 4 * 1024 + r.val) (h2 : (i 2).val = k.val) :
    iblk m c 2 t (ix2 r k) = m ((c : Thread nD τ).loc main_arg2) i := by
  have ht : t.val < 32 := lt_of_lt_of_eq t.isLt N_0
  have e : (win0_2.blk t).view.emb (ix2 r k) = ix2 (n0 := 32768) (n1 := 1024) ⟨t.val * 1024 + r.val, by omega⟩ k := by blk_ext [idx t]
  blk_simp [iblk, idx t]
  rw [V_v10, e]
  refine shapeCast_apply _ _ _ i ?_
  rw [Shape.rowMajor_val_two, Shape.rowMajor_val_three]
  show ((i 0).val * 4096 + (i 1).val) * 1024 + (i 2).val = (t.val * 1024 + r.val) * 1024 + k.val
  omega

theorem in3 (r : Fin 6) (k : Fin 1024) (i : S8x6144.Idx) (h0 : (i 0).val = t.val / 4) (h1 : (i 1).val = r.val * 1024 + k.val) :
    iblk m c 3 t (ix3 0 r k) = m ((c : Thread nD τ).loc main_arg3) i := by
  have ht : t.val < 32 := lt_of_lt_of_eq t.isLt N_0
  have e : (win0_3.blk t).view.emb (ix3 0 r k) = ix3 (n0 := 8) (n1 := 6) (n2 := 1024) ⟨t.val / 4, by omega⟩ r k := by blk_ext [idx t]
  blk_simp [iblk, idx t]
  rw [V_v11, e]
  refine shapeCast_apply _ _ _ i ?_
  rw [Shape.rowMajor_val_two, Shape.rowMajor_val_three]
  show (i 0).val * 6144 + (i 1).val = (t.val / 4 * 6 + r.val) * 1024 + k.val
  omega

theorem in4 (k n : Fin 1024) : iblk m c 4 t (ix2 k n) = m ((c : Thread nD τ).loc main_arg4) (ix2 k n) := by
  have e : (win0_4.blk t).view.emb (ix2 k n) = ix2 (n0 := 1024) (n1 := 1024) k n := by blk_ext [idx t]
  blk_simp [iblk, idx t]
  rw [V_v12, e]
  pointwise

theorem in5 (k n : Fin 1024) : iblk m c 5 t (ix2 k n) = m ((c : Thread nD τ).loc main_arg5) (ix2 k n) := by
  have e : (win0_5.blk t).view.emb (ix2 k n) = ix2 (n0 := 1024) (n1 := 1024) k n := by blk_ext [idx t]
  blk_simp [iblk, idx t]
  rw [V_v13, e]
  pointwise

theorem in6 (k n : Fin 1024) : iblk m c 6 t (ix2 k n) = m ((c : Thread nD τ).loc main_arg6) (ix2 k n) := by
  have e : (win0_6.blk t).view.emb (ix2 k n) = ix2 (n0 := 1024) (n1 := 1024) k n := by blk_ext [idx t]
  blk_simp [iblk, idx t]
  rw [V_v14, e]
  pointwise

theorem in7 (k : Fin 1024) : iblk m c 7 t (ix2 0 k) = m ((c : Thread nD τ).loc main_arg7) (ix1 k) := by
  have e : (win0_7.blk t).view.emb (ix2 0 k) = ix2 (n0 := 1) (n1 := 1024) 0 k := by blk_ext [idx t]
  blk_simp [iblk, idx t]
  rw [V_v15, e]
  pointwise

end Cert.Proof.Mix
end
-- ==== Proof.MixPay.lean ====
/-
  The values that one grid point of the mixer's output stores, read one number at a time.
-/
module

public import proofs.«01_k».proof.Proof.Gen.Kernel3Ideal.Skeleton
public import Idealize.ShloMosaic.Lib.Pointwise

@[expose] public section

noncomputable section

namespace Cert.Proof.Mix

open Cert.Kernel3Ideal Cert.Kernel3Ideal.Gen
open Idealize.ShloMosaic Idealize.ShloMosaic.TcCoe Idealize.ShloMosaic.Tactic

section groups

variable (ga gc : Vec Ideal S1024x256 .bf16) (u o : Vec Ideal S1024x1024 .bf16) (wc wg : Vec Ideal S1024x256 .bf16) (r : Fin 1024) (j : Fin 256)

/-- One number of a group of 256 columns of the gated products' sum. -/
def gm : EReal := Ideal.logistic (ga (ix2 r j)) * (∑ x, o (ix2 r x) * wg (ix2 x j)) + Ideal.logistic (gc (ix2 r j)) * (∑ x, u (ix2 r x) * wc (ix2 x j))

theorem pay3_at : k0_pay3 ga gc u wc o wg (ix2 r j) = gm ga gc u o wc wg r j := by
  unfold k0_pay3; pointwise; rfl

theorem pay6_at : k0_pay6 (k0_pay4 ga) (k0_pay5 gc) u wc o wg (ix2 r j) = gm ga gc u o wc wg r j := by
  unfold k0_pay6 k0_pay4 k0_pay5; pointwise; rfl

theorem pay7_at : k0_pay7 ga gc u wc o wg (ix2 r j) = gm ga gc u o wc wg r j := by
  unfold k0_pay7; pointwise; rfl

end groups

section rows

variable (M : Vec Ideal S1x6x1024 .f32) (G : Vec Ideal S1x1024 .f32) (y0 y1 y2 : FVec Ideal S1024x256 .bf16) (ga gc : Vec Ideal S1024x256 .bf16) (u o : Vec Ideal S1024x1024 .bf16)
  (wc wg : Vec Ideal S1024x256 .bf16) (wo : Vec Ideal S1024x1024 .bf16) (X : Vec Ideal S1024x1024 .f32) (r : Fin 1024)

/-- One number of the gated products' sum: its four groups of columns side by side. -/
def ym (k : Fin 1024) : EReal :=
  if h0 : k.val < 256 then y0 (ix2 r ⟨k.val, h0⟩) else if h1 : k.val - 256 < 256 then y1 (ix2 r ⟨k.val - 256, h1⟩)
    else if h2 : k.val - 256 - 256 < 256 then y2 (ix2 r ⟨k.val - 256 - 256, h2⟩) else gm ga gc u o wc wg r ⟨k.val - 256 - 256 - 256, by omega⟩

/-- The residual of a block. -/
def xB : FVec Ideal S1024x1024 .f32 := k0_pay10 (k0_pay1 M) y0 y1 y2 (k0_pay8 ga) (k0_pay9 gc) u wc o wg wo X

theorem xB_at (n : Fin 1024) :
    xB M y0 y1 y2 ga gc u o wc wg wo X (ix2 r n) = (X (ix2 r n) + M (ix3 0 2 n) * (∑ k, ym y0 y1 y2 ga gc u o wc wg r k * wo (ix2 k n)) : EReal) := by
  unfold xB k0_pay10 k0_pay1 k0_pay8 k0_pay9 ym gm
  pointwise

theorem hB_at (x : FVec Ideal S1024x1024 .f32) (hx : x = xB M y0 y1 y2 ga gc u o wc wg wo X) (k : Fin 1024) :
    k0_pay13 (k0_pay11 (k0_pay1 M) (k0_pay2 M G) y0 y1 y2 (k0_pay8 ga) (k0_pay9 gc) u wc o wg wo X) (k0_pay12 (k0_pay1 M)) (ix2 r k)
      = (x (ix2 r k) * Ideal.rsqrt (Ideal.div (∑ j, x (ix2 r j) * x (ix2 r j)) (Ideal.ofBits FTy.f32 1149239296#32) + Ideal.ofBits FTy.f32 897988541#32)
        * (G (ix2 0 k) * (1 + M (ix3 0 4 k))) + M (ix3 0 3 k) : EReal) := by
  unfold xB at hx
  unfold k0_pay13 k0_pay11
  rw [← hx]
  clear hx
  unfold k0_pay12 k0_pay2 k0_pay1
  pointwise

end rows

section halves

variable (a b : FVec Ideal S1024x1024 .f32)

theorem pay16_at (R : Fin 2048) (j : Fin 256) :
    k0_pay16 a b (ix3 0 R j) = k0_pay13 a b (ix2 ⟨R.val / 2, by omega⟩ ⟨R.val % 2 * 512 + j.val, by omega⟩) := by
  unfold k0_pay16 k0_pay15 k0_pay14
  generalize k0_pay13 a b = h
  pointwise
  by_cases e : R.val % 2 = 0
  · rw [if_pos e]
    refine congrArg h (congrArg (ix2 _) (Fin.ext ?_))
    show j.val = R.val % 2 * 512 + j.val
    omega
  · rw [if_neg e]
    refine congrArg h (congrArg (ix2 _) (Fin.ext ?_))
    show 512 + j.val = R.val % 2 * 512 + j.val
    omega

theorem pay17_at (R : Fin 2048) (j : Fin 256) :
    k0_pay17 a b (ix3 0 R j) = k0_pay13 a b (ix2 ⟨R.val / 2, by omega⟩ ⟨R.val % 2 * 512 + 256 + j.val, by omega⟩) := by
  unfold k0_pay17 k0_pay15 k0_pay14
  generalize k0_pay13 a b = h
  pointwise
  by_cases e : R.val % 2 = 0
  · rw [if_pos e]
    refine congrArg h (congrArg (ix2 _) (Fin.ext ?_))
    show 256 + j.val = R.val % 2 * 512 + 256 + j.val
    omega
  · rw [if_neg e]
    refine congrArg h (congrArg (ix2 _) (Fin.ext ?_))
    show 768 + j.val = R.val % 2 * 512 + 256 + j.val
    omega

end halves

end Cert.Proof.Mix
end
-- ==== Proof.MixTile.lean ====
/-
  What one grid point of the mixer's output leaves in its first two results.
-/
module

public import proofs.«01_k».proof.Proof.Gen.Kernel3Ideal.Value
public import Idealize.ShloMosaic.Lib.Pipeline.ValueKit
public import Idealize.ShloMosaic.Lib.Pipeline.ReadBack
public import proofs.«01_k».proof.Proof.MixPay

@[expose] public section

noncomputable section

namespace Cert.Proof.Mix

open Cert.Kernel3Ideal Cert.Kernel3Ideal.Gen
open Idealize.ShloMosaic Idealize.ShloMosaic.TcCoe Idealize.ShloMosaic.Tactic
open Idealize.ShloMosaic.Pipeline

variable (x0 : Vec Ideal S1024x1024 .bf16) (x1 : Vec Ideal S1024x3072 .bf16) (x2 : Vec Ideal S1024x1024 .f32) (x3 : Vec Ideal S1x6x1024 .f32)
  (x4 x5 x6 : Vec Ideal S1024x1024 .bf16) (x7 : Vec Ideal S1x1024 .f32) (x8 : Vec Ideal S1024x256 .bf16) (x9 : Vec Ideal S1x128 .f32)

/-- One number of the block's gated products' sum. -/
def tm (r k : Fin 1024) : EReal :=
  Ideal.logistic (x1 (ix2 r ⟨1024 + k.val, by omega⟩)) * (∑ j, x0 (ix2 r j) * x4 (ix2 j k))
    + Ideal.logistic (x1 (ix2 r ⟨2048 + k.val, by omega⟩)) * (∑ j : Fin 1024, x1 (ix2 r ⟨j.val, by omega⟩) * x5 (ix2 j k))

theorem gm_cols (q qa qc : ℕ) (hq : q + 256 ≤ 1024) (ha : qa = 1024 + q) (hc : qc = 2048 + q) (i1 i2 i3 i4 i5 i6) (r : Fin 1024) (j : Fin 256) (k : Fin 1024) (hk : k.val = q + j.val) :
    gm (View.ld x1 (Rect.unit (s := S1024x3072) ![0, qa] ![1024, 256] i1)) (View.ld x1 (Rect.unit (s := S1024x3072) ![0, qc] ![1024, 256] i2))
      (View.ld x1 (Rect.unit (s := S1024x3072) ![0, 0] ![1024, 1024] i3)) (View.ld x0 (Rect.unit (s := S1024x1024) ![0, 0] ![1024, 1024] i4))
      (View.ld x5 (Rect.unit (s := S1024x1024) ![0, q] ![1024, 256] i5)) (View.ld x4 (Rect.unit (s := S1024x1024) ![0, q] ![1024, 256] i6)) r j = tm x0 x1 x4 x5 r k := by
  obtain ⟨k, hk'⟩ := k
  obtain rfl : k = q + j.val := hk
  subst ha hc
  unfold gm tm
  refine congrArg₂ (· + ·) (congrArg₂ (· * ·) (congrArg Ideal.logistic ?_) (Finset.sum_congr rfl fun x _ => congrArg₂ (· * ·) ?_ ?_)) (congrArg₂ (· * ·) (congrArg Ideal.logistic ?_) (Finset.sum_congr rfl fun x _ => congrArg₂ (· * ·) ?_ ?_))
  · exact View.ld_unit_apply_of x1 _ _ _ _ _ (Fin.forall_fin_two.2 ⟨(Nat.zero_add _).symm, (Nat.add_assoc _ _ _).symm⟩)
  · exact View.ld_unit_apply_of x0 _ _ _ _ _ (Fin.forall_fin_two.2 ⟨(Nat.zero_add _).symm, (Nat.zero_add _).symm⟩)
  · exact View.ld_unit_apply_of x4 _ _ _ _ _ (Fin.forall_fin_two.2 ⟨(Nat.zero_add _).symm, rfl⟩)
  · exact View.ld_unit_apply_of x1 _ _ _ _ _ (Fin.forall_fin_two.2 ⟨(Nat.zero_add _).symm, (Nat.add_assoc _ _ _).symm⟩)
  · exact View.ld_unit_apply_of x1 _ _ _ _ _ (Fin.forall_fin_two.2 ⟨(Nat.zero_add _).symm, (Nat.zero_add _).symm⟩)
  · exact View.ld_unit_apply_of x5 _ _ _ _ _ (Fin.forall_fin_two.2 ⟨(Nat.zero_add _).symm, rfl⟩)

theorem ym_at (r k : Fin 1024) :
    ym (k0_pay20 x0 x1 x2 x3 x4 x5 x6 x7 x8 x9) (k0_pay21 x0 x1 x2 x3 x4 x5 x6 x7 x8 x9) (k0_pay22 x0 x1 x2 x3 x4 x5 x6 x7 x8 x9)
      (View.ld x1 r0_13) (View.ld x1 r0_14) (View.ld x1 r0_4) (View.ld x0 r0_6) (View.ld x5 r0_15) (View.ld x4 r0_15) r k = tm x0 x1 x4 x5 r k := by
  unfold ym
  by_cases h0 : k.val < 256
  · rw [dif_pos h0]
    exact (pay3_at _ _ _ _ _ _ r _).trans (gm_cols x0 x1 x4 x5 0 1024 2048 (by omega) rfl rfl _ _ _ _ _ _ r _ k (by show k.val = 0 + k.val; omega))
  · rw [dif_neg h0]
    by_cases h1 : k.val - 256 < 256
    · rw [dif_pos h1]
      exact (pay6_at _ _ _ _ _ _ r _).trans (gm_cols x0 x1 x4 x5 256 1280 2304 (by omega) rfl rfl _ _ _ _ _ _ r _ k (by show k.val = 256 + (k.val - 256); omega))
    · rw [dif_neg h1]
      by_cases h2 : k.val - 256 - 256 < 256
      · rw [dif_pos h2]
        exact (pay7_at _ _ _ _ _ _ r _).trans (gm_cols x0 x1 x4 x5 512 1536 2560 (by omega) rfl rfl _ _ _ _ _ _ r _ k (by show k.val = 512 + (k.val - 256 - 256); omega))
      · rw [dif_neg h2]
        exact gm_cols x0 x1 x4 x5 768 1792 2816 (by omega) rfl rfl _ _ _ _ _ _ r _ k (by show k.val = 768 + (k.val - 256 - 256 - 256); omega)

/-- One number of the block's residual. -/
def tx (r n : Fin 1024) : EReal := x2 (ix2 r n) + x3 (ix3 0 2 n) * (∑ k, tm x0 x1 x4 x5 r k * x6 (ix2 k n))

/-- The block's residual. -/
def xT : FVec Ideal S1024x1024 .f32 :=
  xB (View.ld x3 r0_0) (k0_pay20 x0 x1 x2 x3 x4 x5 x6 x7 x8 x9) (k0_pay21 x0 x1 x2 x3 x4 x5 x6 x7 x8 x9) (k0_pay22 x0 x1 x2 x3 x4 x5 x6 x7 x8 x9)
    (View.ld x1 r0_13) (View.ld x1 r0_14) (View.ld x1 r0_4) (View.ld x0 r0_6) (View.ld x5 r0_15) (View.ld x4 r0_15) (View.ld x6 r0_6) (View.ld x2 r0_6)

theorem xT_at (r n : Fin 1024) : xT x0 x1 x2 x3 x4 x5 x6 x7 x8 x9 (ix2 r n) = tx x0 x1 x2 x3 x4 x5 x6 r n := by
  refine (xB_at _ _ _ _ _ _ _ _ _ _ _ _ r n).trans ?_
  unfold tx
  refine congrArg₂ (· + ·) ?_ (congrArg₂ (· * ·) ?_ (Finset.sum_congr rfl fun k _ => congrArg₂ (· * ·) (ym_at x0 x1 x2 x3 x4 x5 x6 x7 x8 x9 r k) ?_))
  · exact View.ld_unit_apply_of x2 _ _ _ _ _ (Fin.forall_fin_two.2 ⟨(Nat.zero_add _).symm, (Nat.zero_add _).symm⟩)
  · exact View.ld_unit_apply_of x3 _ _ _ _ _ (Fin.forall_fin_succ.2 ⟨rfl, Fin.forall_fin_two.2 ⟨rfl, (Nat.zero_add _).symm⟩⟩)
  · exact View.ld_unit_apply_of x6 _ _ _ _ _ (Fin.forall_fin_two.2 ⟨(Nat.zero_add _).symm, (Nat.zero_add _).symm⟩)

theorem out10_at (r n : Fin 1024) : out0_10 x0 x1 x2 x3 x4 x5 x6 x7 x8 x9 (ix2 r n) = tx x0 x1 x2 x3 x4 x5 x6 r n := by
  unfold out0_10
  refine (?_ : _ = xT x0 x1 x2 x3 x4 x5 x6 x7 x8 x9 (ix2 r n)).trans (xT_at x0 x1 x2 x3 x4 x5 x6 x7 x8 x9 r n)
  refine View.canon_eq_of_allAt _ _ _ (View.cover_of_tiledBy _ ![1024, 1024] (by sl_kernel_rfl) _) (View.allAt_cons_unit _ _ _ _ _ ?_ (View.allAt_nil _ _))
  tile_intro x e
  obtain ⟨r', j, rfl⟩ : ∃ r' j, x = ix2 r' j := ⟨_, _, eq_ix2 x⟩
  obtain rfl : r = r' := Fin.ext e0
  obtain rfl : n = j := Fin.ext e1
  rfl

/-- One number of the block's normalised and modulated residual. -/
def th (r k : Fin 1024) : EReal :=
  tx x0 x1 x2 x3 x4 x5 x6 r k * Ideal.rsqrt (Ideal.div (∑ j, tx x0 x1 x2 x3 x4 x5 x6 r j * tx x0 x1 x2 x3 x4 x5 x6 r j) (Ideal.ofBits FTy.f32 1149239296#32) + Ideal.ofBits FTy.f32 897988541#32)
    * (x7 (ix2 0 k) * (1 + x3 (ix3 0 4 k))) + x3 (ix3 0 3 k)

theorem pay13_at (r k : Fin 1024) :
    k0_pay13 (k0_pay25 x0 x1 x2 x3 x4 x5 x6 x7 x8 x9) (k0_pay26 x0 x1 x2 x3 x4 x5 x6 x7 x8 x9) (ix2 r k) = th x0 x1 x2 x3 x4 x5 x6 x7 r k := by
  have e7 : View.ld x7 r0_1 (ix2 0 k) = x7 (ix2 0 k) := View.ld_unit_apply_of x7 _ _ _ _ _ (Fin.forall_fin_two.2 ⟨rfl, (Nat.zero_add _).symm⟩)
  have e4 : View.ld x3 r0_0 (ix3 0 4 k) = x3 (ix3 0 4 k) := View.ld_unit_apply_of x3 _ _ _ _ _ (Fin.forall_fin_succ.2 ⟨rfl, Fin.forall_fin_two.2 ⟨rfl, (Nat.zero_add _).symm⟩⟩)
  have e3 : View.ld x3 r0_0 (ix3 0 3 k) = x3 (ix3 0 3 k) := View.ld_unit_apply_of x3 _ _ _ _ _ (Fin.forall_fin_succ.2 ⟨rfl, Fin.forall_fin_two.2 ⟨rfl, (Nat.zero_add _).symm⟩⟩)
  refine (hB_at (View.ld x3 r0_0) (View.ld x7 r0_1) _ _ _ _ _ _ _ _ _ _ _ r (xT x0 x1 x2 x3 x4 x5 x6 x7 x8 x9) rfl k).trans ?_
  rw [e7, e4, e3]
  simp only [xT_at]
  rfl

theorem out11_at (p : Fin 2) (R : Fin 2048) (j : Fin 256) :
    out0_11 x0 x1 x2 x3 x4 x5 x6 x7 x8 x9 (ix3 p R j) = th x0 x1 x2 x3 x4 x5 x6 x7 ⟨R.val / 2, by omega⟩ ⟨R.val % 2 * 512 + p.val * 256 + j.val, by omega⟩ := by
  unfold out0_11
  refine View.canon_eq_of_allAt _ _ _ (View.cover_of_tiledBy _ ![1, 2048, 256] (by sl_kernel_rfl) _) (View.allAt_cons_unit _ _ _ _ _ ?_ (View.allAt_cons_unit _ _ _ _ _ ?_ (View.allAt_nil _ _)))
  · tile_intro x e
    obtain ⟨z, R', j', rfl⟩ : ∃ z R' j', x = ix3 z R' j' := ⟨_, _, _, eq_ix3 x⟩
    obtain rfl : z = 0 := Fin.ext (by have := z.isLt; show z.val = 0; omega)
    obtain rfl : p = 1 := Fin.ext e0
    obtain rfl : R = R' := Fin.ext e1
    obtain rfl : j = j' := Fin.ext e2
    refine (pay17_at _ _ R j).trans ((pay13_at x0 x1 x2 x3 x4 x5 x6 x7 x8 x9 _ _).trans (congrArg (th x0 x1 x2 x3 x4 x5 x6 x7 _) (Fin.ext ?_)))
    show R.val % 2 * 512 + 256 + j.val = R.val % 2 * 512 + 1 * 256 + j.val
    omega
  · tile_intro x e
    obtain ⟨z, R', j', rfl⟩ : ∃ z R' j', x = ix3 z R' j' := ⟨_, _, _, eq_ix3 x⟩
    obtain rfl : z = 0 := Fin.ext (by have := z.isLt; show z.val = 0; omega)
    obtain rfl : p = 0 := Fin.ext e0
    obtain rfl : R = R' := Fin.ext e1
    obtain rfl : j = j' := Fin.ext e2
    refine (pay16_at _ _ R j).trans ((pay13_at x0 x1 x2 x3 x4 x5 x6 x7 x8 x9 _ _).trans (congrArg (th x0 x1 x2 x3 x4 x5 x6 x7 _) (Fin.ext ?_)))
    show R.val % 2 * 512 + j.val = R.val % 2 * 512 + 0 * 256 + j.val
    omega

end Cert.Proof.Mix
end
-- ==== Proof.MixEq.lean ====
/-
  The mixer output's kernel as plain mathematics: every number of its first two results.
-/
module

public import proofs.«01_k».proof.Proof.MixIn
public import proofs.«01_k».proof.Proof.MixTile

@[expose] public section

noncomputable section

namespace Cert.Proof.Mix

open Cert.Kernel3Ideal Cert.Kernel3Ideal.Gen Cert.Kernel3Ideal.Value
open Idealize.ShloMosaic Idealize.ShloMosaic.TcCoe Idealize.ShloMosaic.Tactic
open Idealize.ShloMosaic.Pipeline

variable (m : (ℓ : Loc nD τ sig) → Buf (Elt Ideal) ℓ) (c : Dev nD) (t : Fin cfg0.N)

/-- The arguments, by coordinates. -/
def args : MixSpec.Args where
  og R k := m ((c : Thread nD τ).loc main_arg0) (ix2 R k)
  zb R k := m ((c : Thread nD τ).loc main_arg1) (ix2 R k)
  x b s k := m ((c : Thread nD τ).loc main_arg2) (ix3 b s k)
  md b k := m ((c : Thread nD τ).loc main_arg3) (ix2 b k)
  wg k n := m ((c : Thread nD τ).loc main_arg4) (ix2 k n)
  wc k n := m ((c : Thread nD τ).loc main_arg5) (ix2 k n)
  wo k n := m ((c : Thread nD τ).loc main_arg6) (ix2 k n)
  g k := m ((c : Thread nD τ).loc main_arg7) (ix1 k)

theorem lt32 : t.val < 32 := lt_of_lt_of_eq t.isLt N_0

/-- The sequence of a grid point. -/
def bt : Fin 8 := ⟨t.val / 4, by have := lt32 t; omega⟩

/-- The place in the sequence of a grid point's row. -/
def sq (r : Fin 1024) : Fin 4096 := ⟨t.val % 4 * 1024 + r.val, by omega⟩

theorem md_at (a : Fin 6) (k : Fin 1024) (o : ℕ) (ho : o = a.val * 1024) : iblk m c 3 t (ix3 0 a k) = (args m c).md (bt t) ⟨o + k.val, by omega⟩ :=
  in3 m c t a k _ rfl (congrArg (· + k.val) ho)

theorem tm_at (r k : Fin 1024) : tm (iblk m c 0 t) (iblk m c 1 t) (iblk m c 4 t) (iblk m c 5 t) r k = MixSpec.mix (args m c) (rw t r) k := by
  unfold tm
  simp only [in0, in1, in4, in5]
  rfl

theorem tx_at (r n : Fin 1024) : tx (iblk m c 0 t) (iblk m c 1 t) (iblk m c 2 t) (iblk m c 3 t) (iblk m c 4 t) (iblk m c 5 t) (iblk m c 6 t) r n
    = MixSpec.res (args m c) (bt t) (sq t r) (rw t r) n :=
  congrArg₂ (· + ·) (in2 m c t r n _ rfl rfl rfl) (congrArg₂ (· * ·) (md_at m c t 2 n 2048 rfl) (Finset.sum_congr rfl fun k _ => congrArg₂ (· * ·) (tm_at m c t r k) (in6 m c t k n)))

theorem th_at (r k : Fin 1024) : th (iblk m c 0 t) (iblk m c 1 t) (iblk m c 2 t) (iblk m c 3 t) (iblk m c 4 t) (iblk m c 5 t) (iblk m c 6 t) (iblk m c 7 t) r k
    = MixSpec.hid (args m c) (bt t) (sq t r) (rw t r) k := by
  have e7 : iblk m c 7 t (ix2 0 k) = (args m c).g k := in7 m c t k
  have e4 : iblk m c 3 t (ix3 0 4 k) = (args m c).md (bt t) ⟨4096 + k.val, by omega⟩ := md_at m c t 4 k 4096 rfl
  have e3 : iblk m c 3 t (ix3 0 3 k) = (args m c).md (bt t) ⟨3072 + k.val, by omega⟩ := md_at m c t 3 k 3072 rfl
  unfold th MixSpec.hid
  simp only [tx_at, e7, e4, e3]

/-- The residual, row by row. -/
def X1 : S32768x1024.Idx → Elt Ideal .f32 := fun i =>
  MixSpec.res (args m c) ⟨(i 0).val / 4096, by have : (i 0).val < 32768 := (i 0).isLt; omega⟩ ⟨(i 0).val % 4096, Nat.mod_lt _ (by omega)⟩ (i 0) (i 1)

/-- The normalised and modulated residual, in pairs of rows of 256 columns. -/
def H2 : S2x65536x256.Idx → Elt Ideal .bf16 := fun i =>
  have h1 : (i 1).val < 65536 := (i 1).isLt
  MixSpec.hid (args m c) ⟨(i 1).val / 2 / 4096, by omega⟩ ⟨(i 1).val / 2 % 4096, Nat.mod_lt _ (by omega)⟩ ⟨(i 1).val / 2, by omega⟩
    ⟨(i 1).val % 2 * 512 + (i 0).val * 256 + (i 2).val, by have : (i 0).val < 2 := (i 0).isLt; have : (i 2).val < 256 := (i 2).isLt; omega⟩

theorem res_congr (A : MixSpec.Args) (b b' : Fin 8) (s s' : Fin 4096) (R : Fin 32768) (n : Fin 1024) (hb : b.val = b'.val) (hs : s.val = s'.val) :
    MixSpec.res A b s R n = MixSpec.res A b' s' R n := by
  rw [Fin.ext hb, Fin.ext hs]

theorem hid_congr (A : MixSpec.Args) (b b' : Fin 8) (s s' : Fin 4096) (R R' : Fin 32768) (k k' : Fin 1024) (hb : b.val = b'.val) (hs : s.val = s'.val) (hR : R.val = R'.val) (hk : k.val = k'.val) :
    MixSpec.hid A b s R k = MixSpec.hid A b' s' R' k' := by
  rw [Fin.ext hb, Fin.ext hs, Fin.ext hR, Fin.ext hk]

theorem arr10 : (dats m 0 c).arrAt 10 cfg0.N = X1 m c := by
  refine (dats m 0 c).arrAt_eq_of_covers 10 _ (by decide +kernel) fun t hf y => ?_
  blk_simp
  rw [after0_10]
  obtain ⟨r, n, rfl⟩ : ∃ (r n : Fin 1024), y = ix2 r n := ⟨_, _, eq_ix2 y⟩
  have e : (win0_10.blk t).view.emb (ix2 r n) = ix2 (n0 := 32768) (n1 := 1024) (rw t r) n := by unfold rw; blk_ext [idx t]
  rw [e]
  refine ((out10_at _ _ _ _ _ _ _ _ _ _ r n).trans (tx_at m c t r n)).trans ?_
  have h := lt32 t
  refine res_congr _ _ _ _ _ _ _ ?_ ?_
  · show t.val / 4 = (t.val * 1024 + r.val) / 4096
    omega
  · show t.val % 4 * 1024 + r.val = (t.val * 1024 + r.val) % 4096
    omega

theorem arr11 : (dats m 0 c).arrAt 11 cfg0.N = H2 m c := by
  refine (dats m 0 c).arrAt_eq_of_covers 11 _ (by decide +kernel) fun t hf y => ?_
  blk_simp
  rw [after0_11]
  obtain ⟨p, R, j, rfl⟩ : ∃ (p : Fin 2) (R : Fin 2048) (j : Fin 256), y = ix3 p R j := ⟨_, _, _, eq_ix3 y⟩
  have h := lt32 t
  have e : (win0_11.blk t).view.emb (ix3 p R j) = ix3 (n0 := 2) (n1 := 65536) (n2 := 256) p ⟨t.val * 2048 + R.val, by omega⟩ j := by blk_ext [idx t]
  rw [e]
  refine ((out11_at _ _ _ _ _ _ _ _ _ _ p R j).trans (th_at m c t _ _)).trans ?_
  refine hid_congr _ _ _ _ _ _ _ _ _ ?_ ?_ ?_ ?_
  · show t.val / 4 = (t.val * 2048 + R.val) / 2 / 4096
    omega
  · show t.val % 4 * 1024 + R.val / 2 = (t.val * 2048 + R.val) / 2 % 4096
    omega
  · show t.val * 1024 + R.val / 2 = (t.val * 2048 + R.val) / 2
    omega
  · show R.val % 2 * 512 + p.val * 256 + j.val = (t.val * 2048 + R.val) % 2 * 512 + p.val * 256 + j.val
    omega

end Cert.Proof.Mix
end
-- ==== Proof.MixRef.lean ====
/-
  The reference of the mixer's output, read one number at a time.
-/
module

public import proofs.«01_k».proof.Proof.Gen.Reference3Ideal.Run
public import Idealize.ShloMosaic.Lib.Pointwise
public import proofs.«01_k».proof.Proof.MixSpec

@[expose] public section

set_option maxRecDepth 16384

noncomputable section

namespace Cert.Proof.MixRef

open Cert.Reference3Ideal Cert.Reference3Ideal.Gen Cert.Reference3Ideal.Value
open Idealize.ShloMosaic Idealize.ShloMosaic.TcCoe Idealize.ShloMosaic.Tactic

variable (m : (ℓ : Loc nD τ sig) → Buf (Elt Ideal) ℓ) (c : Dev nD)

/-- The arguments, by coordinates. -/
def args : MixSpec.Args where
  og R k := m ((c.tc : Thread nD τ).loc main_arg0) (ix2 R k)
  zb R k := m ((c.tc : Thread nD τ).loc main_arg1) (ix2 R k)
  x b s k := m ((c.tc : Thread nD τ).loc main_arg2) (ix3 b s k)
  md b k := m ((c.tc : Thread nD τ).loc main_arg3) (ix2 b k)
  wg k n := m ((c.tc : Thread nD τ).loc main_arg4) (ix2 k n)
  wc k n := m ((c.tc : Thread nD τ).loc main_arg5) (ix2 k n)
  wo k n := m ((c.tc : Thread nD τ).loc main_arg6) (ix2 k n)
  g k := m ((c.tc : Thread nD τ).loc main_arg7) (ix1 k)

/-- The gated products' sum. -/
def yT : FVec Ideal S32768x1024 .f32 :=
  (addf (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extractStridedSlice S32768x1024 ![0, 1024] (extf .f32 (m ((c.tc : Thread nD τ).loc main_arg1) : FVec Ideal S32768x3072 .bf16) bitsLt_bf16_f32) slices_S32768x3072_S32768x1024_0_1024))))) (Host.dotGeneral (φ₁ := .f32) (φ₂ := .f32) dot_S32768x1024_S1024x1024_S32768x1024_1_0_0_1_n_n none (extf .f32 (m ((c.tc : Thread nD τ).loc main_arg0) : FVec Ideal S32768x1024 .bf16) bitsLt_bf16_f32) (m ((c.tc : Thread nD τ).loc main_arg4) : FVec Ideal S1024x1024 .f32))) (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extractStridedSlice S32768x1024 ![0, 2048] (extf .f32 (m ((c.tc : Thread nD τ).loc main_arg1) : FVec Ideal S32768x3072 .bf16) bitsLt_bf16_f32) slices_S32768x3072_S32768x1024_0_2048))))) (Host.dotGeneral (φ₁ := .f32) (φ₂ := .f32) dot_S32768x1024_S1024x1024_S32768x1024_1_0_0_1_n_n none (extractStridedSlice S32768x1024 ![0, 0] (extf .f32 (m ((c.tc : Thread nD τ).loc main_arg1) : FVec Ideal S32768x3072 .bf16) bitsLt_bf16_f32) slices_S32768x3072_S32768x1024_0_0) (m ((c.tc : Thread nD τ).loc main_arg5) : FVec Ideal S1024x1024 .f32))))

/-- The residual. -/
def xT : FVec Ideal S8x4096x1024 .f32 :=
  (addf (m ((c.tc : Thread nD τ).loc main_arg2)) (mulf (broadcastInDim S8x4096x1024 ![0, 1, 2] bcast_S8x1x1024_S8x4096x1024_0_1_2 (extractStridedSlice S8x1x1024 ![0, 0, 2048] (broadcastInDim S8x1x6144 ![0, 2] bcast_S8x6144_S8x1x6144_0_2 (m ((c.tc : Thread nD τ).loc main_arg3))) slices_S8x1x6144_S8x1x1024_0_0_2048)) (shapeCast _ (Host.dotGeneral (φ₁ := .f32) (φ₂ := .f32) dot_S32768x1024_S1024x1024_S32768x1024_1_0_0_1_n_n none (yT m c) (m ((c.tc : Thread nD τ).loc main_arg6) : FVec Ideal S1024x1024 .f32)) shapeCasts_S32768x1024_S8x4096x1024)))

/-- The residual, normalised and modulated. -/
def hT : FVec Ideal S8x4096x1024 .f32 :=
  (addf (mulf (mulf (mulf (xT m c) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (xT m c) (xT m c)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (m ((c.tc : Thread nD τ).loc main_arg7))))) (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 0, 4096] (broadcastInDim S8x1x6144 ![0, 2] bcast_S8x6144_S8x1x6144_0_2 (m ((c.tc : Thread nD τ).loc main_arg3))) slices_S8x1x6144_S8x1x1024_0_0_4096)))) (broadcastInDim S8x4096x1024 ![0, 1, 2] bcast_S8x1x1024_S8x4096x1024_0_1_2 (extractStridedSlice S8x1x1024 ![0, 0, 3072] (broadcastInDim S8x1x6144 ![0, 2] bcast_S8x6144_S8x1x6144_0_2 (m ((c.tc : Thread nD τ).loc main_arg3))) slices_S8x1x6144_S8x1x1024_0_0_3072)))

/-- The first result. -/
def x1T : FVec Ideal S32768x1024 .f32 := shapeCast _ (xT m c) shapeCasts_S8x4096x1024_S32768x1024

theorem h2_eq : res_main_v57 m c = shapeCast _ (transpose S2x32768x2x256 [2, 0, 1, 3] (shapeCast _ (truncf .bf16 (hT m c) bitsLt_bf16_f32) shapeCasts_S8x4096x1024_S32768x2x2x256) transposes_S32768x2x2x256_S2x32768x2x256_2_0_1_3) shapeCasts_S2x32768x2x256_S2x65536x256 := by
  unfold res_main_v57 hT xT yT
  rfl

theorem yT_at (R : Fin 32768) (k : Fin 1024) : yT m c (ix2 R k) = MixSpec.mix (args m c) R k := by
  unfold yT
  pointwise
  simp only [MixSpec.mix, args, Ideal.logistic]

theorem xT_at (b : Fin 8) (s : Fin 4096) (R : Fin 32768) (hR : R.val = 4096 * b.val + s.val) (n : Fin 1024) :
    xT m c (ix3 b s n) = MixSpec.res (args m c) b s R n := by
  unfold xT
  have e := yT_at m c
  generalize yT m c = y at e ⊢
  pointwise
  have eR : (⟨b.val * 4096 + s.val, by omega⟩ : Fin 32768) = R := Fin.ext (by show b.val * 4096 + s.val = R.val; omega)
  simp only [e, eR]
  rfl

theorem hT_at (b : Fin 8) (s : Fin 4096) (R : Fin 32768) (hR : R.val = 4096 * b.val + s.val) (k : Fin 1024) :
    hT m c (ix3 b s k) = MixSpec.hid (args m c) b s R k := by
  unfold hT
  have e := xT_at m c b s R hR
  generalize xT m c = x at e ⊢
  pointwise
  simp only [e, MixSpec.hid, args]
  exact congrArg (· + _) (mul_assoc _ _ _)

theorem x1T_at (b : Fin 8) (s : Fin 4096) (R : Fin 32768) (hR : R.val = 4096 * b.val + s.val) (n : Fin 1024) :
    x1T m c (ix2 R n) = MixSpec.res (args m c) b s R n := by
  unfold x1T
  refine (shapeCast_apply _ _ _ (ix3 b s n) ?_).trans (xT_at m c b s R hR n)
  rw [Shape.rowMajor_val_two, Shape.rowMajor_val_three]
  simp only [ix2, ix3, Matrix.cons_val]
  omega

theorem at_congr (h : S8x4096x1024.Idx → EReal) (b b' : Fin 8) (s s' : Fin 4096) (k k' : Fin 1024) (hb : b.val = b'.val) (hs : s.val = s'.val) (hk : k.val = k'.val) : h (ix3 b s k) = h (ix3 b' s' k') := by
  rw [Fin.ext hb, Fin.ext hs, Fin.ext hk]

theorem h2_at (b : Fin 8) (s : Fin 4096) (R : Fin 32768) (hR : R.val = 4096 * b.val + s.val) (p q : Fin 2) (j : Fin 256) (P : Fin 65536) (hP : P.val = 2 * R.val + q.val) (k : Fin 1024)
    (hk : k.val = q.val * 512 + p.val * 256 + j.val) : res_main_v57 m c (ix3 p P j) = MixSpec.hid (args m c) b s R k := by
  rw [h2_eq]
  refine Eq.trans ?_ (hT_at m c b s R hR k)
  generalize hT m c = h
  pointwise
  refine at_congr h _ _ _ _ _ _ ?_ ?_ ?_
  · show P.val / 2 / 4096 = b.val
    omega
  · show P.val / 2 % 4096 = s.val
    omega
  · show P.val % 2 * 512 + p.val * 256 + j.val = k.val
    omega

end Cert.Proof.MixRef
end
-- ==== Proof.MixMeet.lean ====
/-
  The mixer output's kernel and its reference meet: each of the first two results is the same array.
-/
module

public import proofs.«01_k».proof.Defs
public import proofs.«01_k».proof.Proof.Gen.Kernel3.Frame
public import proofs.«01_k».proof.Proof.MixEq
public import proofs.«01_k».proof.Proof.MixRef
public import Idealize.ShloMosaic.Lib.Bf16Pair
public import Idealize.ShloMosaic.Lib.Quiescent

@[expose] public section

set_option maxRecDepth 16384

noncomputable section

namespace Cert.Proof.MixMeet

open Idealize.ShloMosaic Idealize.ShloMosaic.TcCoe Idealize.SL.Sem

section results

variable (m : (ℓ : Loc Cert.Kernel3Ideal.nD Cert.Kernel3Ideal.τ Cert.Kernel3Ideal.sig) → Buf (Elt Ideal) ℓ) (c : Dev Cert.Kernel3Ideal.nD)
  (m' : (ℓ : Loc Cert.Reference3Ideal.nD Cert.Reference3Ideal.τ Cert.Reference3Ideal.sig) → Buf (Elt Ideal) ℓ) (c' : Dev Cert.Reference3Ideal.nD)
  (h : MixRef.args m' c' = Mix.args m c)

include h

theorem x1_meet : MixRef.x1T m' c' = Mix.X1 m c := by
  funext i
  obtain ⟨R, n, rfl⟩ : ∃ (R : Fin 32768) (n : Fin 1024), i = ix2 R n := ⟨_, _, eq_ix2 i⟩
  have hR : R.val = 4096 * (R.val / 4096) + R.val % 4096 := (Nat.div_add_mod _ _).symm
  exact (MixRef.x1T_at m' c' ⟨R.val / 4096, by omega⟩ ⟨R.val % 4096, by omega⟩ R hR n).trans (congrArg (fun A => MixSpec.res A _ _ R n) h)

theorem h2_meet : Cert.Reference3Ideal.Value.res_main_v57 m' c' = Mix.H2 m c := by
  funext i
  obtain ⟨p, P, j, rfl⟩ : ∃ (p : Fin 2) (P : Fin 65536) (j : Fin 256), i = ix3 p P j := ⟨_, _, _, eq_ix3 i⟩
  have hR : P.val / 2 = 4096 * (P.val / 2 / 4096) + P.val / 2 % 4096 := (Nat.div_add_mod _ _).symm
  exact (MixRef.h2_at m' c' ⟨P.val / 2 / 4096, by omega⟩ ⟨P.val / 2 % 4096, by omega⟩ ⟨P.val / 2, by omega⟩ hR p ⟨P.val % 2, by omega⟩ j P (Nat.div_add_mod _ _).symm
    ⟨P.val % 2 * 512 + p.val * 256 + j.val, by omega⟩ rfl).trans (congrArg (fun A => MixSpec.hid A _ _ _ _) h)

end results

theorem frame_p : Cert.quiescent_Kernel3 := fun m g _ => Cert.Kernel3.Gen.frame (F := Bits) m g

theorem frame_pi : Cert.quiescent_Kernel3Ideal := fun m g _ => Cert.Kernel3Ideal.Gen.frame (F := Ideal) m g

theorem frame_ri : Cert.quiescent_Reference3Ideal := fun m g _ =>
  (Cert.Reference3Ideal.Value.run (F := Ideal) m g).mono fun _ h => ⟨fun c => (h c).2.2, sem_eq_zero_of_no_sems rfl _⟩

theorem preserves : Cert.preserves_Kernel3_Kernel3Ideal :=
  ⟨IdealRules.bf16_pair.packStatement _, IdealRules.bf16_pair.statement _ _ (by decide)⟩

theorem algebraic : Cert.algebraic_Kernel3Ideal_Reference3Ideal := fun m g m' g' _ hagree =>
  have ha := fun c => (show MixRef.args m' c = Mix.args m c by
    obtain ⟨h0, h1, h2, h3, h4, h5, h6, h7, _⟩ := hagree c
    unfold MixRef.args Mix.args
    rw [h0, h1, h2, h3, h4, h5, h6, h7])
  ⟨Mix.X1 m, Mix.H2 m,
    (Cert.Kernel3Ideal.Value.run_blocks (F := Ideal) m g).mono fun _ h c => ⟨(h c).1.trans (Mix.arr10 m c), (h c).2.1.trans (Mix.arr11 m c), (h c).2.2.2⟩,
    (Cert.Reference3Ideal.Value.run (F := Ideal) m' g').mono fun _ h c =>
      ⟨(h c).1.trans (x1_meet m c m' c (ha c)), (h c).2.1.trans (h2_meet m c m' c (ha c)), (h c).2.2⟩⟩

end Cert.Proof.MixMeet
end
-- ==== Proof.FuseSpec.lean ====
/-
  The second layer's input projection as plain mathematics: the residual with the weighted sum of a token's two experts,
  and the input projection of it.
-/
module

public import proofs.«01_k».proof.Proof.ProjSpec

@[expose] public section

noncomputable section

namespace Cert.Proof.FuseSpec

open Idealize.ShloMosaic

/-- The arguments, by coordinates. -/
structure Args where
  x : Fin 32768 → Fin 1024 → EReal
  rt : Fin 32768 → Fin 128 → EReal
  yk : Fin 2 → Fin 65536 → Fin 256 → BitVec 32
  mp : Fin 8 → Fin 6144 → EReal
  md : Fin 8 → Fin 6144 → EReal
  g : Fin 1024 → EReal
  w : Fin 1024 → Fin 8208 → EReal
  cw : Fin 3 → Fin 1024 → EReal

/-- The number in the low half of a word. -/
def low (u : BitVec 32) : EReal := Ideal.ofBits FTy.f32 (u <<< 16)

/-- The number in the high half of a word. -/
def high (u : BitVec 32) : EReal := Ideal.ofBits FTy.f32 (u &&& 4294901760#32)

theorem low_of (a : ArithUnit) (u : BitVec 32) : Ideal.ofBits FTy.f32 (IntOp.shli a u 16#32) = low u := by
  unfold low IntOp.shli
  rw [if_pos (by decide)]
  rfl

theorem high_of (u : BitVec 32) : Ideal.ofBits FTy.f32 (IntOp.andi u 4294901760#32) = high u := rfl

/-- The number of a column of the four quarters, two of them in the low and two in the high halves of two rows of words. -/
def quarter (p q : Fin 256 → BitVec 32) (k : Fin 1024) : EReal :=
  if h : k.val < 256 then low (p ⟨k.val, h⟩)
  else if h : k.val - 256 < 256 then low (q ⟨k.val - 256, h⟩)
  else if h : k.val - 256 - 256 < 256 then high (p ⟨k.val - 256 - 256, h⟩)
  else high (q ⟨k.val - 256 - 256 - 256, by omega⟩)

variable (A : Args)

/-- The row of a place in a sequence. -/
def row (b : Fin 8) (s : Fin 4096) : Fin 32768 := ⟨b.val * 4096 + s.val, by omega⟩

/-- One number of the residual with the weighted sum. -/
def sum (b : Fin 8) (s : Fin 4096) (k : Fin 1024) : EReal :=
  A.x (row b s) k + A.mp b ⟨5120 + k.val, by omega⟩
    * (A.rt (row b s) 2 * quarter (A.yk 0 ⟨(row b s).val, by omega⟩) (A.yk 1 ⟨(row b s).val, by omega⟩) k
      + A.rt (row b s) 3 * quarter (A.yk 0 ⟨32768 + (row b s).val, by omega⟩) (A.yk 1 ⟨32768 + (row b s).val, by omega⟩) k)

/-- What the input projection reads. -/
def proj : ProjSpec.Args where
  x := sum A
  md := A.md
  g := A.g
  w := A.w
  cw := A.cw

end Cert.Proof.FuseSpec
end
-- ==== Proof.FuseIn.lean ====
/-
  What the grid points of the second layer's input projection read: the blocks of its operands, in the arguments' own places.
-/
module

public import proofs.«01_k».proof.Proof.Gen.Kernel4Ideal.Value
public import Idealize.ShloMosaic.Lib.Pipeline.ValueKit
public import Idealize.ShloMosaic.Lib.Pointwise
public import proofs.«01_k».proof.Proof.FuseSpec

@[expose] public section

noncomputable section

namespace Cert.Proof.Fuse

open Cert.Kernel4Ideal Cert.Kernel4Ideal.Gen
open Idealize.ShloMosaic Idealize.ShloMosaic.TcCoe Idealize.ShloMosaic.Tactic
open Idealize.ShloMosaic.Pipeline

variable (m : (ℓ : Loc nD τ sig) → Buf (Elt Ideal) ℓ) (c : Dev nD) (t : Fin cfg0.N)

theorem idx : ∀ t : Fin cfg0.N, win0_0.index t = ![t.val, 0] ∧ win0_1.index t = ![t.val, 0] ∧ win0_2.index t = ![0, t.val, 0] ∧ win0_3.index t = ![0, 64 + t.val, 0]
    ∧ win0_4.index t = ![t.val / 8, 0, 0] ∧ win0_5.index t = ![t.val / 8, 0, 0] ∧ win0_6.index t = ![0, 0] ∧ win0_7.index t = ![0, 0]
    ∧ win0_8.index t = ![0, 0] ∧ win0_9.index t = ![0, 0] ∧ win0_10.index t = ![0, 0] := by decide +kernel

set_option maxRecDepth 16384

theorem V_v10 : V m c main_v10 = shapeCast _ (m ((c : Thread nD τ).loc main_arg4)) shapeCasts_S8x6144_S8x6x1024 := by
  unfold V hostOps0 hostOps0_1 hostOps0_2
  simp only [List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem V_v12 : V m c main_v12 = shapeCast _ (m ((c : Thread nD τ).loc main_arg3)) shapeCasts_S8x6144_S8x6x1024 := by
  unfold V hostOps0 hostOps0_1 hostOps0_2
  simp only [List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem V_v11 : V m c main_v11 = shapeCast _ (m ((c : Thread nD τ).loc main_arg5)) shapeCasts_S1024_S1x1024 := by
  unfold V hostOps0 hostOps0_1 hostOps0_2
  simp only [List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem V_v5 : V m c main_v5 = (truncf .bf16 (extractStridedSlice S1024x5120 ![0, 3088] (m ((c : Thread nD τ).loc main_arg6) : FVec Ideal S1024x8208 .f32) slices_S1024x8208_S1024x5120_0_3088) bitsLt_bf16_f32 : FVec Ideal S1024x5120 .bf16) := by
  unfold V hostOps0 hostOps0_1 hostOps0_2
  simp only [List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem V_v3 : V m c main_v3 = (truncf .bf16 (concatenate S1024x3072 1 [⟨S1024x2048, extractStridedSlice S1024x2048 ![0, 0] (m ((c : Thread nD τ).loc main_arg6) : FVec Ideal S1024x8208 .f32) slices_S1024x8208_S1024x2048_0_0⟩, ⟨S1024x1024, extractStridedSlice S1024x1024 ![0, 2064] (m ((c : Thread nD τ).loc main_arg6) : FVec Ideal S1024x8208 .f32) slices_S1024x8208_S1024x1024_0_2064⟩] concatenates_S1024x2048_S1024x1024_S1024x3072_d1) bitsLt_bf16_f32 : FVec Ideal S1024x3072 .bf16) := by
  unfold V hostOps0 hostOps0_1 hostOps0_2
  simp only [List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

/-- The sixteen narrow columns of the weight. -/
def narrow : FVec Ideal S1024x16 .f32 := extractStridedSlice S1024x16 ![0, 2048] (m ((c : Thread nD τ).loc main_arg6) : FVec Ideal S1024x8208 .f32) slices_S1024x8208_S1024x16_0_2048

theorem V_v9 : V m c main_v9 = (truncf .bf16 (pad S1024x128 ![0, 0] ![0, 80] ![0, 0] (concatenate S1024x48 1 [⟨S1024x16, narrow m c⟩, ⟨S1024x16, narrow m c⟩, ⟨S1024x16, narrow m c⟩] concatenates_S1024x16_S1024x16_S1024x16_S1024x48_d1) (sitofp .f32 (constantI S_ 32 0#32)) pads_S1024x48_S1024x128_000_0800 h_S_) bitsLt_bf16_f32 : FVec Ideal S1024x128 .bf16) := by
  unfold V hostOps0 hostOps0_1 hostOps0_2
  simp only [List.flatten_cons, List.flatten_nil, List.append_nil, List.cons_append, List.nil_append, StableHlo.TRef.binary, StableHlo.TRef.unary, StableHlo.TRef.toBuf, StableHlo.TRef.ofBuf, cast_eq]
  after_results_simp <;> (try dsimp only [Matrix.cons_val]) <;> (try after_results_simp) <;> rfl

theorem in0 (r : Fin 512) (k : Fin 1024) (n : Fin 32768) (hn : n.val = t.val * 512 + r.val) :
    iblk m c 0 t (ix2 r k) = m ((c : Thread nD τ).loc main_arg0) (ix2 n k) := by
  blk_ext [iblk, V, idx t, hn]

theorem in1 (r : Fin 512) (k : Fin 128) (n : Fin 32768) (hn : n.val = t.val * 512 + r.val) :
    iblk m c 1 t (ix2 r k) = m ((c : Thread nD τ).loc main_arg1) (ix2 n k) := by
  blk_ext [iblk, V, idx t, hn]

theorem in2 (p : Fin 2) (r : Fin 512) (k : Fin 256) (n : Fin 65536) (hn : n.val = t.val * 512 + r.val) :
    iblk m c 2 t (ix3 p r k) = m ((c : Thread nD τ).loc main_arg2) (ix3 p n k) := by
  blk_ext [iblk, V, idx t, hn]

theorem in3 (p : Fin 2) (r : Fin 512) (k : Fin 256) (n : Fin 65536) (hn : n.val = 32768 + (t.val * 512 + r.val)) :
    iblk m c 3 t (ix3 p r k) = m ((c : Thread nD τ).loc main_arg2) (ix3 p n k) := by
  blk_ext [iblk, V, idx t, hn]

theorem in4 (r : Fin 6) (k : Fin 1024) (i : S8x6144.Idx) (h0 : (i 0).val = t.val / 8) (h1 : (i 1).val = r.val * 1024 + k.val) :
    iblk m c 4 t (ix3 0 r k) = m ((c : Thread nD τ).loc main_arg3) i := by
  have ht : t.val < 64 := lt_of_lt_of_eq t.isLt N_0
  have e : (win0_4.blk t).view.emb (ix3 0 r k) = ix3 (n0 := 8) (n1 := 6) (n2 := 1024) ⟨t.val / 8, by omega⟩ r k := by blk_ext [idx t]
  blk_simp [iblk, idx t]
  rw [V_v12, e]
  refine shapeCast_apply _ _ _ i ?_
  rw [Shape.rowMajor_val_two, Shape.rowMajor_val_three]
  show (i 0).val * 6144 + (i 1).val = (t.val / 8 * 6 + r.val) * 1024 + k.val
  omega

theorem in5 (r : Fin 6) (k : Fin 1024) (i : S8x6144.Idx) (h0 : (i 0).val = t.val / 8) (h1 : (i 1).val = r.val * 1024 + k.val) :
    iblk m c 5 t (ix3 0 r k) = m ((c : Thread nD τ).loc main_arg4) i := by
  have ht : t.val < 64 := lt_of_lt_of_eq t.isLt N_0
  have e : (win0_5.blk t).view.emb (ix3 0 r k) = ix3 (n0 := 8) (n1 := 6) (n2 := 1024) ⟨t.val / 8, by omega⟩ r k := by blk_ext [idx t]
  blk_simp [iblk, idx t]
  rw [V_v10, e]
  refine shapeCast_apply _ _ _ i ?_
  rw [Shape.rowMajor_val_two, Shape.rowMajor_val_three]
  show (i 0).val * 6144 + (i 1).val = (t.val / 8 * 6 + r.val) * 1024 + k.val
  omega

theorem in6 (k : Fin 1024) :
    iblk m c 6 t (ix2 0 k) = m ((c : Thread nD τ).loc main_arg5) (ix1 k) := by
  have e : (win0_6.blk t).view.emb (ix2 0 k) = ix2 (n0 := 1) (n1 := 1024) 0 k := by blk_ext [idx t]
  blk_simp [iblk, idx t]
  rw [V_v11, e]
  pointwise

theorem in7 (r : Fin 3) (k : Fin 1024) :
    iblk m c 7 t (ix2 r k) = m ((c : Thread nD τ).loc main_arg7) (ix2 r k) := by
  blk_ext [iblk, V, idx t]

theorem in8 (k : Fin 1024) (n : Fin 3072) (i : S1024x8208.Idx) (h0 : (i 0).val = k.val) (h1 : (i 1).val = if n.val < 2048 then n.val else n.val + 16) :
    iblk m c 8 t (ix2 k n) = m ((c : Thread nD τ).loc main_arg6) i := by
  have e : (win0_8.blk t).view.emb (ix2 k n) = ix2 (n0 := 1024) (n1 := 3072) k n := by blk_ext [idx t]
  blk_simp [iblk, idx t]
  rw [V_v3, e]
  pointwise
  split_ifs at h1 ⊢ <;> blk_ext []

theorem in9 (k : Fin 1024) (n : Fin 5120) (i : S1024x8208.Idx) (h0 : (i 0).val = k.val) (h1 : (i 1).val = 3088 + n.val) :
    iblk m c 9 t (ix2 k n) = m ((c : Thread nD τ).loc main_arg6) i := by
  have e : (win0_9.blk t).view.emb (ix2 k n) = ix2 (n0 := 1024) (n1 := 5120) k n := by blk_ext [idx t]
  blk_simp [iblk, idx t]
  rw [V_v5, e]
  pointwise
  blk_ext []

theorem in10 (k : Fin 1024) (n : Fin 128) (i : S1024x8208.Idx) (h0 : (i 0).val = k.val) (h1 : (i 1).val = 2048 + n.val % 16) :
    iblk m c 10 t (ix2 k n) = if n.val < 48 then (m ((c : Thread nD τ).loc main_arg6) i : EReal) else (0 : EReal) := by
  have e : (win0_10.blk t).view.emb (ix2 k n) = ix2 (n0 := 1024) (n1 := 128) k n := by blk_ext [idx t]
  blk_simp [iblk, idx t]
  rw [V_v9, e]
  unfold narrow
  pointwise
  split_ifs
  all_goals first
    | blk_ext []
    | exact ProjSpec.pad0
    | (exfalso; omega)
    | (exfalso; rename_i h; exact h rfl)
    | skip

end Cert.Proof.Fuse
end
-- ==== Proof.FusePay.lean ====
/-
  The sums and the modulated rows of one grid point of the second layer's input projection, one number at a time.
-/
module

public import proofs.«01_k».proof.Proof.Gen.Kernel4Ideal.Skeleton
public import Idealize.ShloMosaic.Lib.Pointwise
public import proofs.«01_k».proof.Proof.FuseSpec

@[expose] public section

noncomputable section

namespace Cert.Proof.Fuse

open Cert.Kernel4Ideal Cert.Kernel4Ideal.Gen
open Idealize.ShloMosaic Idealize.ShloMosaic.TcCoe Idealize.ShloMosaic.Tactic

section sums

variable (X : Vec Ideal S512x1024 .f32) (R : Vec Ideal S512x128 .f32) (a0 a1 b0 b1 : Vec Ideal S1x512x256 .i32) (Q M : Vec Ideal S1x6x1024 .f32) (G : Vec Ideal S1x1024 .f32)

/-- The residual of a block with the weighted sum. -/
def xB : FVec Ideal S512x1024 .f32 := k0_pay10 X (k0_pay3 Q) (k0_pay4 R) (k0_pay5 R a0 a1) (k0_pay6 (F := Ideal) b0) (k0_pay7 (F := Ideal) b1) (k0_pay8 b0) k0_pay9

theorem pay6_at (b : Vec Ideal S1x512x256 .i32) (r : Fin 512) (j : Fin 256) : k0_pay6 (F := Ideal) b (ix2 r j) = b (ix3 0 r j) := by
  unfold k0_pay6
  pointwise

theorem xB_at (r : Fin 512) (k : Fin 1024) :
    xB X R a0 a1 b0 b1 Q (ix2 r k) = (X (ix2 r k) + Q (ix3 0 5 k) * (R (ix2 r 2) * FuseSpec.quarter (fun j => a0 (ix3 0 r j)) (fun j => a1 (ix3 0 r j)) k
      + R (ix2 r 3) * FuseSpec.quarter (fun j => b0 (ix3 0 r j)) (fun j => b1 (ix3 0 r j)) k) : EReal) := by
  unfold xB k0_pay10 k0_pay3 k0_pay4 k0_pay5 k0_pay6 k0_pay7 k0_pay8 k0_pay9
  pointwise
  have e : ∀ j, k0_pay6 (F := Ideal) b0 (ix2 r j) = b0 (ix3 0 r j) := fun j => pay6_at b0 r j
  simp only [e, FuseSpec.low_of, FuseSpec.high_of]
  unfold FuseSpec.quarter
  rfl

/-- The modulated rows of a block. -/
def hB : FVec Ideal S512x1024 .bf16 := k0_pay14 (xB X R a0 a1 b0 b1 Q) (k0_pay12 M)
  (k0_pay13 X (k0_pay3 Q) (k0_pay4 R) (k0_pay5 R a0 a1) (k0_pay6 (F := Ideal) b0) (k0_pay7 (F := Ideal) b1) (k0_pay8 b0) k0_pay9) G

theorem mean_at (r : Fin 512) :
    k0_pay13 X (k0_pay3 Q) (k0_pay4 R) (k0_pay5 R a0 a1) (k0_pay6 (F := Ideal) b0) (k0_pay7 (F := Ideal) b1) (k0_pay8 b0) k0_pay9 (ix2 r 0)
      = (Ideal.div (∑ x, xB X R a0 a1 b0 b1 Q (ix2 r x) * xB X R a0 a1 b0 b1 Q (ix2 r x)) (Ideal.ofBits FTy.f32 1149239296#32) + Ideal.ofBits FTy.f32 897988541#32 : EReal) := by
  unfold k0_pay13
  rw [← xB]
  generalize xB X R a0 a1 b0 b1 Q = x
  pointwise

theorem hB_at (r : Fin 512) (k : Fin 1024) :
    hB X R a0 a1 b0 b1 Q M G (ix2 r k) = (xB X R a0 a1 b0 b1 Q (ix2 r k) * Ideal.rsqrt (Ideal.div (∑ x, xB X R a0 a1 b0 b1 Q (ix2 r x) * xB X R a0 a1 b0 b1 Q (ix2 r x)) (Ideal.ofBits FTy.f32 1149239296#32) + Ideal.ofBits FTy.f32 897988541#32)
      * (G (ix2 0 k) * (1 + M (ix3 0 1 k))) + M (ix3 0 0 k) : EReal) := by
  unfold hB
  have e := mean_at X R a0 a1 b0 b1 Q r
  generalize k0_pay13 X (k0_pay3 Q) (k0_pay4 R) (k0_pay5 R a0 a1) (k0_pay6 (F := Ideal) b0) (k0_pay7 (F := Ideal) b1) (k0_pay8 b0) k0_pay9 = w at e ⊢
  generalize xB X R a0 a1 b0 b1 Q = x at e ⊢
  unfold k0_pay14 k0_pay12
  pointwise
  rw [e]

end sums

section products

variable (x : FVec Ideal S512x1024 .f32) (v70 : FVec Ideal S6x1024 .f32) (v72 : FVec Ideal S512x1 .f32) (G : Vec Ideal S1x1024 .f32) (q : FVec Ideal S512x1024 .bf16) (r : Fin 512)

theorem pay15_at (W : Vec Ideal S1024x1024 .bf16) (k : Fin 1024) : k0_pay15 x v70 v72 G W (ix2 r k) = (∑ i, k0_pay14 x v70 v72 G (ix2 r i) * W (ix2 i k) : EReal) := by
  unfold k0_pay15; pointwise

theorem pay16_at (W : Vec Ideal S1024x1024 .bf16) (k : Fin 1024) : k0_pay16 x v70 v72 G W (ix2 r k) = (∑ i, k0_pay14 x v70 v72 G (ix2 r i) * W (ix2 i k) : EReal) := by
  unfold k0_pay16; pointwise

theorem pay17_at (W : Vec Ideal S1024x1024 .bf16) (k : Fin 1024) : k0_pay17 x v70 v72 G W (ix2 r k) = (∑ i, k0_pay14 x v70 v72 G (ix2 r i) * W (ix2 i k) : EReal) := by
  unfold k0_pay17; pointwise

theorem pay18_at (W : Vec Ideal S1024x128 .bf16) (k : Fin 128) : k0_pay18 x v70 v72 G W (ix2 r k) = (∑ i, k0_pay14 x v70 v72 G (ix2 r i) * W (ix2 i k) : EReal) := by
  unfold k0_pay18; pointwise

theorem pay19_at (W : Vec Ideal S1024x1024 .bf16) (k : Fin 1024) : k0_pay19 q W (ix2 r k) = (∑ i, q (ix2 r i) * W (ix2 i k) : EReal) := by
  unfold k0_pay19; pointwise

theorem pay20_at (W : Vec Ideal S1024x1024 .bf16) (k : Fin 1024) : k0_pay20 q W (ix2 r k) = (∑ i, q (ix2 r i) * W (ix2 i k) : EReal) := by
  unfold k0_pay20; pointwise

end products

/-- Two rows earlier: the first two rows come from what is kept. -/
def bk2 (kk : Fin 8 → EReal) (u : Fin 512 → EReal) (r : Fin 512) : EReal := if h : r.val < 2 then kk ⟨6 + r.val, by omega⟩ else u ⟨r.val - 2, by omega⟩

/-- One row earlier. -/
def bk1 (kk : Fin 8 → EReal) (u : Fin 512 → EReal) (r : Fin 512) : EReal := if h : r.val < 1 then kk 7 else u ⟨r.val - 1, by omega⟩

theorem cmp_eq (r : Fin 512) (d : ℕ) (hd : d < 512) : IntOp.cmpi .eq (BitVec.ofNat 32 r.val) (BitVec.ofNat 32 d) = if r.val = d then 1#1 else 0#1 := by
  have e : (BitVec.ofNat 32 r.val = BitVec.ofNat 32 d) ↔ r.val = d := by
    rw [← BitVec.toNat_inj, BitVec.toNat_ofNat, BitVec.toNat_ofNat, Nat.mod_eq_of_lt (by omega), Nat.mod_eq_of_lt (by omega)]
  by_cases h : r.val = d
  · rw [if_pos h]; simp [IntOp.cmpi, e.mpr h]
  · rw [if_neg h]
    show BitVec.ofBool (BitVec.ofNat 32 r.val == BitVec.ofNat 32 d) = 0#1
    rw [beq_false_of_ne (mt e.mp h)]
    rfl

theorem sel2 (r : Fin 512) (kk : Fin 8 → EReal) (u : Fin 512 → EReal) (h) :
    Scalar.select (IntOp.cmpi .eq (BitVec.ofNat 32 r.val) 0#32) (kk 6) (Scalar.select (IntOp.cmpi .eq (BitVec.ofNat 32 r.val) 1#32) (kk 7) (u ⟨(r.val + 512 - 2) % 512, h⟩)) = bk2 kk u r := by
  rw [cmp_eq r 0 (by omega), cmp_eq r 1 (by omega)]
  unfold bk2
  by_cases h0 : r.val = 0
  · rw [if_pos h0, dif_pos (by omega)]
    have e : (⟨6 + r.val, by omega⟩ : Fin 8) = 6 := Fin.ext (by show 6 + r.val = 6; omega)
    rw [e]; rfl
  · by_cases h1 : r.val = 1
    · rw [if_neg h0, if_pos h1, dif_pos (by omega)]
      have e : (⟨6 + r.val, by omega⟩ : Fin 8) = 7 := Fin.ext (by show 6 + r.val = 7; omega)
      rw [e]; rfl
    · rw [if_neg h0, if_neg h1, dif_neg (by omega)]
      have e : (⟨(r.val + 512 - 2) % 512, h⟩ : Fin 512) = ⟨r.val - 2, by omega⟩ := Fin.ext (by show (r.val + 512 - 2) % 512 = r.val - 2; omega)
      rw [e]; rfl

theorem sel1 (r : Fin 512) (kk : Fin 8 → EReal) (u : Fin 512 → EReal) (h) :
    Scalar.select (IntOp.cmpi .eq (BitVec.ofNat 32 r.val) 0#32) (kk 7) (u ⟨(r.val + 512 - 1) % 512, h⟩) = bk1 kk u r := by
  rw [cmp_eq r 0 (by omega)]
  unfold bk1
  by_cases h0 : r.val = 0
  · rw [if_pos h0, dif_pos (by omega)]; rfl
  · rw [if_neg h0, dif_neg (by omega)]
    have e : (⟨(r.val + 512 - 1) % 512, h⟩ : Fin 512) = ⟨r.val - 1, by omega⟩ := Fin.ext (by show (r.val + 512 - 1) % 512 = r.val - 1; omega)
    rw [e]; rfl

section groups

variable (h : FVec Ideal S512x1024 .bf16) (wb wc wh : Vec Ideal S1024x256 .bf16) (k : Vec Ideal S8x256 .f32) (c0 c1 c2 : Vec Ideal S1x256 .f32)

/-- The product of the two projections that the convolution runs over. -/
def gu (j : Fin 256) (r : Fin 512) : EReal := (∑ x, h (ix2 r x) * wc (ix2 x j)) * (∑ x, h (ix2 r x) * wh (ix2 x j))

/-- One number of a group of 256 columns. -/
def gv (r : Fin 512) (j : Fin 256) : EReal :=
  (∑ x, h (ix2 r x) * wb (ix2 x j)) * (c0 (ix2 0 j) * bk2 (fun i => k (ix2 i j)) (gu h wc wh j) r + c1 (ix2 0 j) * bk1 (fun i => k (ix2 i j)) (gu h wc wh j) r + c2 (ix2 0 j) * gu h wc wh j r)

theorem pay27_at (r : Fin 512) (j : Fin 256) :
    k0_pay27 (iota Kind.tc S512x256 32 [0] iota_S512x256_d0_w32) (k0_pay21 h wb) (k0_pay22 h wc wh) k (k0_pay23 h wc wh k) k0_pay24 (k0_pay25 k) 1#32 c0 c1 c2 (ix2 r j) = gv h wb wc wh k c0 c1 c2 r j := by
  unfold k0_pay27 k0_pay21 k0_pay23 k0_pay24 k0_pay25 k0_pay22
  pointwise
  exact congrArg₂ (· * ·) rfl (congrArg₂ (· + ·) (congrArg₂ (· + ·) (congrArg₂ (· * ·) rfl (sel2 r (fun i => k (ix2 i j)) (gu h wc wh j) _)) (congrArg₂ (· * ·) rfl (sel1 r (fun i => k (ix2 i j)) (gu h wc wh j) _))) rfl)

theorem pay31_at (r : Fin 512) (j : Fin 256) :
    k0_pay31 (iota Kind.tc S512x256 32 [0] iota_S512x256_d0_w32) (k0_pay28 h wb) (k0_pay29 h wc wh) k c0 c1 c2 (ix2 r j) = gv h wb wc wh k c0 c1 c2 r j := by
  unfold k0_pay31 k0_pay28 k0_pay29
  pointwise
  exact congrArg₂ (· * ·) rfl (congrArg₂ (· + ·) (congrArg₂ (· + ·) (congrArg₂ (· * ·) rfl (sel2 r (fun i => k (ix2 i j)) (gu h wc wh j) _)) (congrArg₂ (· * ·) rfl (sel1 r (fun i => k (ix2 i j)) (gu h wc wh j) _))) rfl)

theorem pay37_at (r : Fin 512) (j : Fin 256) :
    k0_pay37 (k0_pay32 h wb) (k0_pay33 h wc wh) (k0_pay34 h (iota Kind.tc S512x256 32 [0] iota_S512x256_d0_w32) wc wh k) (k0_pay36 h (iota Kind.tc S512x256 32 [0] iota_S512x256_d0_w32) wc wh k c0) c1 c2 (ix2 r j) = gv h wb wc wh k c0 c1 c2 r j := by
  unfold k0_pay37 k0_pay32 k0_pay34 k0_pay36 k0_pay33
  pointwise
  exact congrArg₂ (· * ·) rfl (congrArg₂ (· + ·) (congrArg₂ (· + ·) (congrArg₂ (· * ·) rfl (sel2 r (fun i => k (ix2 i j)) (gu h wc wh j) _)) (congrArg₂ (· * ·) rfl (sel1 r (fun i => k (ix2 i j)) (gu h wc wh j) _))) rfl)

theorem pay2_at (r : Fin 512) (j : Fin 256) :
    k0_pay2 (k0_pay38 h wb) (k0_pay39 h wc wh) (k0_pay40 h (iota Kind.tc S512x256 32 [0] iota_S512x256_d0_w32) wc wh k) (k0_pay41 (iota Kind.tc S512x256 32 [0] iota_S512x256_d0_w32)) (k0_pay42 h (iota Kind.tc S512x256 32 [0] iota_S512x256_d0_w32) wc wh k) (k0_pay43 k) c0 c1 c2 (ix2 r j) = gv h wb wc wh k c0 c1 c2 r j := by
  unfold k0_pay2 k0_pay38 k0_pay40 k0_pay41 k0_pay42 k0_pay43 k0_pay39
  pointwise
  exact congrArg₂ (· * ·) rfl (congrArg₂ (· + ·) (congrArg₂ (· + ·) (congrArg₂ (· * ·) rfl (sel2 r (fun i => k (ix2 i j)) (gu h wc wh j) _)) (congrArg₂ (· * ·) rfl (sel1 r (fun i => k (ix2 i j)) (gu h wc wh j) _))) rfl)

theorem pay26_at (r : Fin 8) (j : Fin 256) : k0_pay26 (k0_pay22 h wc wh) (ix2 r j) = gu h wc wh j ⟨504 + r.val, by omega⟩ := by
  unfold k0_pay26 k0_pay22
  pointwise
  rfl

theorem pay30_at (r : Fin 8) (j : Fin 256) : k0_pay30 (k0_pay29 h wc wh) (ix2 r j) = gu h wc wh j ⟨504 + r.val, by omega⟩ := by
  unfold k0_pay30 k0_pay29
  pointwise
  rfl

theorem pay35_at (r : Fin 8) (j : Fin 256) : k0_pay35 h wc wh (ix2 r j) = gu h wc wh j ⟨504 + r.val, by omega⟩ := by
  unfold k0_pay35 k0_pay33
  pointwise
  rfl

theorem pay1_at (r : Fin 8) (j : Fin 256) : k0_pay1 (k0_pay39 h wc wh) (ix2 r j) = gu h wc wh j ⟨504 + r.val, by omega⟩ := by
  unfold k0_pay1 k0_pay39
  pointwise
  rfl

end groups

end Cert.Proof.Fuse
end
-- ==== Proof.FuseTile.lean ====
/-
  What one grid point of the second layer's input projection leaves in its four results and in the kept rows.
-/
module

public import proofs.«01_k».proof.Proof.Gen.Kernel4Ideal.Value
public import Idealize.ShloMosaic.Lib.Pipeline.ValueKit
public import Idealize.ShloMosaic.Lib.Pipeline.ReadBack
public import proofs.«01_k».proof.Proof.FusePay

@[expose] public section

noncomputable section

namespace Cert.Proof.Fuse

open Cert.Kernel4Ideal Cert.Kernel4Ideal.Gen
open Idealize.ShloMosaic Idealize.ShloMosaic.TcCoe Idealize.ShloMosaic.Tactic
open Idealize.ShloMosaic.Pipeline

section block

variable (h : FVec Ideal S512x1024 .bf16) (W : S1024x5120.Idx → Elt Ideal .bf16) (C : S3x1024.Idx → Elt Ideal .f32) (K : S8x1024.Idx → Elt Ideal .f32)

/-- One number of the block's product with a column of the second weight. -/
def tp (n : Fin 5120) (r : Fin 512) : EReal := ∑ x, h (ix2 r x) * W (ix2 x n)

/-- What the convolution runs over. -/
def tu (j : Fin 1024) (r : Fin 512) : EReal := tp h W ⟨1024 + j.val, by omega⟩ r * tp h W ⟨2048 + j.val, by omega⟩ r

/-- One number of the convolved columns. -/
def tg (r : Fin 512) (j : Fin 1024) : EReal :=
  tp h W ⟨j.val, by omega⟩ r * (C (ix2 0 j) * bk2 (fun i => K (ix2 i j)) (tu h W j) r + C (ix2 1 j) * bk1 (fun i => K (ix2 i j)) (tu h W j) r + C (ix2 2 j) * tu h W j r)

/-- One number of the second result. -/
def tz (r : Fin 512) (n : Fin 3072) : EReal := if hn : n.val < 1024 then tg h W C K r ⟨n.val, hn⟩ else tp h W ⟨2048 + n.val, by omega⟩ r

theorem gu_cols (o oc oh : ℕ) (ho : o + 256 ≤ 1024) (hc : oc = 1024 + o) (hh : oh = 2048 + o) (i1 i2) (j : Fin 256) (r : Fin 512) :
    gu h (View.ld W (Rect.unit (s := S1024x5120) ![0, oc] ![1024, 256] i1)) (View.ld W (Rect.unit (s := S1024x5120) ![0, oh] ![1024, 256] i2)) j r = tu h W ⟨o + j.val, by omega⟩ r := by
  subst hc hh
  refine congrArg₂ (· * ·) (Finset.sum_congr rfl fun x _ => congrArg (h (ix2 r x) * ·) ?_) (Finset.sum_congr rfl fun x _ => congrArg (h (ix2 r x) * ·) ?_)
  · exact View.ld_unit_apply_of W _ _ _ _ _ (Fin.forall_fin_two.2 ⟨(Nat.zero_add _).symm, (Nat.add_assoc _ _ _).symm⟩)
  · exact View.ld_unit_apply_of W _ _ _ _ _ (Fin.forall_fin_two.2 ⟨(Nat.zero_add _).symm, (Nat.add_assoc _ _ _).symm⟩)

theorem gv_cols (o oc oh : ℕ) (ho : o + 256 ≤ 1024) (hc : oc = 1024 + o) (hh : oh = 2048 + o) (i1 i2 i3 i4 i5 i6 i7) (j : Fin 256) (r : Fin 512) :
    gv h (View.ld W (Rect.unit (s := S1024x5120) ![0, o] ![1024, 256] i1)) (View.ld W (Rect.unit (s := S1024x5120) ![0, oc] ![1024, 256] i2)) (View.ld W (Rect.unit (s := S1024x5120) ![0, oh] ![1024, 256] i3))
      (View.ld K (Rect.unit (s := S8x1024) ![0, o] ![8, 256] i4)) (View.ld C (Rect.unit (s := S3x1024) ![0, o] ![1, 256] i5)) (View.ld C (Rect.unit (s := S3x1024) ![1, o] ![1, 256] i6))
      (View.ld C (Rect.unit (s := S3x1024) ![2, o] ![1, 256] i7)) r j = tg h W C K r ⟨o + j.val, by omega⟩ := by
  have eu : gu h (View.ld W (Rect.unit (s := S1024x5120) ![0, oc] ![1024, 256] i2)) (View.ld W (Rect.unit (s := S1024x5120) ![0, oh] ![1024, 256] i3)) j = tu h W ⟨o + j.val, by omega⟩ :=
    funext fun r => gu_cols h W o oc oh ho hc hh i2 i3 j r
  have ek : (fun i : Fin 8 => View.ld K (Rect.unit (s := S8x1024) ![0, o] ![8, 256] i4) (ix2 i j)) = fun i => K (ix2 i ⟨o + j.val, by omega⟩) :=
    funext fun i => View.ld_unit_apply_of K _ _ _ _ _ (Fin.forall_fin_two.2 ⟨(Nat.zero_add _).symm, rfl⟩)
  have e0 : View.ld C (Rect.unit (s := S3x1024) ![0, o] ![1, 256] i5) (ix2 0 j) = C (ix2 0 ⟨o + j.val, by omega⟩) :=
    View.ld_unit_apply_of C _ _ _ _ _ (Fin.forall_fin_two.2 ⟨rfl, rfl⟩)
  have e1 : View.ld C (Rect.unit (s := S3x1024) ![1, o] ![1, 256] i6) (ix2 0 j) = C (ix2 1 ⟨o + j.val, by omega⟩) :=
    View.ld_unit_apply_of C _ _ _ _ _ (Fin.forall_fin_two.2 ⟨rfl, rfl⟩)
  have e2 : View.ld C (Rect.unit (s := S3x1024) ![2, o] ![1, 256] i7) (ix2 0 j) = C (ix2 2 ⟨o + j.val, by omega⟩) :=
    View.ld_unit_apply_of C _ _ _ _ _ (Fin.forall_fin_two.2 ⟨rfl, rfl⟩)
  unfold gv tg
  rw [eu, ek, e0, e1, e2]
  refine congrArg (· * _) (Finset.sum_congr rfl fun x _ => congrArg (h (ix2 r x) * ·) ?_)
  exact View.ld_unit_apply_of W _ _ _ _ _ (Fin.forall_fin_two.2 ⟨(Nat.zero_add _).symm, rfl⟩)

theorem cr_close (o oc oh : ℕ) (ho : o + 256 ≤ 1024) (hc : oc = 1024 + o) (hh : oh = 2048 + o) (i1 i2) (r r' : Fin 8) (j : Fin 256) (n : Fin 1024) (e0 : r.val = r'.val) (e1 : n.val = o + j.val) :
    gu h (View.ld W (Rect.unit (s := S1024x5120) ![0, oc] ![1024, 256] i1)) (View.ld W (Rect.unit (s := S1024x5120) ![0, oh] ![1024, 256] i2)) j ⟨504 + r'.val, by omega⟩
      = tu h W n ⟨504 + r.val, by omega⟩ := by
  obtain rfl : r = r' := Fin.ext e0
  obtain ⟨n, hn⟩ := n
  obtain rfl : n = o + j.val := e1
  exact gu_cols h W o oc oh ho hc hh i1 i2 j _

theorem zb_close (o oc oh : ℕ) (ho : o + 256 ≤ 1024) (hc : oc = 1024 + o) (hh : oh = 2048 + o) (i1 i2 i3 i4 i5 i6 i7) (r r' : Fin 512) (j : Fin 256) (n : Fin 3072) (e0 : r.val = r'.val) (e1 : n.val = o + j.val) :
    gv h (View.ld W (Rect.unit (s := S1024x5120) ![0, o] ![1024, 256] i1)) (View.ld W (Rect.unit (s := S1024x5120) ![0, oc] ![1024, 256] i2)) (View.ld W (Rect.unit (s := S1024x5120) ![0, oh] ![1024, 256] i3))
      (View.ld K (Rect.unit (s := S8x1024) ![0, o] ![8, 256] i4)) (View.ld C (Rect.unit (s := S3x1024) ![0, o] ![1, 256] i5)) (View.ld C (Rect.unit (s := S3x1024) ![1, o] ![1, 256] i6))
      (View.ld C (Rect.unit (s := S3x1024) ![2, o] ![1, 256] i7)) r' j = tz h W C K r n := by
  obtain rfl : r = r' := Fin.ext e0
  obtain ⟨n, hn⟩ := n
  obtain rfl : n = o + j.val := e1
  unfold tz
  rw [dif_pos (show o + j.val < 1024 by omega)]
  exact gv_cols h W C K o oc oh ho hc hh i1 i2 i3 i4 i5 i6 i7 j r

theorem zb_close2 (o : ℕ) (ho : 1024 ≤ o) (ho' : o + 1024 ≤ 3072) (oo : ℕ) (hoo : oo = 2048 + o) (i1) (r r' : Fin 512) (j : Fin 1024) (n : Fin 3072) (e0 : r.val = r'.val) (e1 : n.val = o + j.val) :
    (∑ x, h (ix2 r' x) * View.ld W (Rect.unit (s := S1024x5120) ![0, oo] ![1024, 1024] i1) (ix2 x j) : EReal) = tz h W C K r n := by
  obtain rfl : r = r' := Fin.ext e0
  obtain ⟨n, hn⟩ := n
  obtain rfl : n = o + j.val := e1
  subst hoo
  unfold tz
  rw [dif_neg (show ¬ o + j.val < 1024 by omega)]
  refine Finset.sum_congr rfl fun x _ => congrArg (h (ix2 r x) * ·) ?_
  exact View.ld_unit_apply_of W _ _ _ _ _ (Fin.forall_fin_two.2 ⟨(Nat.zero_add _).symm, (Nat.add_assoc _ _ _).symm⟩)

theorem za_close (A : S1024x3072.Idx → Elt Ideal .bf16) (o : ℕ) (ho' : o + 1024 ≤ 3072) (i1) (r r' : Fin 512) (j : Fin 1024) (n : Fin 3072) (e0 : r.val = r'.val) (e1 : n.val = o + j.val) :
    (∑ x, h (ix2 r' x) * View.ld A (Rect.unit (s := S1024x3072) ![0, o] ![1024, 1024] i1) (ix2 x j) : EReal) = ∑ x, h (ix2 r x) * A (ix2 x n) := by
  obtain rfl : r = r' := Fin.ext e0
  obtain ⟨n, hn⟩ := n
  obtain rfl : n = o + j.val := e1
  refine Finset.sum_congr rfl fun x _ => congrArg (h (ix2 r x) * ·) ?_
  exact View.ld_unit_apply_of A _ _ _ _ _ (Fin.forall_fin_two.2 ⟨(Nat.zero_add _).symm, rfl⟩)

end block

variable (m : (ℓ : Loc nD τ sig) → Buf (Elt Ideal) ℓ) (c : Dev nD) (t : Fin cfg0.N)

/-- The lower piece of the first experts' packed rows of a grid point. -/
def ya0 : Vec Ideal S1x512x256 .i32 := View.ld (iblk m c 2 t) (Rect.unit (s := S2x512x256) ![0, 0, 0] ![1, 512, 256] inb_S2x512x256_S1x512x256_0_0_0)

theorem ya0_at (r : Fin 512) (j : Fin 256) : ya0 m c t (ix3 0 r j) = iblk m c 2 t (ix3 0 r j) := by
  refine View.ld_unit_apply_of (S := S2x512x256) (iblk m c 2 t) _ _ _ _ _ fun a => ?_
  fin_cases a
  · rfl
  · exact (Nat.zero_add _).symm
  · exact (Nat.zero_add _).symm

/-- The upper piece of the first experts' packed rows of a grid point. -/
def ya1 : Vec Ideal S1x512x256 .i32 := View.ld (iblk m c 2 t) (Rect.unit (s := S2x512x256) ![1, 0, 0] ![1, 512, 256] inb_S2x512x256_S1x512x256_1_0_0)

theorem ya1_at (r : Fin 512) (j : Fin 256) : ya1 m c t (ix3 0 r j) = iblk m c 2 t (ix3 1 r j) := by
  refine View.ld_unit_apply_of (S := S2x512x256) (iblk m c 2 t) _ _ _ _ _ fun a => ?_
  fin_cases a
  · rfl
  · exact (Nat.zero_add _).symm
  · exact (Nat.zero_add _).symm

/-- The lower piece of the second experts' packed rows of a grid point. -/
def yb0 : Vec Ideal S1x512x256 .i32 := View.ld (iblk m c 3 t) (Rect.unit (s := S2x512x256) ![0, 0, 0] ![1, 512, 256] inb_S2x512x256_S1x512x256_0_0_0)

theorem yb0_at (r : Fin 512) (j : Fin 256) : yb0 m c t (ix3 0 r j) = iblk m c 3 t (ix3 0 r j) := by
  refine View.ld_unit_apply_of (S := S2x512x256) (iblk m c 3 t) _ _ _ _ _ fun a => ?_
  fin_cases a
  · rfl
  · exact (Nat.zero_add _).symm
  · exact (Nat.zero_add _).symm

/-- The upper piece of the second experts' packed rows of a grid point. -/
def yb1 : Vec Ideal S1x512x256 .i32 := View.ld (iblk m c 3 t) (Rect.unit (s := S2x512x256) ![1, 0, 0] ![1, 512, 256] inb_S2x512x256_S1x512x256_1_0_0)

theorem yb1_at (r : Fin 512) (j : Fin 256) : yb1 m c t (ix3 0 r j) = iblk m c 3 t (ix3 1 r j) := by
  refine View.ld_unit_apply_of (S := S2x512x256) (iblk m c 3 t) _ _ _ _ _ fun a => ?_
  fin_cases a
  · rfl
  · exact (Nat.zero_add _).symm
  · exact (Nat.zero_add _).symm

/-- The sums of a grid point. -/
def xx : FVec Ideal S512x1024 .f32 := xB (iblk m c 0 t) (iblk m c 1 t) (ya0 m c t) (ya1 m c t) (yb0 m c t) (yb1 m c t) (iblk m c 4 t)

/-- The means of the squares of a grid point's sums. -/
def vv : FVec Ideal S512x1 .f32 := k0_pay13 (iblk m c 0 t) (k0_pay3 (iblk m c 4 t)) (k0_pay4 (iblk m c 1 t)) (k0_pay5 (iblk m c 1 t) (ya0 m c t) (ya1 m c t)) (k0_pay6 (F := Ideal) (yb0 m c t)) (k0_pay7 (F := Ideal) (yb1 m c t)) (k0_pay8 (yb0 m c t)) k0_pay9

/-- The modulated rows of a grid point. -/
def hh : FVec Ideal S512x1024 .bf16 := k0_pay14 (xx m c t) (k0_pay12 (iblk m c 5 t)) (vv m c t) (iblk m c 6 t)

theorem hh_eq : hh m c t = hB (iblk m c 0 t) (iblk m c 1 t) (ya0 m c t) (ya1 m c t) (yb0 m c t) (yb1 m c t) (iblk m c 4 t) (iblk m c 5 t) (iblk m c 6 t) := rfl

theorem cr_B (h0 : ¬ t.val % 8 = 0) (r : Fin 8) (n : Fin 1024) :
    (outsAt0 m c t.val t.isLt).2.2.2.2 (ix2 r n) = tu (hh m c t) (iblk m c 9 t) n ⟨504 + r.val, by omega⟩ := by
  rw [outsAt0_B m c t h0]
  dsimp only
  frame_out
  canon_tiles x e
  · obtain ⟨r', j, rfl⟩ : ∃ r' j, x = ix2 r' j := ⟨_, _, eq_ix2 x⟩
    exact (pay1_at _ _ _ r' j).trans (cr_close (hh m c t) (iblk m c 9 t) 768 1792 2816 (by omega) rfl rfl _ _ r r' j n e0 e1)
  · obtain ⟨r', j, rfl⟩ : ∃ r' j, x = ix2 r' j := ⟨_, _, eq_ix2 x⟩
    exact (pay35_at _ _ _ r' j).trans (cr_close (hh m c t) (iblk m c 9 t) 512 1536 2560 (by omega) rfl rfl _ _ r r' j n e0 e1)
  · obtain ⟨r', j, rfl⟩ : ∃ r' j, x = ix2 r' j := ⟨_, _, eq_ix2 x⟩
    exact (pay30_at _ _ _ r' j).trans (cr_close (hh m c t) (iblk m c 9 t) 256 1280 2304 (by omega) rfl rfl _ _ r r' j n e0 e1)
  · obtain ⟨r', j, rfl⟩ : ∃ r' j, x = ix2 r' j := ⟨_, _, eq_ix2 x⟩
    exact (pay26_at _ _ _ r' j).trans (cr_close (hh m c t) (iblk m c 9 t) 0 1024 2048 (by omega) rfl rfl _ _ r r' j n e0 (e1.trans (Nat.zero_add _).symm))

theorem zb_B (h0 : ¬ t.val % 8 = 0) (r : Fin 512) (n : Fin 3072) :
    (outsAt0 m c t.val t.isLt).2.2.1 (ix2 r n) = tz (hh m c t) (iblk m c 9 t) (iblk m c 7 t) (outsAt0 m c (t.val - 1) (lt_of_le_of_lt (Nat.sub_le _ _) t.isLt)).2.2.2.2 r n := by
  rw [outsAt0_B m c t h0]
  dsimp only
  frame_out
  simp only [read_unread_whole]
  refine View.canon_eq_of_allAt _ _ _ (View.cover_of_tiledBy _ ![512, 256] (by sl_kernel_rfl) _) (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _)))))))
  · tile_intro x e
    obtain ⟨r', j, rfl⟩ : ∃ r' j, x = ix2 r' j := ⟨_, _, eq_ix2 x⟩
    exact (pay2_at _ _ _ _ _ _ _ _ r' j).trans (zb_close (hh m c t) (iblk m c 9 t) (iblk m c 7 t) _ 768 1792 2816 (by omega) rfl rfl _ _ _ _ _ _ _ r r' j n e0 e1)
  · tile_intro x e
    obtain ⟨r', j, rfl⟩ : ∃ r' j, x = ix2 r' j := ⟨_, _, eq_ix2 x⟩
    exact (pay37_at _ _ _ _ _ _ _ _ r' j).trans (zb_close (hh m c t) (iblk m c 9 t) (iblk m c 7 t) _ 512 1536 2560 (by omega) rfl rfl _ _ _ _ _ _ _ r r' j n e0 e1)
  · tile_intro x e
    obtain ⟨r', j, rfl⟩ : ∃ r' j, x = ix2 r' j := ⟨_, _, eq_ix2 x⟩
    exact (pay31_at _ _ _ _ _ _ _ _ r' j).trans (zb_close (hh m c t) (iblk m c 9 t) (iblk m c 7 t) _ 256 1280 2304 (by omega) rfl rfl _ _ _ _ _ _ _ r r' j n e0 e1)
  · tile_intro x e
    obtain ⟨r', j, rfl⟩ : ∃ r' j, x = ix2 r' j := ⟨_, _, eq_ix2 x⟩
    exact (pay27_at _ _ _ _ _ _ _ _ r' j).trans (zb_close (hh m c t) (iblk m c 9 t) (iblk m c 7 t) _ 0 1024 2048 (by omega) rfl rfl _ _ _ _ _ _ _ r r' j n e0 (e1.trans (Nat.zero_add _).symm))
  · tile_intro x e
    obtain ⟨r', j, rfl⟩ : ∃ r' j, x = ix2 r' j := ⟨_, _, eq_ix2 x⟩
    exact (pay20_at _ r' _ j).trans (zb_close2 (hh m c t) (iblk m c 9 t) (iblk m c 7 t) _ 2048 (by omega) (by omega) 4096 rfl _ r r' j n e0 e1)
  · tile_intro x e
    obtain ⟨r', j, rfl⟩ : ∃ r' j, x = ix2 r' j := ⟨_, _, eq_ix2 x⟩
    exact (pay19_at _ r' _ j).trans (zb_close2 (hh m c t) (iblk m c 9 t) (iblk m c 7 t) _ 1024 (by omega) (by omega) 3072 rfl _ r r' j n e0 e1)

theorem za_B (h0 : ¬ t.val % 8 = 0) (r : Fin 512) (n : Fin 3072) :
    (outsAt0 m c t.val t.isLt).2.1 (ix2 r n) = (∑ x, hh m c t (ix2 r x) * iblk m c 8 t (ix2 x n) : EReal) := by
  rw [outsAt0_B m c t h0]
  dsimp only
  frame_out
  canon_tiles x e
  · obtain ⟨r', j, rfl⟩ : ∃ r' j, x = ix2 r' j := ⟨_, _, eq_ix2 x⟩
    exact (pay17_at _ _ _ _ r' _ j).trans (za_close (hh m c t) (iblk m c 8 t) 2048 (by omega) _ r r' j n e0 e1)
  · obtain ⟨r', j, rfl⟩ : ∃ r' j, x = ix2 r' j := ⟨_, _, eq_ix2 x⟩
    exact (pay16_at _ _ _ _ r' _ j).trans (za_close (hh m c t) (iblk m c 8 t) 1024 (by omega) _ r r' j n e0 e1)
  · obtain ⟨r', j, rfl⟩ : ∃ r' j, x = ix2 r' j := ⟨_, _, eq_ix2 x⟩
    exact (pay15_at _ _ _ _ r' _ j).trans (za_close (hh m c t) (iblk m c 8 t) 0 (by omega) _ r r' j n e0 (e1.trans (Nat.zero_add _).symm))

theorem zg_B (h0 : ¬ t.val % 8 = 0) (r : Fin 512) (n : Fin 128) :
    (outsAt0 m c t.val t.isLt).2.2.2.1 (ix2 r n) = (∑ x, hh m c t (ix2 r x) * iblk m c 10 t (ix2 x n) : EReal) := by
  rw [outsAt0_B m c t h0]
  dsimp only
  frame_out
  exact pay18_at _ _ _ _ r _ n

theorem zb_A (h0 : t.val % 8 = 0) (r : Fin 512) (n : Fin 3072) :
    (outsAt0 m c t.val t.isLt).2.2.1 (ix2 r n) = tz (hh m c t) (iblk m c 9 t) (iblk m c 7 t) (k0_pay11 (F := Ideal)) r n := by
  rw [outsAt0_A m c t h0]
  dsimp only
  frame_open
  simp (disch := decide) only [↓ View.readCov_skip, ↓ View.readCov_cons_toLoadRect, ↓ View.readCov_fill]
  frame_out
  refine View.canon_eq_of_allAt _ _ _ (View.cover_of_tiledBy _ ![512, 256] (by sl_kernel_rfl) _) (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _)))))))
  · tile_intro x e
    obtain ⟨r', j, rfl⟩ : ∃ r' j, x = ix2 r' j := ⟨_, _, eq_ix2 x⟩
    exact (pay2_at _ _ _ _ _ _ _ _ r' j).trans (zb_close (hh m c t) (iblk m c 9 t) (iblk m c 7 t) _ 768 1792 2816 (by omega) rfl rfl _ _ _ _ _ _ _ r r' j n e0 e1)
  · tile_intro x e
    obtain ⟨r', j, rfl⟩ : ∃ r' j, x = ix2 r' j := ⟨_, _, eq_ix2 x⟩
    exact (pay37_at _ _ _ _ _ _ _ _ r' j).trans (zb_close (hh m c t) (iblk m c 9 t) (iblk m c 7 t) _ 512 1536 2560 (by omega) rfl rfl _ _ _ _ _ _ _ r r' j n e0 e1)
  · tile_intro x e
    obtain ⟨r', j, rfl⟩ : ∃ r' j, x = ix2 r' j := ⟨_, _, eq_ix2 x⟩
    exact (pay31_at _ _ _ _ _ _ _ _ r' j).trans (zb_close (hh m c t) (iblk m c 9 t) (iblk m c 7 t) _ 256 1280 2304 (by omega) rfl rfl _ _ _ _ _ _ _ r r' j n e0 e1)
  · tile_intro x e
    obtain ⟨r', j, rfl⟩ : ∃ r' j, x = ix2 r' j := ⟨_, _, eq_ix2 x⟩
    exact (pay27_at _ _ _ _ _ _ _ _ r' j).trans (zb_close (hh m c t) (iblk m c 9 t) (iblk m c 7 t) _ 0 1024 2048 (by omega) rfl rfl _ _ _ _ _ _ _ r r' j n e0 (e1.trans (Nat.zero_add _).symm))
  · tile_intro x e
    obtain ⟨r', j, rfl⟩ : ∃ r' j, x = ix2 r' j := ⟨_, _, eq_ix2 x⟩
    exact (pay20_at _ r' _ j).trans (zb_close2 (hh m c t) (iblk m c 9 t) (iblk m c 7 t) _ 2048 (by omega) (by omega) 4096 rfl _ r r' j n e0 e1)
  · tile_intro x e
    obtain ⟨r', j, rfl⟩ : ∃ r' j, x = ix2 r' j := ⟨_, _, eq_ix2 x⟩
    exact (pay19_at _ r' _ j).trans (zb_close2 (hh m c t) (iblk m c 9 t) (iblk m c 7 t) _ 1024 (by omega) (by omega) 3072 rfl _ r r' j n e0 e1)

theorem za_A (h0 : t.val % 8 = 0) (r : Fin 512) (n : Fin 3072) :
    (outsAt0 m c t.val t.isLt).2.1 (ix2 r n) = (∑ x, hh m c t (ix2 r x) * iblk m c 8 t (ix2 x n) : EReal) := by
  rw [outsAt0_A m c t h0]
  dsimp only
  frame_out
  canon_tiles x e
  · obtain ⟨r', j, rfl⟩ : ∃ r' j, x = ix2 r' j := ⟨_, _, eq_ix2 x⟩
    exact (pay17_at _ _ _ _ r' _ j).trans (za_close (hh m c t) (iblk m c 8 t) 2048 (by omega) _ r r' j n e0 e1)
  · obtain ⟨r', j, rfl⟩ : ∃ r' j, x = ix2 r' j := ⟨_, _, eq_ix2 x⟩
    exact (pay16_at _ _ _ _ r' _ j).trans (za_close (hh m c t) (iblk m c 8 t) 1024 (by omega) _ r r' j n e0 e1)
  · obtain ⟨r', j, rfl⟩ : ∃ r' j, x = ix2 r' j := ⟨_, _, eq_ix2 x⟩
    exact (pay15_at _ _ _ _ r' _ j).trans (za_close (hh m c t) (iblk m c 8 t) 0 (by omega) _ r r' j n e0 (e1.trans (Nat.zero_add _).symm))

theorem zg_A (h0 : t.val % 8 = 0) (r : Fin 512) (n : Fin 128) :
    (outsAt0 m c t.val t.isLt).2.2.2.1 (ix2 r n) = (∑ x, hh m c t (ix2 r x) * iblk m c 10 t (ix2 x n) : EReal) := by
  rw [outsAt0_A m c t h0]
  dsimp only
  frame_out
  exact pay18_at _ _ _ _ r _ n

theorem cr_A (h0 : t.val % 8 = 0) (r : Fin 8) (n : Fin 1024) :
    (outsAt0 m c t.val t.isLt).2.2.2.2 (ix2 r n) = tu (hh m c t) (iblk m c 9 t) n ⟨504 + r.val, by omega⟩ := by
  rw [outsAt0_A m c t h0]
  dsimp only
  frame_out
  refine View.canon_append_of_piecesOf (Val := Elt Ideal) (s := S8x1024) (e := .f32) (fun y : S8x1024.Idx => (tu (hh m c t) (iblk m c 9 t) (y 1) ⟨504 + (y 0).val, by have := (y 0).isLt; exact Nat.add_lt_add_left this 504⟩ : Elt Ideal .f32)) [_] [_, _, _, _] ⟨?_, ?_, ?_, ?_, trivial⟩ (ix2 r n) ?_
  · intro x
    obtain ⟨r', j, rfl⟩ : ∃ r' j, x = ix2 r' j := ⟨_, _, eq_ix2 x⟩
    exact (pay1_at _ _ _ r' j).trans (cr_close (hh m c t) (iblk m c 9 t) 768 1792 2816 (by omega) rfl rfl _ _ _ r' j _ (by show 0 + 1 * r'.val = r'.val; omega) (by show 768 + 1 * j.val = 768 + j.val; omega))
  · intro x
    obtain ⟨r', j, rfl⟩ : ∃ r' j, x = ix2 r' j := ⟨_, _, eq_ix2 x⟩
    exact (pay35_at _ _ _ r' j).trans (cr_close (hh m c t) (iblk m c 9 t) 512 1536 2560 (by omega) rfl rfl _ _ _ r' j _ (by show 0 + 1 * r'.val = r'.val; omega) (by show 512 + 1 * j.val = 512 + j.val; omega))
  · intro x
    obtain ⟨r', j, rfl⟩ : ∃ r' j, x = ix2 r' j := ⟨_, _, eq_ix2 x⟩
    exact (pay30_at _ _ _ r' j).trans (cr_close (hh m c t) (iblk m c 9 t) 256 1280 2304 (by omega) rfl rfl _ _ _ r' j _ (by show 0 + 1 * r'.val = r'.val; omega) (by show 256 + 1 * j.val = 256 + j.val; omega))
  · intro x
    obtain ⟨r', j, rfl⟩ : ∃ r' j, x = ix2 r' j := ⟨_, _, eq_ix2 x⟩
    exact (pay26_at _ _ _ r' j).trans (cr_close (hh m c t) (iblk m c 9 t) 0 1024 2048 (by omega) rfl rfl _ _ _ r' j _ (by show 0 + 1 * r'.val = r'.val; omega) (by show 0 + 1 * j.val = 0 + j.val; omega))
  · exact View.cover_of_tiledBy _ ![8, 256] (by sl_kernel_rfl) _

theorem xo_B (h0 : ¬ t.val % 8 = 0) (r : Fin 512) (n : Fin 1024) :
    (outsAt0 m c t.val t.isLt).1 (ix2 r n) = xx m c t (ix2 r n) := by
  rw [outsAt0_B m c t h0]
  dsimp only
  frame_out
  rfl

theorem xo_A (h0 : t.val % 8 = 0) (r : Fin 512) (n : Fin 1024) :
    (outsAt0 m c t.val t.isLt).1 (ix2 r n) = xx m c t (ix2 r n) := by
  rw [outsAt0_A m c t h0]
  dsimp only
  frame_out
  rfl

end Cert.Proof.Fuse
end
-- ==== Proof.FuseEq.lean ====
/-
  The second layer's input projection as plain mathematics: every number of its four results.
-/
module

public import proofs.«01_k».proof.Proof.FuseIn
public import proofs.«01_k».proof.Proof.FuseTile

@[expose] public section

noncomputable section

namespace Cert.Proof.Fuse

open Cert.Kernel4Ideal Cert.Kernel4Ideal.Gen Cert.Kernel4Ideal.Value
open Idealize.ShloMosaic Idealize.ShloMosaic.TcCoe Idealize.ShloMosaic.Tactic
open Idealize.ShloMosaic.Pipeline

variable (m : (ℓ : Loc nD τ sig) → Buf (Elt Ideal) ℓ) (c : Dev nD) (t : Fin cfg0.N)

/-- The arguments, by coordinates. -/
def args : FuseSpec.Args where
  x r k := m ((c : Thread nD τ).loc main_arg0) (ix2 r k)
  rt r k := m ((c : Thread nD τ).loc main_arg1) (ix2 r k)
  yk p r k := m ((c : Thread nD τ).loc main_arg2) (ix3 p r k)
  mp b k := m ((c : Thread nD τ).loc main_arg3) (ix2 b k)
  md b k := m ((c : Thread nD τ).loc main_arg4) (ix2 b k)
  g k := m ((c : Thread nD τ).loc main_arg5) (ix1 k)
  w k n := m ((c : Thread nD τ).loc main_arg6) (ix2 k n)
  cw i k := m ((c : Thread nD τ).loc main_arg7) (ix2 i k)

theorem lt64 : t.val < 64 := lt_of_lt_of_eq t.isLt N_0

/-- The sequence of a grid point. -/
def bt : Fin 8 := ⟨t.val / 8, by have := lt64 t; omega⟩

/-- The place in the sequence of a grid point's row. -/
def sq (r : Fin 512) : Fin 4096 := ⟨t.val % 8 * 512 + r.val, by omega⟩

theorem row_val (r : Fin 512) : (FuseSpec.row (bt t) (sq t r)).val = t.val * 512 + r.val := by
  show t.val / 8 * 4096 + (t.val % 8 * 512 + r.val) = t.val * 512 + r.val
  omega

theorem xx_at (r : Fin 512) (k : Fin 1024) : xx m c t (ix2 r k) = FuseSpec.sum (args m c) (bt t) (sq t r) k := by
  have e := row_val t r
  have e0 : iblk m c 0 t (ix2 r k) = (args m c).x (FuseSpec.row (bt t) (sq t r)) k := in0 m c t r k _ e
  have e1 : iblk m c 1 t (ix2 r 2) = (args m c).rt (FuseSpec.row (bt t) (sq t r)) 2 := in1 m c t r 2 _ e
  have e2 : iblk m c 1 t (ix2 r 3) = (args m c).rt (FuseSpec.row (bt t) (sq t r)) 3 := in1 m c t r 3 _ e
  have e3 : iblk m c 4 t (ix3 0 5 k) = (args m c).mp (bt t) ⟨5120 + k.val, by omega⟩ := in4 m c t 5 k _ rfl rfl
  have p0 : (fun j => ya0 m c t (ix3 0 r j)) = (args m c).yk 0 ⟨(FuseSpec.row (bt t) (sq t r)).val, by omega⟩ := funext fun j => (ya0_at m c t r j).trans (in2 m c t 0 r j _ e)
  have p1 : (fun j => ya1 m c t (ix3 0 r j)) = (args m c).yk 1 ⟨(FuseSpec.row (bt t) (sq t r)).val, by omega⟩ := funext fun j => (ya1_at m c t r j).trans (in2 m c t 1 r j _ e)
  have q0 : (fun j => yb0 m c t (ix3 0 r j)) = (args m c).yk 0 ⟨32768 + (FuseSpec.row (bt t) (sq t r)).val, by omega⟩ := funext fun j => (yb0_at m c t r j).trans (in3 m c t 0 r j _ (congrArg (32768 + ·) e))
  have q1 : (fun j => yb1 m c t (ix3 0 r j)) = (args m c).yk 1 ⟨32768 + (FuseSpec.row (bt t) (sq t r)).val, by omega⟩ := funext fun j => (yb1_at m c t r j).trans (in3 m c t 1 r j _ (congrArg (32768 + ·) e))
  refine (xB_at (iblk m c 0 t) (iblk m c 1 t) (ya0 m c t) (ya1 m c t) (yb0 m c t) (yb1 m c t) (iblk m c 4 t) r k).trans ?_
  rw [e0, e1, e2, e3, p0, p1, q0, q1]
  rfl

theorem hh_at (r : Fin 512) (k : Fin 1024) : hh m c t (ix2 r k) = ProjSpec.hid (FuseSpec.proj (args m c)) (bt t) (sq t r) k := by
  have e0 : ∀ k, xB (iblk m c 0 t) (iblk m c 1 t) (ya0 m c t) (ya1 m c t) (yb0 m c t) (yb1 m c t) (iblk m c 4 t) (ix2 r k) = FuseSpec.sum (args m c) (bt t) (sq t r) k := xx_at m c t r
  have e1 : iblk m c 5 t (ix3 0 1 k) = (args m c).md (bt t) ⟨1024 + k.val, by omega⟩ := in5 m c t 1 k _ rfl (congrArg (· + k.val) (Nat.one_mul 1024).symm)
  have e2 : iblk m c 5 t (ix3 0 0 k) = (args m c).md (bt t) ⟨k.val, by omega⟩ := in5 m c t 0 k _ rfl (by show k.val = 0 * 1024 + k.val; omega)
  have e3 : iblk m c 6 t (ix2 0 k) = (args m c).g k := in6 m c t k
  rw [hh_eq]
  refine (hB_at (iblk m c 0 t) (iblk m c 1 t) (ya0 m c t) (ya1 m c t) (yb0 m c t) (yb1 m c t) (iblk m c 4 t) (iblk m c 5 t) (iblk m c 6 t) r k).trans ?_
  simp only [e0, e1, e2, e3]
  rfl

theorem tp_at (n : Fin 5120) (r : Fin 512) : tp (hh m c t) (iblk m c 9 t) n r = ProjSpec.prj (FuseSpec.proj (args m c)) (bt t) (sq t r) ⟨3088 + n.val, by omega⟩ :=
  Finset.sum_congr rfl fun k _ => congrArg₂ (· * ·) (hh_at m c t r k) (in9 m c t k n (ix2 k ⟨3088 + n.val, by omega⟩) rfl rfl)

theorem prj_congr (A : ProjSpec.Args) (b : Fin 8) (s : Fin 4096) (n n' : Fin 8208) (h : n.val = n'.val) : ProjSpec.prj A b s n = ProjSpec.prj A b s n' := by
  rw [Fin.ext h]

theorem tu_at (j : Fin 1024) (r : Fin 512) : tu (hh m c t) (iblk m c 9 t) j r = ProjSpec.up (FuseSpec.proj (args m c)) (bt t) (sq t r) j :=
  congrArg₂ (· * ·) ((tp_at m c t _ r).trans (prj_congr _ _ _ _ _ (by show 3088 + (1024 + j.val) = 4112 + j.val; omega)))
    ((tp_at m c t _ r).trans (prj_congr _ _ _ _ _ (by show 3088 + (2048 + j.val) = 5136 + j.val; omega)))

theorem up_congr (A : ProjSpec.Args) (b b' : Fin 8) (s s' : Fin 4096) (j : Fin 1024) (hb : b.val = b'.val) (hs : s.val = s'.val) : ProjSpec.up A b s j = ProjSpec.up A b' s' j := by
  rw [Fin.ext hb, Fin.ext hs]

section kept

variable (K : S8x1024.Idx → Elt Ideal .f32) (j : Fin 1024)
  (k0 : t.val % 8 = 0 → ∀ i, K (ix2 i j) = (0 : EReal))
  (k1 : (h : ¬ t.val % 8 = 0) → ∀ i : Fin 8, K (ix2 i j) = ProjSpec.up (FuseSpec.proj (args m c)) (bt t) ⟨t.val % 8 * 512 - 8 + i.val, by omega⟩ j)

include k0 k1

theorem bk2_at (r : Fin 512) : bk2 (fun i => K (ix2 i j)) (tu (hh m c t) (iblk m c 9 t) j) r = ProjSpec.upB (FuseSpec.proj (args m c)) 2 (bt t) (sq t r) j := by
  have es : (sq t r).val = t.val % 8 * 512 + r.val := rfl
  unfold bk2 ProjSpec.upB
  by_cases h : r.val < 2
  · rw [dif_pos h]
    by_cases h4 : t.val % 8 = 0
    · rw [if_neg (by omega)]; exact k0 h4 _
    · rw [if_pos (by omega)]
      exact (k1 h4 _).trans (up_congr _ _ _ _ _ _ rfl (by show t.val % 8 * 512 - 8 + (6 + r.val) = (sq t r).val - 2; omega))
  · rw [dif_neg h, if_pos (by omega)]
    exact (tu_at m c t j _).trans (up_congr _ _ _ _ _ _ rfl (by show t.val % 8 * 512 + (r.val - 2) = (sq t r).val - 2; omega))

theorem bk1_at (r : Fin 512) : bk1 (fun i => K (ix2 i j)) (tu (hh m c t) (iblk m c 9 t) j) r = ProjSpec.upB (FuseSpec.proj (args m c)) 1 (bt t) (sq t r) j := by
  have es : (sq t r).val = t.val % 8 * 512 + r.val := rfl
  unfold bk1 ProjSpec.upB
  by_cases h : r.val < 1
  · rw [dif_pos h]
    by_cases h4 : t.val % 8 = 0
    · rw [if_neg (by omega)]; exact k0 h4 _
    · rw [if_pos (by omega)]
      exact (k1 h4 7).trans (up_congr _ _ _ _ _ _ rfl (by show t.val % 8 * 512 - 8 + 7 = (sq t r).val - 1; omega))
  · rw [dif_neg h, if_pos (by omega)]
    exact (tu_at m c t j _).trans (up_congr _ _ _ _ _ _ rfl (by show t.val % 8 * 512 + (r.val - 1) = (sq t r).val - 1; omega))

theorem tg_at (r : Fin 512) : tg (hh m c t) (iblk m c 9 t) (iblk m c 7 t) K r j
    = ProjSpec.prj (FuseSpec.proj (args m c)) (bt t) (sq t r) ⟨3088 + j.val, by omega⟩ * ProjSpec.conv (FuseSpec.proj (args m c)) (bt t) (sq t r) j := by
  unfold tg
  rw [bk2_at m c t K j k0 k1 r, bk1_at m c t K j k0 k1 r, tu_at, tp_at]
  exact congrArg (_ * ·) (congrArg₂ (· + ·) (congrArg₂ (· + ·) (congrArg (· * _) (in7 m c t 0 j)) (congrArg (· * _) (in7 m c t 1 j))) (congrArg (· * _) (in7 m c t 2 j)))

end kept

theorem tz_at (K : S8x1024.Idx → Elt Ideal .f32)
    (k0 : t.val % 8 = 0 → ∀ i j, K (ix2 i j) = (0 : EReal))
    (k1 : (h : ¬ t.val % 8 = 0) → ∀ (i : Fin 8) (j : Fin 1024), K (ix2 i j) = ProjSpec.up (FuseSpec.proj (args m c)) (bt t) ⟨t.val % 8 * 512 - 8 + i.val, by omega⟩ j)
    (r : Fin 512) (n : Fin 3072) : tz (hh m c t) (iblk m c 9 t) (iblk m c 7 t) K r n = ProjSpec.zb (FuseSpec.proj (args m c)) (bt t) (sq t r) n := by
  unfold tz ProjSpec.zb
  by_cases h : n.val < 1024
  · rw [dif_pos h, dif_pos h]
    exact tg_at m c t K ⟨n.val, h⟩ (fun h i => k0 h i _) (fun h i => k1 h i _) r
  · rw [dif_neg h, dif_neg h]
    exact (tp_at m c t _ r).trans (prj_congr _ _ _ _ _ (by show 3088 + (2048 + n.val) = 5136 + n.val; omega))

theorem cr_at (r : Fin 8) (n : Fin 1024) : (outsAt0 m c t.val t.isLt).2.2.2.2 (ix2 r n) = ProjSpec.up (FuseSpec.proj (args m c)) (bt t) (sq t ⟨504 + r.val, by omega⟩) n := by
  by_cases h : t.val % 8 = 0
  · exact (cr_A m c t h r n).trans (tu_at m c t n _)
  · exact (cr_B m c t h r n).trans (tu_at m c t n _)

theorem zb_at (r : Fin 512) (n : Fin 3072) : (outsAt0 m c t.val t.isLt).2.2.1 (ix2 r n) = ProjSpec.zb (FuseSpec.proj (args m c)) (bt t) (sq t r) n := by
  by_cases h : t.val % 8 = 0
  · refine (zb_A m c t h r n).trans (tz_at m c t _ (fun _ i j => ?_) (fun h' => absurd h h') r n)
    unfold k0_pay11
    pointwise
  · refine (zb_B m c t h r n).trans (tz_at m c t _ (fun h' => absurd h' h) (fun _ i j => ?_) r n)
    refine (cr_at m c ⟨t.val - 1, lt_of_le_of_lt (Nat.sub_le _ _) t.isLt⟩ i j).trans (up_congr _ _ _ _ _ _ ?_ ?_)
    · show (t.val - 1) / 8 = t.val / 8
      omega
    · show (t.val - 1) % 8 * 512 + (504 + i.val) = t.val % 8 * 512 - 8 + i.val
      omega

theorem za_at (r : Fin 512) (n : Fin 3072) : (outsAt0 m c t.val t.isLt).2.1 (ix2 r n) = ProjSpec.za (FuseSpec.proj (args m c)) (bt t) (sq t r) n := by
  have e : (∑ x, hh m c t (ix2 r x) * iblk m c 8 t (ix2 x n) : EReal) = ProjSpec.za (FuseSpec.proj (args m c)) (bt t) (sq t r) n :=
    Finset.sum_congr rfl fun k _ => congrArg₂ (· * ·) (hh_at m c t r k) (in8 m c t k n (ix2 k ⟨if n.val < 2048 then n.val else n.val + 16, by split <;> omega⟩) rfl rfl)
  by_cases h : t.val % 8 = 0
  · exact (za_A m c t h r n).trans e
  · exact (za_B m c t h r n).trans e

theorem zg_at (r : Fin 512) (n : Fin 128) : (outsAt0 m c t.val t.isLt).2.2.2.1 (ix2 r n) = ProjSpec.zg (FuseSpec.proj (args m c)) (bt t) (sq t r) n := by
  have e : (∑ x, hh m c t (ix2 r x) * iblk m c 10 t (ix2 x n) : EReal) = ProjSpec.zg (FuseSpec.proj (args m c)) (bt t) (sq t r) n := by
    have e6 := fun k => in10 m c t k n (ix2 k ⟨2048 + n.val % 16, by omega⟩) rfl rfl
    unfold ProjSpec.zg
    by_cases hn : n.val < 48
    · rw [if_pos hn]
      exact Finset.sum_congr rfl fun k _ => congrArg₂ (· * ·) (hh_at m c t r k) ((e6 k).trans (if_pos hn))
    · rw [if_neg hn]
      exact Finset.sum_eq_zero fun k _ => (congrArg (_ * ·) ((e6 k).trans (if_neg hn))).trans (mul_zero _)
  by_cases h : t.val % 8 = 0
  · exact (zg_A m c t h r n).trans e
  · exact (zg_B m c t h r n).trans e

theorem xo_at (r : Fin 512) (n : Fin 1024) : (outsAt0 m c t.val t.isLt).1 (ix2 r n) = FuseSpec.sum (args m c) (bt t) (sq t r) n := by
  by_cases h : t.val % 8 = 0
  · exact (xo_A m c t h r n).trans (xx_at m c t r n)
  · exact (xo_B m c t h r n).trans (xx_at m c t r n)

/-- The grid point of a row. -/
def ptOf (R : Fin 32768) : Fin cfg0.N := ⟨R.val / 512, lt_of_lt_of_eq (by omega : R.val / 512 < 64) N_0.symm⟩

section whole

variable (b : Fin 8) (s : Fin 4096) (R : Fin 32768) (hR : R.val = 4096 * b.val + s.val)

include hR

theorem G11_at (n : Fin 1024) : G11 m c (ix2 R n) = FuseSpec.sum (args m c) b s n := by
  have hb : bt (ptOf R) = b := Fin.ext (by show R.val / 512 / 8 = b.val; omega)
  have hs : sq (ptOf R) ⟨R.val % 512, by omega⟩ = s := Fin.ext (by show R.val / 512 % 8 * 512 + R.val % 512 = s.val; omega)
  have hp : pt11Of (ix2 R n) = (ptOf R).val := by show 1 * (R.val / 512 - 0) + 1 * (n.val / 1024 - 0) = R.val / 512; omega
  have hl : loc11Of (ix2 R n) = ix2 (⟨R.val % 512, by omega⟩ : Fin 512) n := by
    funext a
    refine Fin.cases ?_ (fun a => Fin.cases ?_ (fun a => a.elim0) a) a
    · rfl
    · exact Fin.ext (show n.val % 1024 = n.val by omega)
  unfold G11
  rw [dif_pos (hp ▸ (ptOf R).isLt), ← outsAt0_sweep m c _ (hp ▸ (ptOf R).isLt), hl]
  rw [show outsAt0 m c (pt11Of (ix2 R n)) (hp ▸ (ptOf R).isLt) = outsAt0 m c (ptOf R).val (ptOf R).isLt by congr 1]
  exact (xo_at m c (ptOf R) _ n).trans (by rw [hb, hs])

theorem G12_at (n : Fin 3072) : G12 m c (ix2 R n) = ProjSpec.za (FuseSpec.proj (args m c)) b s n := by
  have hb : bt (ptOf R) = b := Fin.ext (by show R.val / 512 / 8 = b.val; omega)
  have hs : sq (ptOf R) ⟨R.val % 512, by omega⟩ = s := Fin.ext (by show R.val / 512 % 8 * 512 + R.val % 512 = s.val; omega)
  have hp : pt12Of (ix2 R n) = (ptOf R).val := by show 1 * (R.val / 512 - 0) + 1 * (n.val / 3072 - 0) = R.val / 512; omega
  have hl : loc12Of (ix2 R n) = ix2 (⟨R.val % 512, by omega⟩ : Fin 512) n := by
    funext a
    refine Fin.cases ?_ (fun a => Fin.cases ?_ (fun a => a.elim0) a) a
    · rfl
    · exact Fin.ext (show n.val % 3072 = n.val by omega)
  unfold G12
  rw [dif_pos (hp ▸ (ptOf R).isLt), ← outsAt0_sweep m c _ (hp ▸ (ptOf R).isLt), hl]
  rw [show outsAt0 m c (pt12Of (ix2 R n)) (hp ▸ (ptOf R).isLt) = outsAt0 m c (ptOf R).val (ptOf R).isLt by congr 1]
  exact (za_at m c (ptOf R) _ n).trans (by rw [hb, hs])

theorem G13_at (n : Fin 3072) : G13 m c (ix2 R n) = ProjSpec.zb (FuseSpec.proj (args m c)) b s n := by
  have hb : bt (ptOf R) = b := Fin.ext (by show R.val / 512 / 8 = b.val; omega)
  have hs : sq (ptOf R) ⟨R.val % 512, by omega⟩ = s := Fin.ext (by show R.val / 512 % 8 * 512 + R.val % 512 = s.val; omega)
  have hp : pt13Of (ix2 R n) = (ptOf R).val := by show 1 * (R.val / 512 - 0) + 1 * (n.val / 3072 - 0) = R.val / 512; omega
  have hl : loc13Of (ix2 R n) = ix2 (⟨R.val % 512, by omega⟩ : Fin 512) n := by
    funext a
    refine Fin.cases ?_ (fun a => Fin.cases ?_ (fun a => a.elim0) a) a
    · rfl
    · exact Fin.ext (show n.val % 3072 = n.val by omega)
  unfold G13
  rw [dif_pos (hp ▸ (ptOf R).isLt), ← outsAt0_sweep m c _ (hp ▸ (ptOf R).isLt), hl]
  rw [show outsAt0 m c (pt13Of (ix2 R n)) (hp ▸ (ptOf R).isLt) = outsAt0 m c (ptOf R).val (ptOf R).isLt by congr 1]
  exact (zb_at m c (ptOf R) _ n).trans (by rw [hb, hs])

theorem G14_at (n : Fin 128) : G14 m c (ix2 R n) = ProjSpec.zg (FuseSpec.proj (args m c)) b s n := by
  have hb : bt (ptOf R) = b := Fin.ext (by show R.val / 512 / 8 = b.val; omega)
  have hs : sq (ptOf R) ⟨R.val % 512, by omega⟩ = s := Fin.ext (by show R.val / 512 % 8 * 512 + R.val % 512 = s.val; omega)
  have hp : pt14Of (ix2 R n) = (ptOf R).val := by show 1 * (R.val / 512 - 0) + 1 * (n.val / 128 - 0) = R.val / 512; omega
  have hl : loc14Of (ix2 R n) = ix2 (⟨R.val % 512, by omega⟩ : Fin 512) n := by
    funext a
    refine Fin.cases ?_ (fun a => Fin.cases ?_ (fun a => a.elim0) a) a
    · rfl
    · exact Fin.ext (show n.val % 128 = n.val by omega)
  unfold G14
  rw [dif_pos (hp ▸ (ptOf R).isLt), ← outsAt0_sweep m c _ (hp ▸ (ptOf R).isLt), hl]
  rw [show outsAt0 m c (pt14Of (ix2 R n)) (hp ▸ (ptOf R).isLt) = outsAt0 m c (ptOf R).val (ptOf R).isLt by congr 1]
  exact (zg_at m c (ptOf R) _ n).trans (by rw [hb, hs])

end whole

end Cert.Proof.Fuse
end
-- ==== Proof.FuseRef.lean ====
/-
  The reference of the second layer's input projection, read one number at a time.
-/
module

public import proofs.«01_k».proof.Proof.Gen.Reference4Ideal.Run
public import Idealize.ShloMosaic.Lib.Pointwise
public import proofs.«01_k».proof.Proof.FuseSpec

@[expose] public section

set_option maxRecDepth 16384

noncomputable section

namespace Cert.Proof.FuseRef

open Cert.Reference4Ideal Cert.Reference4Ideal.Gen Cert.Reference4Ideal.Value
open Idealize.ShloMosaic Idealize.ShloMosaic.TcCoe Idealize.ShloMosaic.Tactic

variable (m : (ℓ : Loc nD τ sig) → Buf (Elt Ideal) ℓ) (c : Dev nD)

/-- The arguments, by coordinates. -/
def args : FuseSpec.Args where
  x r k := m ((c.tc : Thread nD τ).loc main_arg0) (ix2 r k)
  rt r k := m ((c.tc : Thread nD τ).loc main_arg1) (ix2 r k)
  yk p r k := m ((c.tc : Thread nD τ).loc main_arg2) (ix3 p r k)
  mp b k := m ((c.tc : Thread nD τ).loc main_arg3) (ix2 b k)
  md b k := m ((c.tc : Thread nD τ).loc main_arg4) (ix2 b k)
  g k := m ((c.tc : Thread nD τ).loc main_arg5) (ix1 k)
  w k n := m ((c.tc : Thread nD τ).loc main_arg6) (ix2 k n)
  cw i k := m ((c.tc : Thread nD τ).loc main_arg7) (ix2 i k)

/-- The experts' rows, unpacked. -/
def yT : FVec Ideal S2x32768x1024 .f32 :=
  shapeCast _ (transpose S65536x4x256 [1, 0, 2] (concatenate S4x65536x256 0 [⟨S2x65536x256, (bitcastToFloat (F := Ideal) .f32 (Host.shli (m ((c.tc : Thread nD τ).loc main_arg2)) (broadcastInDim S2x65536x256 ![] bcast_S_S2x65536x256 (constantI S_ 32 16#32))))⟩, ⟨S2x65536x256, (bitcastToFloat (F := Ideal) .f32 (andi (m ((c.tc : Thread nD τ).loc main_arg2)) (broadcastInDim S2x65536x256 ![] bcast_S_S2x65536x256 (constantI S_ 32 4294901760#32))))⟩] concatenates_S2x65536x256_S2x65536x256_S4x65536x256_d0) transposes_S4x65536x256_S65536x4x256_1_0_2) shapeCasts_S65536x4x256_S2x32768x1024

/-- The weighted sum of a token's two experts. -/
def wT : FVec Ideal S32768x1024 .f32 :=
  addf (mulf (broadcastInDim S32768x1024 ![0, 1] bcast_S32768x1_S32768x1024_0_1 (extractStridedSlice S32768x1 ![0, 2] (m ((c.tc : Thread nD τ).loc main_arg1)) slices_S32768x128_S32768x1_0_2)) (shapeCast _ (extractStridedSlice S1x32768x1024 ![0, 0, 0] (yT m c) slices_S2x32768x1024_S1x32768x1024_0_0_0) shapeCasts_S1x32768x1024_S32768x1024)) (mulf (broadcastInDim S32768x1024 ![0, 1] bcast_S32768x1_S32768x1024_0_1 (extractStridedSlice S32768x1 ![0, 3] (m ((c.tc : Thread nD τ).loc main_arg1)) slices_S32768x128_S32768x1_0_3)) (shapeCast _ (extractStridedSlice S1x32768x1024 ![1, 0, 0] (yT m c) slices_S2x32768x1024_S1x32768x1024_1_0_0) shapeCasts_S1x32768x1024_S32768x1024))

/-- The residual with the weighted sum. -/
def xT : FVec Ideal S8x4096x1024 .f32 :=
  addf (shapeCast _ (m ((c.tc : Thread nD τ).loc main_arg0)) shapeCasts_S32768x1024_S8x4096x1024) (mulf (broadcastInDim S8x4096x1024 ![0, 1, 2] bcast_S8x1x1024_S8x4096x1024_0_1_2 (broadcastInDim S8x1x1024 ![0, 2] bcast_S8x1024_S8x1x1024_0_2 (extractStridedSlice S8x1024 ![0, 5120] (m ((c.tc : Thread nD τ).loc main_arg3)) slices_S8x6144_S8x1024_0_5120))) (shapeCast _ (wT m c) shapeCasts_S32768x1024_S8x4096x1024))

/-- The first result. -/
def xoT : FVec Ideal S32768x1024 .f32 := shapeCast _ (xT m c) shapeCasts_S8x4096x1024_S32768x1024

theorem yT_at (p : Fin 2) (r : Fin 32768) (k : Fin 1024) (R : Fin 65536) (hR : R.val = p.val * 32768 + r.val) :
    yT m c (ix3 p r k) = FuseSpec.quarter ((args m c).yk 0 R) ((args m c).yk 1 R) k := by
  unfold yT
  refine (shapeCast_apply _ _ _ (ix3 R (⟨k.val / 256, by omega⟩ : Fin 4) (⟨k.val % 256, by omega⟩ : Fin 256)) ?_).trans ?_
  · rw [Shape.rowMajor_val_three, Shape.rowMajor_val_three]
    show (R.val * 4 + k.val / 256) * 256 + k.val % 256 = (p.val * 32768 + r.val) * 1024 + k.val
    omega
  · have e : ∀ q j, m ((c.tc : Thread nD τ).loc main_arg2) (ix3 q R j) = (args m c).yk q R j := fun _ _ => rfl
    generalize (m ((c.tc : Thread nD τ).loc main_arg2)) = Y at e ⊢
    generalize (args m c).yk = y at e ⊢
    pointwise
    unfold FuseSpec.quarter
    by_cases h : k.val / 256 < 2
    · rw [dif_pos h, FuseSpec.low_of, e]
      by_cases h1 : k.val < 256
      · rw [dif_pos h1]
        exact congrArg FuseSpec.low (congrArg₂ (fun q j => y q R j) (Fin.ext (show k.val / 256 = 0 by omega)) (Fin.ext (show k.val % 256 = k.val by omega)))
      · rw [dif_neg h1, dif_pos (show k.val - 256 < 256 by omega)]
        exact congrArg FuseSpec.low (congrArg₂ (fun q j => y q R j) (Fin.ext (show k.val / 256 = 1 by omega)) (Fin.ext (show k.val % 256 = k.val - 256 by omega)))
    · rw [dif_neg h, FuseSpec.high_of, e, dif_neg (show ¬ k.val < 256 by omega), dif_neg (show ¬ k.val - 256 < 256 by omega)]
      by_cases h1 : k.val - 256 - 256 < 256
      · rw [dif_pos h1]
        exact congrArg FuseSpec.high (congrArg₂ (fun q j => y q R j) (Fin.ext (show k.val / 256 - 2 = 0 by omega)) (Fin.ext (show k.val % 256 = k.val - 256 - 256 by omega)))
      · rw [dif_neg h1]
        exact congrArg FuseSpec.high (congrArg₂ (fun q j => y q R j) (Fin.ext (show k.val / 256 - 2 = 1 by omega)) (Fin.ext (show k.val % 256 = k.val - 256 - 256 - 256 by omega)))

theorem wT_at (r : Fin 32768) (k : Fin 1024) :
    wT m c (ix2 r k) = ((args m c).rt r 2 * FuseSpec.quarter ((args m c).yk 0 ⟨r.val, by omega⟩) ((args m c).yk 1 ⟨r.val, by omega⟩) k
      + (args m c).rt r 3 * FuseSpec.quarter ((args m c).yk 0 ⟨32768 + r.val, by omega⟩) ((args m c).yk 1 ⟨32768 + r.val, by omega⟩) k : EReal) := by
  unfold wT
  have e0 := yT_at m c 0 r k ⟨r.val, by omega⟩ (by show r.val = 0 * 32768 + r.val; omega)
  have e1 := yT_at m c 1 r k ⟨32768 + r.val, by omega⟩ (by show 32768 + r.val = 1 * 32768 + r.val; omega)
  rw [← e0, ← e1]
  generalize yT m c = y
  pointwise
  rfl

theorem row_cast (z : FVec Ideal S32768x1024 .f32) (b : Fin 8) (s : Fin 4096) (k : Fin 1024) :
    shapeCast S8x4096x1024 z shapeCasts_S32768x1024_S8x4096x1024 (ix3 b s k) = z (ix2 (FuseSpec.row b s) k) := by
  refine shapeCast_apply _ _ _ (ix2 (FuseSpec.row b s) k) ?_
  rw [Shape.rowMajor_val_two, Shape.rowMajor_val_three]
  rfl

theorem scale_at (z : FVec Ideal S8x6144 .f32) (b : Fin 8) (s : Fin 4096) (k : Fin 1024) :
    broadcastInDim S8x4096x1024 ![0, 1, 2] bcast_S8x1x1024_S8x4096x1024_0_1_2 (broadcastInDim S8x1x1024 ![0, 2] bcast_S8x1024_S8x1x1024_0_2 (extractStridedSlice S8x1024 ![0, 5120] z slices_S8x6144_S8x1024_0_5120)) (ix3 b s k)
      = z (ix2 b ⟨5120 + k.val, by omega⟩) := by
  pointwise

theorem xT_at (b : Fin 8) (s : Fin 4096) (k : Fin 1024) : xT m c (ix3 b s k) = FuseSpec.sum (args m c) b s k :=
  congrArg₂ (· + ·) (row_cast _ b s k) (congrArg₂ (· * ·) (scale_at _ b s k) ((row_cast _ b s k).trans (wT_at m c (FuseSpec.row b s) k)))

theorem xo_at (b : Fin 8) (s : Fin 4096) (R : Fin 32768) (hR : R.val = 4096 * b.val + s.val) (k : Fin 1024) : xoT m c (ix2 R k) = FuseSpec.sum (args m c) b s k := by
  unfold xoT
  refine (shapeCast_apply _ _ _ (ix3 b s k) ?_).trans (xT_at m c b s k)
  rw [Shape.rowMajor_val_two, Shape.rowMajor_val_three]
  simp only [ix2, ix3, Matrix.cons_val]
  omega

/-- The modulated rows. -/
def hT : FVec Ideal S8x4096x1024 .f32 :=
  addf (mulf (mulf (mulf (xT m c) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (xT m c) (xT m c)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (m ((c.tc : Thread nD τ).loc main_arg5))))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (m ((c.tc : Thread nD τ).loc main_arg4)) slices_S8x6144_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (m ((c.tc : Thread nD τ).loc main_arg4)) slices_S8x6144_S8x1024_0_0)))

/-- The projection, before it is taken apart. -/
def zT : FVec Ideal S32768x8208 .f32 :=
  shapeCast _ (Host.dotGeneral (φ₁ := .f32) (φ₂ := .f32) dot_S8x4096x1024_S1024x8208_S8x4096x8208_2_0_01_1_n_n none (hT m c) (m ((c.tc : Thread nD τ).loc main_arg6) : FVec Ideal S1024x8208 .f32)) shapeCasts_S8x4096x8208_S32768x8208

theorem hT_at (b : Fin 8) (s : Fin 4096) (k : Fin 1024) : hT m c (ix3 b s k) = ProjSpec.hid (FuseSpec.proj (args m c)) b s k := by
  unfold hT
  have e := xT_at m c b s
  generalize xT m c = x at e ⊢
  pointwise
  simp only [e, ProjSpec.hid, FuseSpec.proj, args]
  exact congrArg (· + _) (mul_assoc _ _ _)

theorem zT_at (b : Fin 8) (s : Fin 4096) (R : Fin 32768) (hR : R.val = 4096 * b.val + s.val) (n : Fin 8208) :
    zT m c (ix2 R n) = ProjSpec.prj (FuseSpec.proj (args m c)) b s n := by
  unfold zT
  refine (shapeCast_apply _ _ _ (ix3 b s n) ?_).trans ?_
  · rw [Shape.rowMajor_val_two, Shape.rowMajor_val_three]
    simp only [ix2, ix3, Matrix.cons_val]
    omega
  · generalize hh : hT m c = h
    pointwise
    simp only [← hh, hT_at]
    rfl

/-- What the convolution runs over, two rows of zeros before it. -/
def uT : FVec Ideal S8x4098x1024 .f32 :=
  (pad S8x4098x1024 ![0, 2, 0] ![0, 0, 0] ![0, 0, 0] (shapeCast _ (mulf (extractStridedSlice S32768x1024 ![0, 4112] (zT m c) slices_S32768x8208_S32768x1024_0_4112) (extractStridedSlice S32768x1024 ![0, 5136] (zT m c) slices_S32768x8208_S32768x1024_0_5136)) shapeCasts_S32768x1024_S8x4096x1024) (sitofp (F := Ideal) .f32 (constantI S_ 32 0#32)) pads_S8x4096x1024_S8x4098x1024_000_200_000 h_S_)

/-- The convolution. -/
def vT : FVec Ideal S8x4096x1024 .f32 :=
  (addf (addf (addf (broadcastInDim S8x4096x1024 ![] bcast_S_S8x4096x1024 (constant S_ .f32 0x00000000#32)) (mulf (broadcastInDim S8x4096x1024 ![0, 1, 2] bcast_S1x1x1024_S8x4096x1024_0_1_2 (broadcastInDim S1x1x1024 ![2] bcast_S1024_S1x1x1024_2 (shapeCast _ (extractStridedSlice S1x1024 ![0, 0] (m ((c.tc : Thread nD τ).loc main_arg7)) slices_S3x1024_S1x1024_0_0) shapeCasts_S1x1024_S1024))) (extractStridedSlice S8x4096x1024 ![0, 0, 0] (uT m c) slices_S8x4098x1024_S8x4096x1024_0_0_0))) (mulf (broadcastInDim S8x4096x1024 ![0, 1, 2] bcast_S1x1x1024_S8x4096x1024_0_1_2 (broadcastInDim S1x1x1024 ![2] bcast_S1024_S1x1x1024_2 (shapeCast _ (extractStridedSlice S1x1024 ![1, 0] (m ((c.tc : Thread nD τ).loc main_arg7)) slices_S3x1024_S1x1024_1_0) shapeCasts_S1x1024_S1024))) (extractStridedSlice S8x4096x1024 ![0, 1, 0] (uT m c) slices_S8x4098x1024_S8x4096x1024_0_1_0))) (mulf (broadcastInDim S8x4096x1024 ![0, 1, 2] bcast_S1x1x1024_S8x4096x1024_0_1_2 (broadcastInDim S1x1x1024 ![2] bcast_S1024_S1x1x1024_2 (shapeCast _ (extractStridedSlice S1x1024 ![2, 0] (m ((c.tc : Thread nD τ).loc main_arg7)) slices_S3x1024_S1x1024_2_0) shapeCasts_S1x1024_S1024))) (extractStridedSlice S8x4096x1024 ![0, 2, 0] (uT m c) slices_S8x4098x1024_S8x4096x1024_0_2_0)))

theorem zg_eq : res_main_v90 m c = pad S32768x128 ![0, 0] ![0, 80] ![0, 0] ((concatenate S32768x48 1 [⟨S32768x16, ((extractStridedSlice S32768x16 ![0, 2048] (zT m c) slices_S32768x8208_S32768x16_0_2048) : (⟨S32768x16, .f32⟩ : BufTy).Contents (Elt Ideal))⟩, ⟨S32768x16, ((extractStridedSlice S32768x16 ![0, 2048] (zT m c) slices_S32768x8208_S32768x16_0_2048) : (⟨S32768x16, .f32⟩ : BufTy).Contents (Elt Ideal))⟩, ⟨S32768x16, ((extractStridedSlice S32768x16 ![0, 2048] (zT m c) slices_S32768x8208_S32768x16_0_2048) : (⟨S32768x16, .f32⟩ : BufTy).Contents (Elt Ideal))⟩] concatenates_S32768x16_S32768x16_S32768x16_S32768x48_d1 : (⟨S32768x48, .f32⟩ : BufTy).Contents (Elt Ideal))) (sitofp (F := Ideal) .f32 (constantI S_ 32 0#32)) pads_S32768x48_S32768x128_000_0800 h_S_ := by
  unfold res_main_v90 zT hT xT wT yT
  rfl

theorem zb_eq : res_main_v92 m c = truncf .bf16 (concatenate S32768x3072 1 [⟨S32768x1024, (mulf (extractStridedSlice S32768x1024 ![0, 3088] (zT m c) slices_S32768x8208_S32768x1024_0_3088) (shapeCast _ (vT m c) shapeCasts_S8x4096x1024_S32768x1024))⟩, ⟨S32768x2048, (extractStridedSlice S32768x2048 ![0, 6160] (zT m c) slices_S32768x8208_S32768x2048_0_6160)⟩] concatenates_S32768x1024_S32768x2048_S32768x3072_d1) bitsLt_bf16_f32 := by
  unfold res_main_v92 vT uT zT hT xT wT yT
  rfl

/-- The second result. -/
def zaT : FVec Ideal S32768x3072 .bf16 := truncf .bf16 (concatenate S32768x3072 1 [⟨S32768x2048, (extractStridedSlice S32768x2048 ![0, 0] (zT m c) slices_S32768x8208_S32768x2048_0_0)⟩, ⟨S32768x1024, (extractStridedSlice S32768x1024 ![0, 2064] (zT m c) slices_S32768x8208_S32768x1024_0_2064)⟩] concatenates_S32768x2048_S32768x1024_S32768x3072_d1) bitsLt_bf16_f32

theorem za_eq : res_main_v91 m c = zaT m c := by
  unfold res_main_v91 zaT zT hT xT wT yT
  rfl

theorem zg_at (b : Fin 8) (s : Fin 4096) (R : Fin 32768) (hR : R.val = 4096 * b.val + s.val) (n : Fin 128) :
    res_main_v90 m c (ix2 R n) = ProjSpec.zg (FuseSpec.proj (args m c)) b s n := by
  rw [zg_eq]
  have e := zT_at m c b s R hR
  generalize zT m c = z at e ⊢
  pointwise
  simp only [e, ProjSpec.zg, ProjSpec.pad0]
  split_ifs <;> first | rfl | (congr 2; omega)

theorem za_at (b : Fin 8) (s : Fin 4096) (R : Fin 32768) (hR : R.val = 4096 * b.val + s.val) (n : Fin 3072) :
    zaT m c (ix2 R n) = ProjSpec.za (FuseSpec.proj (args m c)) b s n := by
  unfold zaT
  have e := zT_at m c b s R hR
  generalize zT m c = z at e ⊢
  pointwise
  simp only [e, ProjSpec.za]
  split_ifs <;> first | rfl | (congr 2; omega)

theorem uT_at (b : Fin 8) (s : Fin 4098) (j : Fin 1024) :
    uT m c (ix3 b s j) = if h : 2 ≤ s.val then ProjSpec.up (FuseSpec.proj (args m c)) b ⟨s.val - 2, by omega⟩ j else 0 := by
  unfold uT
  have e := zT_at m c b
  generalize zT m c = z at e ⊢
  pointwise
  rw [ProjSpec.pad0]
  by_cases h : 2 ≤ s.val
  · rw [dif_pos ⟨h, by omega⟩, dif_pos h, e ⟨s.val - 2, by omega⟩ _ (by show b.val * 4096 + (s.val - 2) = 4096 * b.val + (s.val - 2); omega),
      e ⟨s.val - 2, by omega⟩ _ (by show b.val * 4096 + (s.val - 2) = 4096 * b.val + (s.val - 2); omega)]
    rfl
  · rw [dif_neg (fun k => h k.1), dif_neg h]

theorem vT_at (b : Fin 8) (s : Fin 4096) (j : Fin 1024) : vT m c (ix3 b s j) = ProjSpec.conv (FuseSpec.proj (args m c)) b s j := by
  unfold vT
  have e := uT_at m c b
  generalize uT m c = z at e ⊢
  pointwise
  simp only [e, ProjSpec.conv, ProjSpec.upB]
  refine congrArg₂ (· + ·) (congrArg₂ (· + ·) (congrArg₂ (· * ·) rfl ?_) (congrArg₂ (· * ·) rfl ?_)) (congrArg₂ (· * ·) rfl ?_)
  · split_ifs <;> rfl
  · split_ifs <;> first | (exfalso; omega) | rfl | (congr 2; omega)
  · rw [dif_pos (by omega)]
    congr 2
    omega

theorem zb_at (b : Fin 8) (s : Fin 4096) (R : Fin 32768) (hR : R.val = 4096 * b.val + s.val) (n : Fin 3072) :
    res_main_v92 m c (ix2 R n) = ProjSpec.zb (FuseSpec.proj (args m c)) b s n := by
  rw [zb_eq]
  have e := zT_at m c b s R hR
  have e2 : ∀ j, shapeCast S32768x1024 (vT m c) shapeCasts_S8x4096x1024_S32768x1024 (ix2 R j) = ProjSpec.conv (FuseSpec.proj (args m c)) b s j := by
    intro j
    refine (shapeCast_apply _ _ _ (ix3 b s j) ?_).trans (vT_at m c b s j)
    rw [Shape.rowMajor_val_two, Shape.rowMajor_val_three]
    simp only [ix2, ix3, Matrix.cons_val]
    omega
  generalize zT m c = z at e ⊢
  generalize shapeCast S32768x1024 (vT m c) shapeCasts_S8x4096x1024_S32768x1024 = v at e2 ⊢
  pointwise
  simp only [e, e2, ProjSpec.zb]
  split_ifs <;> first | rfl | (congr 2; omega)

end Cert.Proof.FuseRef
end
-- ==== Proof.FuseMeet.lean ====
/-
  The second layer's input projection and its reference meet: each of the four results is the same array.
-/
module

public import proofs.«01_k».proof.Defs
public import proofs.«01_k».proof.Proof.Gen.Kernel4.Frame
public import proofs.«01_k».proof.Proof.FuseEq
public import proofs.«01_k».proof.Proof.FuseRef
public import Idealize.ShloMosaic.Lib.Quiescent

@[expose] public section

set_option maxRecDepth 16384

noncomputable section

namespace Cert.Proof.FuseMeet

open Idealize.ShloMosaic Idealize.ShloMosaic.TcCoe Idealize.SL.Sem

section results

variable (m : (ℓ : Loc Cert.Kernel4Ideal.nD Cert.Kernel4Ideal.τ Cert.Kernel4Ideal.sig) → Buf (Elt Ideal) ℓ) (c : Dev Cert.Kernel4Ideal.nD)
  (m' : (ℓ : Loc Cert.Reference4Ideal.nD Cert.Reference4Ideal.τ Cert.Reference4Ideal.sig) → Buf (Elt Ideal) ℓ) (c' : Dev Cert.Reference4Ideal.nD)
  (h : FuseRef.args m' c' = Fuse.args m c)

include h

theorem xo_meet : FuseRef.xoT m' c' = Cert.Kernel4Ideal.Value.G11 m c := by
  funext i
  obtain ⟨R, n, rfl⟩ : ∃ (R : Fin 32768) (n : Fin 1024), i = ix2 R n := ⟨_, _, eq_ix2 i⟩
  have hR : R.val = 4096 * (R.val / 4096) + R.val % 4096 := (Nat.div_add_mod _ _).symm
  exact (FuseRef.xo_at m' c' ⟨R.val / 4096, by omega⟩ ⟨R.val % 4096, by omega⟩ R hR n).trans
    ((congrArg (fun A => FuseSpec.sum A _ _ n) h).trans (Fuse.G11_at m c _ _ R hR n).symm)

theorem za_meet : FuseRef.zaT m' c' = Cert.Kernel4Ideal.Value.G12 m c := by
  funext i
  obtain ⟨R, n, rfl⟩ : ∃ (R : Fin 32768) (n : Fin 3072), i = ix2 R n := ⟨_, _, eq_ix2 i⟩
  have hR : R.val = 4096 * (R.val / 4096) + R.val % 4096 := (Nat.div_add_mod _ _).symm
  exact (FuseRef.za_at m' c' ⟨R.val / 4096, by omega⟩ ⟨R.val % 4096, by omega⟩ R hR n).trans
    ((congrArg (fun A => ProjSpec.za (FuseSpec.proj A) _ _ n) h).trans (Fuse.G12_at m c _ _ R hR n).symm)

theorem zb_meet : Cert.Reference4Ideal.Value.res_main_v92 m' c' = Cert.Kernel4Ideal.Value.G13 m c := by
  funext i
  obtain ⟨R, n, rfl⟩ : ∃ (R : Fin 32768) (n : Fin 3072), i = ix2 R n := ⟨_, _, eq_ix2 i⟩
  have hR : R.val = 4096 * (R.val / 4096) + R.val % 4096 := (Nat.div_add_mod _ _).symm
  exact (FuseRef.zb_at m' c' ⟨R.val / 4096, by omega⟩ ⟨R.val % 4096, by omega⟩ R hR n).trans
    ((congrArg (fun A => ProjSpec.zb (FuseSpec.proj A) _ _ n) h).trans (Fuse.G13_at m c _ _ R hR n).symm)

theorem zg_meet : Cert.Reference4Ideal.Value.res_main_v90 m' c' = Cert.Kernel4Ideal.Value.G14 m c := by
  funext i
  obtain ⟨R, n, rfl⟩ : ∃ (R : Fin 32768) (n : Fin 128), i = ix2 R n := ⟨_, _, eq_ix2 i⟩
  have hR : R.val = 4096 * (R.val / 4096) + R.val % 4096 := (Nat.div_add_mod _ _).symm
  exact (FuseRef.zg_at m' c' ⟨R.val / 4096, by omega⟩ ⟨R.val % 4096, by omega⟩ R hR n).trans
    ((congrArg (fun A => ProjSpec.zg (FuseSpec.proj A) _ _ n) h).trans (Fuse.G14_at m c _ _ R hR n).symm)

end results

theorem frame_p : Cert.quiescent_Kernel4 := fun m g _ => Cert.Kernel4.Gen.frame (F := Bits) m g

theorem frame_pi : Cert.quiescent_Kernel4Ideal := fun m g _ => Cert.Kernel4Ideal.Gen.frame (F := Ideal) m g

theorem frame_ri : Cert.quiescent_Reference4Ideal := fun m g _ =>
  (Cert.Reference4Ideal.Value.run (F := Ideal) m g).mono fun _ h => ⟨fun c => (h c).2.2.2.2, sem_eq_zero_of_no_sems rfl _⟩

theorem algebraic : Cert.algebraic_Kernel4Ideal_Reference4Ideal := fun m g m' g' _ hagree =>
  have ha := fun c => (show FuseRef.args m' c = Fuse.args m c by
    obtain ⟨h0, h1, h2, h3, h4, h5, h6, h7⟩ := hagree c
    unfold FuseRef.args Fuse.args
    rw [h0, h1, h2, h3, h4, h5, h6, h7])
  ⟨Cert.Kernel4Ideal.Value.G11 m, Cert.Kernel4Ideal.Value.G12 m, Cert.Kernel4Ideal.Value.G13 m, Cert.Kernel4Ideal.Value.G14 m,
    Cert.Kernel4Ideal.Value.run (F := Ideal) m g,
    (Cert.Reference4Ideal.Value.run (F := Ideal) m' g').mono fun _ h c =>
      ⟨(h c).1.trans (xo_meet m c m' c (ha c)), (h c).2.1.trans ((FuseRef.za_eq m' c).trans (za_meet m c m' c (ha c))),
        (h c).2.2.1.trans (zb_meet m c m' c (ha c)), (h c).2.2.2.1.trans (zg_meet m c m' c (ha c)), (h c).2.2.2.2⟩⟩

end Cert.Proof.FuseMeet
end
-- ==== Proof.lean ====
/-
  The certificate: every conjunct of `Cert.Claim`. The gather out of the experts' table is read from the one run of the
  launch (Proof/Launch.lean), stated at any arithmetic, and its references' runs (Proof/Refs.lean); the input projection,
  the mixer's output and the second layer's input projection from their modules.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Reference
public import proofs.«01_k».proof.Proof.Gen.ReferenceIdeal
public import proofs.«01_k».proof.Proof.Gen.Pre_dest_in_rows
public import proofs.«01_k».proof.Proof.Refs
public import proofs.«01_k».proof.Proof.Gen.Kernel2
public import proofs.«01_k».proof.Proof.Gen.Kernel2Ideal
public import proofs.«01_k».proof.Proof.Gen.Reference2Ideal
public import proofs.«01_k».proof.Proof.ProjMeet
public import proofs.«01_k».proof.Proof.MixMeet
public import proofs.«01_k».proof.Proof.FuseMeet
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Kernel3Ideal.Value
public import proofs.«01_k».proof.Proof.Gen.Reference3Ideal.Run
public import Idealize.ShloMosaic.Adequacy
public import Idealize.ShloMosaic.Init

@[expose] public section

noncomputable section

namespace Cert.Proof

open Idealize.ShloMosaic Idealize.ShloMosaic.ValueIdx Idealize.SL.Sem Cert.Proof.Rows

section Pre

open Cert.Pre_dest_in_rows

theorem both_true : ∀ p q : Bool, IntOp.andi (BitVec.ofBool p) (BitVec.ofBool q) = 1#1 → p = true ∧ q = true := by decide

theorem row_of_bit (v : BitVec 32) (e : IntOp.andi (IntOp.cmpi .sge v 0#32) (IntOp.cmpi .slt v 98304#32) = 1#1) : v.toNat < 98304 := by
  have e' := both_true ((0#32).sle v) (v.slt 98304#32) e
  simp only [BitVec.sle_eq_decide, BitVec.slt_eq_decide, decide_eq_true_eq, BitVec.toInt_eq_toNat_cond, BitVec.toNat_ofNat, Nat.reducePow, Nat.reduceMod] at e'
  omega

/-- The precondition says that every row number is a row of the table. -/
theorem rows_of_pre {F : FTy → Type} [FloatOps F] (x : S2x98304x256.Idx → Elt F .i32) (y : S65536.Idx → Elt F .i32)
    (h : Cert.Pre_dest_in_rows.fn (F := F) x y = fun _ => 1#1) (j : S65536.Idx) : (y j : BitVec 32).toNat < 98304 := by
  have e := congrFun h j
  simp only [Cert.Pre_dest_in_rows.fn, andi, cmpi, broadcastInDim, constantI] at e
  exact row_of_bit _ e

end Pre

section Run

open Cert.KernelIdeal

variable {F : FTy → Type} [FloatOps F] [∀ e, Nonempty (Elt F e)]

/-- The launch's run, its result in the rows that `dest` names. -/
theorem run (m : (ℓ : Loc nD τ sig) → Buf (Elt F) ℓ) (ρ : Dev nD → PrngReg) (hy : ∀ (d : Dev nD) (j : S65536.Idx), (m (bLoc d) j : BitVec 32).toNat < 98304) :
    θ_run (Cert.KernelIdeal.defs (F := F)) (Cert.KernelIdeal.threads (F := F)) ⟨m, fun _ => 0, ρ⟩ fun r =>
      (∀ d : Dev nD, r.2.mem (aLoc d) = m (aLoc d) ∧ r.2.mem (bLoc d) = m (bLoc d) ∧ r.2.mem (zLoc d) = rowsAt (m (aLoc d)) (m (bLoc d)) (hy d))
      ∧ r.2.sem = fun _ => 0 :=
  (run_main m ρ fun d => nums_lt _ (hy d)).mono fun _ h =>
    ⟨fun d => ⟨(h.1 d).1, (h.1 d).2.1, (h.1 d).2.2.trans (outp_rows _ _ (hy d) _)⟩, h.2⟩

end Run

theorem frame_p : Cert.quiescent_Kernel := fun m g hpre =>
  (run (F := Bits) m g fun d => rows_of_pre _ _ (hpre d)).mono fun _ h => ⟨fun c => ⟨(h.1 c).1, (h.1 c).2.1⟩, h.2⟩

theorem frame_pi : Cert.quiescent_KernelIdeal := fun m g hpre =>
  (run (F := Ideal) m g fun d => rows_of_pre _ _ (hpre d)).mono fun _ h => ⟨fun c => ⟨(h.1 c).1, (h.1 c).2.1⟩, h.2⟩

theorem frame_r : Cert.quiescent_Reference := fun m g _ =>
  (plain_run m g).mono fun _ h => ⟨fun c => ⟨(h.1 c).1, (h.1 c).2.1⟩, h.2⟩

theorem frame_ri : Cert.quiescent_ReferenceIdeal := fun m g _ =>
  (ideal_run m g).mono fun _ h => ⟨fun c => ⟨(h.1 c).1, (h.1 c).2.1⟩, h.2⟩

theorem frame_r_pre : Cert.quiescent_Reference_pre_dest_in_rows := fun m g _ =>
  (plain_run m g).mono fun _ h => ⟨fun c => ⟨(h.1 c).1, (h.1 c).2.1⟩, h.2⟩

theorem frame_ri_pre : Cert.quiescent_ReferenceIdeal_pre_dest_in_rows := fun m g _ =>
  (ideal_run m g).mono fun _ h => ⟨fun c => ⟨(h.1 c).1, (h.1 c).2.1⟩, h.2⟩

theorem rowsAt_congr {α : Type} {x x' : Cert.KernelIdeal.S2x98304x256.Idx → α} {y y' : Cert.KernelIdeal.S65536.Idx → BitVec 32} (hx : x' = x) (e : y' = y)
    (hy : ∀ j, (y j).toNat < 98304) (hy' : ∀ j, (y' j).toNat < 98304) : rowsAt x' y' hy' = rowsAt x y hy := by
  subst hx; subst e; rfl

theorem algebraic : Cert.algebraic_KernelIdeal_ReferenceIdeal := fun m g m' g' hpre hagree =>
  have hy := fun d => rows_of_pre _ _ (hpre d)
  ⟨fun c => rowsAt (m (aLoc c)) (m (bLoc c)) (hy c),
    (run (F := Ideal) m g hy).mono fun _ h c => ⟨(h.1 c).2.2, (h.1 c).1, (h.1 c).2.1⟩,
    (ideal_run m' g').mono fun _ h c =>
      have hy' : ∀ j, _ := fun j => (congrArg BitVec.toNat (congrFun (hagree c).2 j)).trans_lt (hy c j)
      ⟨((h.1 c).2.2 hy').trans (rowsAt_congr (hagree c).1 (hagree c).2 _ _), (h.1 c).1, (h.1 c).2.1⟩⟩

theorem bitexact : Cert.bitexact_Kernel_Reference := fun m g m' g' hpre hagree =>
  have hy := fun d => rows_of_pre _ _ (hpre d)
  ⟨fun c => rowsAt (m (aLoc c)) (m (bLoc c)) (hy c),
    (run (F := Bits) m g hy).mono fun _ h c => ⟨(h.1 c).2.2, (h.1 c).1, (h.1 c).2.1⟩,
    (plain_run m' g').mono fun _ h c =>
      have hy' : ∀ j, _ := fun j => (congrArg BitVec.toNat (congrFun (hagree c).2 j)).trans_lt (hy c j)
      ⟨((h.1 c).2.2 hy').trans (rowsAt_congr (hagree c).1 (hagree c).2 _ _), (h.1 c).1, (h.1 c).2.1⟩⟩

theorem claim : Cert.Claim :=
  ⟨Cert.Kernel.Gen.facts, Cert.KernelIdeal.Gen.facts, Cert.Reference.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_dest_in_rows.Gen.facts,
  frame_p, frame_pi, frame_r, frame_r_pre, frame_ri, frame_ri_pre, ProjMeet.frame_p, ProjMeet.frame_pi, ProjMeet.frame_ri,
  MixMeet.frame_p, MixMeet.frame_pi, MixMeet.frame_ri,
  FuseMeet.frame_p, FuseMeet.frame_pi, FuseMeet.frame_ri,
  trivial, algebraic, bitexact, trivial, ProjMeet.algebraic, MixMeet.preserves, MixMeet.algebraic, trivial, FuseMeet.algebraic⟩

end Cert.Proof

end
